-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v18)) (v7 : (c : Dev Cert.KernelIdeal.nD) → Buf (Elt Ideal) ((c.tc : Thread Cert.KernelIdeal.nD Cert.KernelIdeal.τ).loc Cert.KernelIdeal.main_v19)) (v8 : (c : Dev Cert.KernelIdeal.nD) → Buf (Elt Ideal) ((c.tc : Thread Cert.KernelIdeal.nD Cert.KernelIdeal.τ).loc Cert.KernelIdeal.main_v20)) (v9 : (c : Dev Cert.KernelIdeal.nD) → Buf (Elt Ideal) ((c.tc : Thread Cert.KernelIdeal.nD Cert.KernelIdeal.τ).loc Cert.KernelIdeal.main_v11_2)) (v10 : (c : Dev Cert.KernelIdeal.nD) → Buf (Elt Ideal) ((c.tc : Thread Cert.KernelIdeal.nD Cert.KernelIdeal.τ).loc Cert.KernelIdeal.main_v11_3)) (v11 : (c : Dev Cert.KernelIdeal.nD) → Buf (Elt Ideal) ((c.tc : Thread Cert.KernelIdeal.nD Cert.KernelIdeal.τ).loc Cert.KernelIdeal.main_v11_4)) (v12 : (c : Dev Cert.KernelIdeal.nD) → Buf (Elt Ideal) ((c.tc : Thread Cert.KernelIdeal.nD Cert.KernelIdeal.τ).loc Cert.KernelIdeal.main_v11_5)) (v13 : (c : Dev Cert.KernelIdeal.nD) → Buf (Elt Ideal) ((c.tc : Thread Cert.KernelIdeal.nD Cert.KernelIdeal.τ).loc Cert.KernelIdeal.main_v11_6)) (v14 : (c : Dev Cert.KernelIdeal.nD) → Buf (Elt Ideal) ((c.tc : Thread Cert.KernelIdeal.nD Cert.KernelIdeal.τ).loc Cert.KernelIdeal.main_v11_7)) (v15 : (c : Dev Cert.KernelIdeal.nD) → Buf (Elt Ideal) ((c.tc : Thread Cert.KernelIdeal.nD Cert.KernelIdeal.τ).loc Cert.KernelIdeal.main_v11_8)) (v16 : (c : Dev Cert.KernelIdeal.nD) → Buf (Elt Ideal) ((c.tc : Thread Cert.KernelIdeal.nD Cert.KernelIdeal.τ).loc Cert.KernelIdeal.main_v11_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v18) = v6 c
          ∧ r.2.mem ((c.tc : Thread Cert.KernelIdeal.nD Cert.KernelIdeal.τ).loc Cert.KernelIdeal.main_v19) = v7 c
          ∧ r.2.mem ((c.tc : Thread Cert.KernelIdeal.nD Cert.KernelIdeal.τ).loc Cert.KernelIdeal.main_v20) = v8 c
          ∧ r.2.mem ((c.tc : Thread Cert.KernelIdeal.nD Cert.KernelIdeal.τ).loc Cert.KernelIdeal.main_v11_2) = v9 c
          ∧ r.2.mem ((c.tc : Thread Cert.KernelIdeal.nD Cert.KernelIdeal.τ).loc Cert.KernelIdeal.main_v11_3) = v10 c
          ∧ r.2.mem ((c.tc : Thread Cert.KernelIdeal.nD Cert.KernelIdeal.τ).loc Cert.KernelIdeal.main_v11_4) = v11 c
          ∧ r.2.mem ((c.tc : Thread Cert.KernelIdeal.nD Cert.KernelIdeal.τ).loc Cert.KernelIdeal.main_v11_5) = v12 c
          ∧ r.2.mem ((c.tc : Thread Cert.KernelIdeal.nD Cert.KernelIdeal.τ).loc Cert.KernelIdeal.main_v11_6) = v13 c
          ∧ r.2.mem ((c.tc : Thread Cert.KernelIdeal.nD Cert.KernelIdeal.τ).loc Cert.KernelIdeal.main_v11_7) = v14 c
          ∧ r.2.mem ((c.tc : Thread Cert.KernelIdeal.nD Cert.KernelIdeal.τ).loc Cert.KernelIdeal.main_v11_8) = v15 c
          ∧ r.2.mem ((c.tc : Thread Cert.KernelIdeal.nD Cert.KernelIdeal.τ).loc Cert.KernelIdeal.main_v11_9) = v16 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_v8) = v5 c
          ∧ r.2.mem ((c.tc : Thread Cert.ReferenceIdeal.nD Cert.ReferenceIdeal.τ).loc Cert.ReferenceIdeal.main_v9) = v6 c
          ∧ r.2.mem ((c.tc : Thread Cert.ReferenceIdeal.nD Cert.ReferenceIdeal.τ).loc Cert.ReferenceIdeal.main_v10) = v7 c
          ∧ r.2.mem ((c.tc : Thread Cert.ReferenceIdeal.nD Cert.ReferenceIdeal.τ).loc Cert.ReferenceIdeal.main_v11) = v8 c
          ∧ r.2.mem ((c.tc : Thread Cert.ReferenceIdeal.nD Cert.ReferenceIdeal.τ).loc Cert.ReferenceIdeal.main_v20) = v9 c
          ∧ r.2.mem ((c.tc : Thread Cert.ReferenceIdeal.nD Cert.ReferenceIdeal.τ).loc Cert.ReferenceIdeal.main_v21) = v10 c
          ∧ r.2.mem ((c.tc : Thread Cert.ReferenceIdeal.nD Cert.ReferenceIdeal.τ).loc Cert.ReferenceIdeal.main_v22) = v11 c
          ∧ r.2.mem ((c.tc : Thread Cert.ReferenceIdeal.nD Cert.ReferenceIdeal.τ).loc Cert.ReferenceIdeal.main_v23) = v12 c
          ∧ r.2.mem ((c.tc : Thread Cert.ReferenceIdeal.nD Cert.ReferenceIdeal.τ).loc Cert.ReferenceIdeal.main_v24) = v13 c
          ∧ r.2.mem ((c.tc : Thread Cert.ReferenceIdeal.nD Cert.ReferenceIdeal.τ).loc Cert.ReferenceIdeal.main_v25) = v14 c
          ∧ r.2.mem ((c.tc : Thread Cert.ReferenceIdeal.nD Cert.ReferenceIdeal.τ).loc Cert.ReferenceIdeal.main_v26) = v15 c
          ∧ r.2.mem ((c.tc : Thread Cert.ReferenceIdeal.nD Cert.ReferenceIdeal.τ).loc Cert.ReferenceIdeal.main_v27) = v16 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x4096 : Shape := ⟨2, ![16384, 4096]⟩
abbrev S1x4096x15968 : Shape := ⟨3, ![1, 4096, 15968]⟩
abbrev S1x2048x4096 : Shape := ⟨3, ![1, 2048, 4096]⟩
abbrev S1x4096x4096 : Shape := ⟨3, ![1, 4096, 4096]⟩
abbrev S1x4096x8192 : Shape := ⟨3, ![1, 4096, 8192]⟩
abbrev S1x4096x16384 : Shape := ⟨3, ![1, 4096, 16384]⟩
abbrev S1x16384x4096 : Shape := ⟨3, ![1, 16384, 4096]⟩
abbrev S4096x15968 : Shape := ⟨2, ![4096, 15968]⟩
abbrev S15968x4096 : Shape := ⟨2, ![15968, 4096]⟩
abbrev S2048x4096 : Shape := ⟨2, ![2048, 4096]⟩
abbrev S4096x4096 : Shape := ⟨2, ![4096, 4096]⟩
abbrev S4096x8192 : Shape := ⟨2, ![4096, 8192]⟩
abbrev S4096x16384 : Shape := ⟨2, ![4096, 16384]⟩
abbrev S16384x16384 : Shape := ⟨2, ![16384, 16384]⟩
abbrev S16384x128 : Shape := ⟨2, ![16384, 128]⟩
abbrev S1024x4096 : Shape := ⟨2, ![1024, 4096]⟩
abbrev S128x4096 : Shape := ⟨2, ![128, 4096]⟩
abbrev S16x4096 : Shape := ⟨2, ![16, 4096]⟩
abbrev S16x8192 : Shape := ⟨2, ![16, 8192]⟩
abbrev S16x16384 : Shape := ⟨2, ![16, 16384]⟩
abbrev S64x4096 : Shape := ⟨2, ![64, 4096]⟩
abbrev S1024x1024 : Shape := ⟨2, ![1024, 1024]⟩
abbrev S1024x128 : Shape := ⟨2, ![1024, 128]⟩
abbrev S16384x1024 : Shape := ⟨2, ![16384, 1024]⟩
abbrev S16384x512 : Shape := ⟨2, ![16384, 512]⟩
abbrev S16384x64 : Shape := ⟨2, ![16384, 64]⟩
abbrev S16384x2048 : Shape := ⟨2, ![16384, 2048]⟩
abbrev S16384x32 : Shape := ⟨2, ![16384, 32]⟩
abbrev S16384x8192 : Shape := ⟨2, ![16384, 8192]⟩

abbrev nBuf : Space → Nat
  | .hbm => 40
  | .vmem => 41
  | .smem => 0
  | _ => 0

abbrev bufTy : (tb : Table) → Fin (tcTables nBuf tb) → BufTy
  | .hbm, ⟨0, _⟩ => ⟨S16384x4096, .bf16⟩
  | .hbm, ⟨1, _⟩ => ⟨S1x4096x15968, .f32⟩
  | .hbm, ⟨2, _⟩ => ⟨S1x2048x4096, .f32⟩
  | .hbm, ⟨3, _⟩ => ⟨S1x2048x4096, .f32⟩
  | .hbm, ⟨4, _⟩ => ⟨S1x4096x4096, .f32⟩
  | .hbm, ⟨5, _⟩ => ⟨S1x4096x4096, .f32⟩
  | .hbm, ⟨6, _⟩ => ⟨S1x4096x8192, .f32⟩
  | .hbm, ⟨7, _⟩ => ⟨S1x4096x4096, .f32⟩
  | .hbm, ⟨8, _⟩ => ⟨S1x4096x16384, .f32⟩
  | .hbm, ⟨9, _⟩ => ⟨S1x16384x4096, .f32⟩
  | .hbm, ⟨10, _⟩ => ⟨S4096x15968, .f32⟩
  | .hbm, ⟨11, _⟩ => ⟨S15968x4096, .f32⟩
  | .hbm, ⟨12, _⟩ => ⟨S15968x4096, .bf16⟩
  | .hbm, ⟨13, _⟩ => ⟨S2048x4096, .f32⟩
  | .hbm, ⟨14, _⟩ => ⟨S2048x4096, .f32⟩
  | .hbm, ⟨15, _⟩ => ⟨S4096x4096, .f32⟩
  | .hbm, ⟨16, _⟩ => ⟨S4096x4096, .f32⟩
  | .hbm, ⟨17, _⟩ => ⟨S4096x8192, .f32⟩
  | .hbm, ⟨18, _⟩ => ⟨S4096x4096, .f32⟩
  | .hbm, ⟨19, _⟩ => ⟨S4096x16384, .f32⟩
  | .hbm, ⟨20, _⟩ => ⟨S16384x4096, .f32⟩
  | .hbm, ⟨21, _⟩ => ⟨S16384x16384, .f32⟩
  | .hbm, ⟨22, _⟩ => ⟨S16384x128, .f32⟩
  | .hbm, ⟨23, _⟩ => ⟨S2048x4096, .bf16⟩
  | .hbm, ⟨24, _⟩ => ⟨S2048x4096, .bf16⟩
  | .hbm, ⟨25, _⟩ => ⟨S4096x4096, .bf16⟩
  | .hbm, ⟨26, _⟩ => ⟨S4096x4096, .bf16⟩
  | .hbm, ⟨27, _⟩ => ⟨S4096x8192, .bf16⟩
  | .hbm, ⟨28, _⟩ => ⟨S4096x4096, .bf16⟩
  | .hbm, ⟨29, _⟩ => ⟨S4096x16384, .bf16⟩
  | .hbm, ⟨30, _⟩ => ⟨S16384x4096, .bf16⟩
  | .hbm, ⟨31, _⟩ => ⟨S16384x1024, .f32⟩
  | .hbm, ⟨32, _⟩ => ⟨S16384x512, .f32⟩
  | .hbm, ⟨33, _⟩ => ⟨S16384x64, .f32⟩
  | .hbm, ⟨34, _⟩ => ⟨S16384x1024, .f32⟩
  | .hbm, ⟨35, _⟩ => ⟨S16384x1024, .f32⟩
  | .hbm, ⟨36, _⟩ => ⟨S16384x2048, .f32⟩
  | .hbm, ⟨37, _⟩ => ⟨S16384x2048, .f32⟩
  | .hbm, ⟨38, _⟩ => ⟨S16384x32, .f32⟩
  | .hbm, ⟨39, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S128x4096, .bf16⟩
  | .local _ .vmem, ⟨5, _⟩ => ⟨S16x4096, .f32⟩
  | .local _ .vmem, ⟨6, _⟩ => ⟨S16x4096, .f32⟩
  | .local _ .vmem, ⟨7, _⟩ => ⟨S16x4096, .f32⟩
  | .local _ .vmem, ⟨8, _⟩ => ⟨S16x4096, .f32⟩
  | .local _ .vmem, ⟨9, _⟩ => ⟨S16x4096, .f32⟩
  | .local _ .vmem, ⟨10, _⟩ => ⟨S16x4096, .f32⟩
  | .local _ .vmem, ⟨11, _⟩ => ⟨S16x4096, .f32⟩
  | .local _ .vmem, ⟨12, _⟩ => ⟨S16x4096, .f32⟩
  | .local _ .vmem, ⟨13, _⟩ => ⟨S16x8192, .f32⟩
  | .local _ .vmem, ⟨14, _⟩ => ⟨S16x8192, .f32⟩
  | .local _ .vmem, ⟨15, _⟩ => ⟨S16x4096, .f32⟩
  | .local _ .vmem, ⟨16, _⟩ => ⟨S16x4096, .f32⟩
  | .local _ .vmem, ⟨17, _⟩ => ⟨S16x16384, .f32⟩
  | .local _ .vmem, ⟨18, _⟩ => ⟨S16x16384, .f32⟩
  | .local _ .vmem, ⟨19, _⟩ => ⟨S64x4096, .f32⟩
  | .local _ .vmem, ⟨20, _⟩ => ⟨S64x4096, .f32⟩
  | .local _ .vmem, ⟨21, _⟩ => ⟨S1024x1024, .f32⟩
  | .local _ .vmem, ⟨22, _⟩ => ⟨S1024x1024, .f32⟩
  | .local _ .vmem, ⟨23, _⟩ => ⟨S1024x128, .f32⟩
  | .local _ .vmem, ⟨24, _⟩ => ⟨S1024x128, .f32⟩
  | .local _ .vmem, ⟨25, _⟩ => ⟨S16x4096, .bf16⟩
  | .local _ .vmem, ⟨26, _⟩ => ⟨S16x4096, .bf16⟩
  | .local _ .vmem, ⟨27, _⟩ => ⟨S16x4096, .bf16⟩
  | .local _ .vmem, ⟨28, _⟩ => ⟨S16x4096, .bf16⟩
  | .local _ .vmem, ⟨29, _⟩ => ⟨S16x4096, .bf16⟩
  | .local _ .vmem, ⟨30, _⟩ => ⟨S16x4096, .bf16⟩
  | .local _ .vmem, ⟨31, _⟩ => ⟨S16x4096, .bf16⟩
  | .local _ .vmem, ⟨32, _⟩ => ⟨S16x4096, .bf16⟩
  | .local _ .vmem, ⟨33, _⟩ => ⟨S16x8192, .bf16⟩
  | .local _ .vmem, ⟨34, _⟩ => ⟨S16x8192, .bf16⟩
  | .local _ .vmem, ⟨35, _⟩ => ⟨S16x4096, .bf16⟩
  | .local _ .vmem, ⟨36, _⟩ => ⟨S16x4096, .bf16⟩
  | .local _ .vmem, ⟨37, _⟩ => ⟨S16x16384, .bf16⟩
  | .local _ .vmem, ⟨38, _⟩ => ⟨S16x16384, .bf16⟩
  | .local _ .vmem, ⟨39, _⟩ => ⟨S64x4096, .bf16⟩
  | .local _ .vmem, ⟨40, _⟩ => ⟨S64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_v11_8 : Ref sig .tc := ⟨.hbm, 29, rfl⟩
abbrev main_v11_9 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c0_i32 : BitVec 32 := 0#32
  let v28 : BitVec 1 := Scalar.cmpi .eq arg1 c0_i32
  let c0_i32_0 : BitVec 32 := 0#32
  let c1_i32 : BitVec 32 := 1#32
  let v26 : BitVec 1 := Scalar.cmpi .eq arg1 c1_i32
  let c64_i32 : BitVec 32 := 64#32
  let c2_i32 : BitVec 32 := 2#32
  let v24 : BitVec 1 := Scalar.cmpi .eq arg1 c2_i32
  let c100_i32 : BitVec 32 := 100#32
  let c3_i32 : BitVec 32 := 3#32
  let v22 : BitVec 1 := Scalar.cmpi .eq arg1 c3_i32
  let c164_i32 : BitVec 32 := 164#32
  let c4_i32 : BitVec 32 := 4#32
  let v20 : BitVec 1 := Scalar.cmpi .eq arg1 c4_i32
  let c228_i32 : BitVec 32 := 228#32
  let c5_i32 : BitVec 32 := 5#32
  let v18 : BitVec 1 := Scalar.cmpi .eq arg1 c5_i32
  let c292_i32 : BitVec 32 := 292#32
  let c6_i32 : BitVec 32 := 6#32
  let v16 : BitVec 1 := Scalar.cmpi .eq arg1 c6_i32
  let c356_i32 : BitVec 32 := 356#32
  let c7_i32 : BitVec 32 := 7#32
  let v14 : BitVec 1 := Scalar.cmpi .eq arg1 c7_i32
  let c420_i32 : BitVec 32 := 420#32
  let c8_i32 : BitVec 32 := 8#32
  let v12 : BitVec 1 := Scalar.cmpi .eq arg1 c8_i32
  let c486_i32 : BitVec 32 := 486#32
  let c9_i32 : BitVec 32 := 9#32
  let v10 : BitVec 1 := Scalar.cmpi .eq arg1 c9_i32
  let c550_i32 : BitVec 32 := 550#32
  let c10_i32 : BitVec 32 := 10#32
  let v8 : BitVec 1 := Scalar.cmpi .eq arg1 c10_i32
  let c614_i32 : BitVec 32 := 614#32
  let c11_i32 : BitVec 32 := 11#32
  let v6 : BitVec 1 := Scalar.cmpi .eq arg1 c11_i32
  let c678_i32 : BitVec 32 := 678#32
  let c12_i32 : BitVec 32 := 12#32
  let v4 : BitVec 1 := Scalar.cmpi .eq arg1 c12_i32
  let c742_i32 : BitVec 32 := 742#32
  let c13_i32 : BitVec 32 := 13#32
  let v2 : BitVec 1 := Scalar.cmpi .eq arg1 c13_i32
  let c806_i32 : BitVec 32 := 806#32
  let c14_i32 : BitVec 32 := 14#32
  let v0 : BitVec 1 := Scalar.cmpi .eq arg1 c14_i32
  let c870_i32 : BitVec 32 := 870#32
  let c934_i32 : BitVec 32 := 934#32
  let v1 : BitVec 32 := Scalar.select v0 c870_i32 c934_i32
  let v3 : BitVec 32 := Scalar.select v2 c806_i32 v1
  let v5 : BitVec 32 := Scalar.select v4 c742_i32 v3
  let v7 : BitVec 32 := Scalar.select v6 c678_i32 v5
  let v9 : BitVec 32 := Scalar.select v8 c614_i32 v7
  let v11 : BitVec 32 := Scalar.select v10 c550_i32 v9
  let v13 : BitVec 32 := Scalar.select v12 c486_i32 v11
  let v15 : BitVec 32 := Scalar.select v14 c420_i32 v13
  let v17 : BitVec 32 := Scalar.select v16 c356_i32 v15
  let v19 : BitVec 32 := Scalar.select v18 c292_i32 v17
  let v21 : BitVec 32 := Scalar.select v20 c228_i32 v19
  let v23 : BitVec 32 := Scalar.select v22 c164_i32 v21
  let v25 : BitVec 32 := Scalar.select v24 c100_i32 v23
  let v27 : BitVec 32 := Scalar.select v26 c64_i32 v25
  let v29 : BitVec 32 := Scalar.select v28 c0_i32_0 v27
  let c16_i32 : BitVec 32 := 16#32
  let v30 : BitVec 32 := Scalar.muli v29 c16_i32
  v30
def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg0 : BitVec 32 := BitVec.ofNat 32 (i 0).val
  let c16_i32 : BitVec 32 := 16#32
  let v8 : BitVec 32 := Scalar.muli arg0 c16_i32
  let arg1 : BitVec 32 := BitVec.ofNat 32 (i 1).val
  let v9 : BitVec 32 := Scalar.addi v8 arg1
  let c128_i32 : BitVec 32 := 128#32
  let v10 : BitVec 1 := Scalar.cmpi .slt v9 c128_i32
  let v11 : BitVec 32 := Scalar.extui v10
  let c0_i32_6 : BitVec 32 := 0#32
  let v12 : BitVec 1 := Scalar.cmpi .ne v11 c0_i32_6
  v12

def k0_cond3 (i : grid0.Coords) : BitVec 1 :=
  let arg0 : BitVec 32 := BitVec.ofNat 32 (i 0).val
  let c16_i32 : BitVec 32 := 16#32
  let v8 : BitVec 32 := Scalar.muli arg0 c16_i32
  let arg1 : BitVec 32 := BitVec.ofNat 32 (i 1).val
  let v9 : BitVec 32 := Scalar.addi v8 arg1
  let c128_i32_7 : BitVec 32 := 128#32
  let v13 : BitVec 1 := Scalar.cmpi .slt v9 c128_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg0 : BitVec 32 := BitVec.ofNat 32 (i 0).val
  let c16_i32 : BitVec 32 := 16#32
  let v8 : BitVec 32 := Scalar.muli arg0 c16_i32
  let arg1 : BitVec 32 := BitVec.ofNat 32 (i 1).val
  let v9 : BitVec 32 := Scalar.addi v8 arg1
  let c256_i32 : BitVec 32 := 256#32
  let v16 : BitVec 1 := Scalar.cmpi .slt v9 c256_i32
  let v17 : BitVec 32 := Scalar.extui v16
  let c0_i32_9 : BitVec 32 := 0#32
  let v18 : BitVec 1 := Scalar.cmpi .ne v17 c0_i32_9
  v18

def k0_cond5 (i : grid0.Coords) : BitVec 1 :=
  let arg0 : BitVec 32 := BitVec.ofNat 32 (i 0).val
  let c16_i32 : BitVec 32 := 16#32
  let v8 : BitVec 32 := Scalar.muli arg0 c16_i32
  let arg1 : BitVec 32 := BitVec.ofNat 32 (i 1).val
  let v9 : BitVec 32 := Scalar.addi v8 arg1
  let c256_i32_10 : BitVec 32 := 256#32
  let v19 : BitVec 1 := Scalar.cmpi .slt v9 c256_i32_10
  let v20 : BitVec 32 := Scalar.extui v19
  let c0_i32_11 : BitVec 32 := 0#32
  let v21 : BitVec 1 := Scalar.cmpi .ne v20 c0_i32_11
  v21

def k0_cond6 (i : grid0.Coords) : BitVec 1 :=
  let arg0 : BitVec 32 := BitVec.ofNat 32 (i 0).val
  let c16_i32 : BitVec 32 := 16#32
  let v8 : BitVec 32 := Scalar.muli arg0 c16_i32
  let arg1 : BitVec 32 := BitVec.ofNat 32 (i 1).val
  let v9 : BitVec 32 := Scalar.addi v8 arg1
  let c256_i32_12 : BitVec 32 := 256#32
  let v22 : BitVec 1 := Scalar.cmpi .slt v9 c256_i32_12
  let v23 : BitVec 32 := Scalar.extui v22
  let c0_i32_13 : BitVec 32 := 0#32
  let v24 : BitVec 1 := Scalar.cmpi .ne v23 c0_i32_13
  v24

def k0_cond7 (i : grid0.Coords) : BitVec 1 :=
  let arg0 : BitVec 32 := BitVec.ofNat 32 (i 0).val
  let c16_i32 : BitVec 32 := 16#32
  let v8 : BitVec 32 := Scalar.muli arg0 c16_i32
  let arg1 : BitVec 32 := BitVec.ofNat 32 (i 1).val
  let v9 : BitVec 32 := Scalar.addi v8 arg1
  let c256_i32_14 : BitVec 32 := 256#32
  let v25 : BitVec 1 := Scalar.cmpi .slt v9 c256_i32_14
  let v26 : BitVec 32 := Scalar.extui v25
  let c0_i32_15 : BitVec 32 := 0#32
  let v27 : BitVec 1 := Scalar.cmpi .ne v26 c0_i32_15
  v27

def k0_cond8 (i : grid0.Coords) : BitVec 1 :=
  let arg0 : BitVec 32 := BitVec.ofNat 32 (i 0).val
  let c16_i32 : BitVec 32 := 16#32
  let v8 : BitVec 32 := Scalar.muli arg0 c16_i32
  let arg1 : BitVec 32 := BitVec.ofNat 32 (i 1).val
  let v9 : BitVec 32 := Scalar.addi v8 arg1
  let c256_i32_16 : BitVec 32 := 256#32
  let v28 : BitVec 1 := Scalar.cmpi .slt v9 c256_i32_16
  let v29 : BitVec 32 := Scalar.extui v28
  let c0_i32_17 : BitVec 32 := 0#32
  let v30 : BitVec 1 := Scalar.cmpi .ne v29 c0_i32_17
  v30

def k0_cond9 (i : grid0.Coords) : BitVec 1 :=
  let arg0 : BitVec 32 := BitVec.ofNat 32 (i 0).val
  let c16_i32 : BitVec 32 := 16#32
  let v8 : BitVec 32 := Scalar.muli arg0 c16_i32
  let arg1 : BitVec 32 := BitVec.ofNat 32 (i 1).val
  let v9 : BitVec 32 := Scalar.addi v8 arg1
  let c256_i32_18 : BitVec 32 := 256#32
  let v31 : BitVec 1 := Scalar.cmpi .slt v9 c256_i32_18
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 1 := Scalar.cmpi .eq arg1 c14_i32
  let c870_i32 : BitVec 32 := 870#32
  let c934_i32 : BitVec 32 := 934#32
  let v1 : BitVec 32 := Scalar.select v0 c870_i32 c934_i32
  let c13_i32 : BitVec 32 := 13#32
  let v2 : BitVec 1 := Scalar.cmpi .eq arg1 c13_i32
  let c806_i32 : BitVec 32 := 806#32
  let v3 : BitVec 32 := Scalar.select v2 c806_i32 v1
  let c12_i32 : BitVec 32 := 12#32
  let v4 : BitVec 1 := Scalar.cmpi .eq arg1 c12_i32
  let c742_i32 : BitVec 32 := 742#32
  let v5 : BitVec 32 := Scalar.select v4 c742_i32 v3
  let c11_i32 : BitVec 32 := 11#32
  let v6 : BitVec 1 := Scalar.cmpi .eq arg1 c11_i32
  let c678_i32 : BitVec 32 := 678#32
  let v7 : BitVec 32 := Scalar.select v6 c678_i32 v5
  let c10_i32 : BitVec 32 := 10#32
  let v8 : BitVec 1 := Scalar.cmpi .eq arg1 c10_i32
  let c614_i32 : BitVec 32 := 614#32
  let v9 : BitVec 32 := Scalar.select v8 c614_i32 v7
  let c9_i32 : BitVec 32 := 9#32
  let v10 : BitVec 1 := Scalar.cmpi .eq arg1 c9_i32
  let c550_i32 : BitVec 32 := 550#32
  let v11 : BitVec 32 := Scalar.select v10 c550_i32 v9
  let c8_i32 : BitVec 32 := 8#32
  let v12 : BitVec 1 := Scalar.cmpi .eq arg1 c8_i32
  let c486_i32 : BitVec 32 := 486#32
  let v13 : BitVec 32 := Scalar.select v12 c486_i32 v11
  let c7_i32 : BitVec 32 := 7#32
  let v14 : BitVec 1 := Scalar.cmpi .eq arg1 c7_i32
  let c420_i32 : BitVec 32 := 420#32
  let v15 : BitVec 32 := Scalar.select v14 c420_i32 v13
  let c6_i32 : BitVec 32 := 6#32
  let v16 : BitVec 1 := Scalar.cmpi .eq arg1 c6_i32
  let c356_i32 : BitVec 32 := 356#32
  let v17 : BitVec 32 := Scalar.select v16 c356_i32 v15
  let c5_i32 : BitVec 32 := 5#32
  let v18 : BitVec 1 := Scalar.cmpi .eq arg1 c5_i32
  let c292_i32 : BitVec 32 := 292#32
  let v19 : BitVec 32 := Scalar.select v18 c292_i32 v17
  let c4_i32 : BitVec 32 := 4#32
  let v20 : BitVec 1 := Scalar.cmpi .eq arg1 c4_i32
  let c228_i32 : BitVec 32 := 228#32
  let v21 : BitVec 32 := Scalar.select v20 c228_i32 v19
  let c3_i32 : BitVec 32 := 3#32
  let v22 : BitVec 1 := Scalar.cmpi .eq arg1 c3_i32
  let c164_i32 : BitVec 32 := 164#32
  let v23 : BitVec 32 := Scalar.select v22 c164_i32 v21
  let c2_i32 : BitVec 32 := 2#32
  let v24 : BitVec 1 := Scalar.cmpi .eq arg1 c2_i32
  let c100_i32 : BitVec 32 := 100#32
  let v25 : BitVec 32 := Scalar.select v24 c100_i32 v23
  let c1_i32 : BitVec 32 := 1#32
  let v26 : BitVec 1 := Scalar.cmpi .eq arg1 c1_i32
  let c64_i32 : BitVec 32 := 64#32
  let v27 : BitVec 32 := Scalar.select v26 c64_i32 v25
  let c0_i32 : BitVec 32 := 0#32
  let v28 : BitVec 1 := Scalar.cmpi .eq arg1 c0_i32
  let c0_i32_0 : BitVec 32 := 0#32
  let v29 : BitVec 32 := Scalar.select v28 c0_i32_0 v27
  let c16_i32 : BitVec 32 := 16#32
  let v30 : BitVec 32 := Scalar.muli v29 c16_i32
  let v31 : BitVec 32 := v30
  let c0_i32_1 : BitVec 32 := 0#32
  let c0_i32_2 : BitVec 32 := 0#32
  ![v31.toNat, c0_i32_1.toNat]

def cc0_transform_2 (i : grid0.Coords) : Fin 2 → Nat :=
  let arg0 : BitVec 32 := BitVec.ofNat 32 (i 0).val
  let arg1 : BitVec 32 := BitVec.ofNat 32 (i 1).val
  let c7744_i32 : BitVec 32 := 7744#32
  let c0_i32 : BitVec 32 := 0#32
  let c0_i32_0 : BitVec 32 := 0#32
  ![c7744_i32.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x8192 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S16x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S16x16384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x4096 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceIdeal.lean ====
abbrev S16384x4096 : Shape := ⟨2, ![16384, 4096]⟩
abbrev S1x4096x15968 : Shape := ⟨3, ![1, 4096, 15968]⟩
abbrev S1x2048x4096 : Shape := ⟨3, ![1, 2048, 4096]⟩
abbrev S1x4096x4096 : Shape := ⟨3, ![1, 4096, 4096]⟩
abbrev S1x4096x8192 : Shape := ⟨3, ![1, 4096, 8192]⟩
abbrev S1x4096x16384 : Shape := ⟨3, ![1, 4096, 16384]⟩
abbrev S1x16384x4096 : Shape := ⟨3, ![1, 16384, 4096]⟩
abbrev S4096x15968 : Shape := ⟨2, ![4096, 15968]⟩
abbrev S16384x15968 : Shape := ⟨2, ![16384, 15968]⟩
abbrev S16384x1024 : Shape := ⟨2, ![16384, 1024]⟩
abbrev S16384x512 : Shape := ⟨2, ![16384, 512]⟩
abbrev S16384x64 : Shape := ⟨2, ![16384, 64]⟩
abbrev S16384x2048 : Shape := ⟨2, ![16384, 2048]⟩
abbrev S16384x32 : Shape := ⟨2, ![16384, 32]⟩
abbrev S16384x8192 : Shape := ⟨2, ![16384, 8192]⟩
abbrev S2048x4096 : Shape := ⟨2, ![2048, 4096]⟩
abbrev S4096x4096 : Shape := ⟨2, ![4096, 4096]⟩
abbrev S4096x8192 : Shape := ⟨2, ![4096, 8192]⟩
abbrev S4096x16384 : Shape := ⟨2, ![4096, 16384]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x15968, .f32⟩
  | .hbm, ⟨2, _⟩ => ⟨S1x2048x4096, .f32⟩
  | .hbm, ⟨3, _⟩ => ⟨S1x2048x4096, .f32⟩
  | .hbm, ⟨4, _⟩ => ⟨S1x4096x4096, .f32⟩
  | .hbm, ⟨5, _⟩ => ⟨S1x4096x4096, .f32⟩
  | .hbm, ⟨6, _⟩ => ⟨S1x4096x8192, .f32⟩
  | .hbm, ⟨7, _⟩ => ⟨S1x4096x4096, .f32⟩
  | .hbm, ⟨8, _⟩ => ⟨S1x4096x16384, .f32⟩
  | .hbm, ⟨9, _⟩ => ⟨S1x16384x4096, .f32⟩
  | .hbm, ⟨10, _⟩ => ⟨S16384x4096, .f32⟩
  | .hbm, ⟨11, _⟩ => ⟨S4096x15968, .f32⟩
  | .hbm, ⟨12, _⟩ => ⟨S16384x15968, .f32⟩
  | .hbm, ⟨13, _⟩ => ⟨S16384x1024, .f32⟩
  | .hbm, ⟨14, _⟩ => ⟨S16384x512, .f32⟩
  | .hbm, ⟨15, _⟩ => ⟨S16384x64, .f32⟩
  | .hbm, ⟨16, _⟩ => ⟨S16384x1024, .f32⟩
  | .hbm, ⟨17, _⟩ => ⟨S16384x1024, .f32⟩
  | .hbm, ⟨18, _⟩ => ⟨S16384x2048, .f32⟩
  | .hbm, ⟨19, _⟩ => ⟨S16384x2048, .f32⟩
  | .hbm, ⟨20, _⟩ => ⟨S16384x32, .f32⟩
  | .hbm, ⟨21, _⟩ => ⟨S16384x8192, .f32⟩
  | .hbm, ⟨22, _⟩ => ⟨S2048x4096, .f32⟩
  | .hbm, ⟨23, _⟩ => ⟨S2048x4096, .f32⟩
  | .hbm, ⟨24, _⟩ => ⟨S4096x4096, .f32⟩
  | .hbm, ⟨25, _⟩ => ⟨S4096x4096, .f32⟩
  | .hbm, ⟨26, _⟩ => ⟨S4096x8192, .f32⟩
  | .hbm, ⟨27, _⟩ => ⟨S4096x4096, .f32⟩
  | .hbm, ⟨28, _⟩ => ⟨S4096x16384, .f32⟩
  | .hbm, ⟨29, _⟩ => ⟨S16384x4096, .f32⟩
  | .hbm, ⟨30, _⟩ => ⟨S2048x4096, .bf16⟩
  | .hbm, ⟨31, _⟩ => ⟨S2048x4096, .bf16⟩
  | .hbm, ⟨32, _⟩ => ⟨S4096x4096, .bf16⟩
  | .hbm, ⟨33, _⟩ => ⟨S4096x4096, .bf16⟩
  | .hbm, ⟨34, _⟩ => ⟨S4096x8192, .bf16⟩
  | .hbm, ⟨35, _⟩ => ⟨S4096x4096, .bf16⟩
  | .hbm, ⟨36, _⟩ => ⟨S4096x16384, .bf16⟩
  | .hbm, ⟨37, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel2.lean ====
abbrev S16384x16384 : Shape := ⟨2, ![16384, 16384]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S16384x16384 : Shape := ⟨2, ![16384, 16384]⟩
abbrev S16384x4096 : Shape := ⟨2, ![16384, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x16384, .f32⟩
  | .hbm, ⟨7, _⟩ => ⟨S16384x4096, .f32⟩
  | .hbm, ⟨8, _⟩ => ⟨S16384x4096, .f32⟩
  | .hbm, ⟨9, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S16384x4096 : Shape := ⟨2, ![16384, 4096]⟩
abbrev S1x4096 : Shape := ⟨2, ![1, 4096]⟩
abbrev S4096 : Shape := ⟨1, ![4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S4x2048x4096 : Shape := ⟨3, ![4, 2048, 4096]⟩

abbrev nBuf : Space → Nat
  | .hbm => 9
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x4096 : Shape := ⟨2, ![16384, 4096]⟩
abbrev S1x4096 : Shape := ⟨2, ![1, 4096]⟩
abbrev S8192x4096 : Shape := ⟨2, ![8192, 4096]⟩
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S4x2048x4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S1x1x4096, .f32⟩
  | .hbm, ⟨34, _⟩ => ⟨S4x2048x4096, .f32⟩
  | .hbm, ⟨35, _⟩ => ⟨S4x2048x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S16384x4096 : Shape := ⟨2, ![16384, 4096]⟩
abbrev S1x4096 : Shape := ⟨2, ![1, 4096]⟩
abbrev S4096 : Shape := ⟨1, ![4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S2x4096x4096 : Shape := ⟨3, ![2, 4096, 4096]⟩

abbrev nBuf : Space → Nat
  | .hbm => 9
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S2x4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x4096 : Shape := ⟨2, ![16384, 4096]⟩
abbrev S1x4096 : Shape := ⟨2, ![1, 4096]⟩
abbrev S8192x4096 : Shape := ⟨2, ![8192, 4096]⟩
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096, .f32⟩
  | .hbm, ⟨3, _⟩ => ⟨S8192x4096, .f32⟩
  | .hbm, ⟨4, _⟩ => ⟨S2x4096x4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S2x4096x4096, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x4096, .f32⟩
  | .hbm, ⟨29, _⟩ => ⟨S2x4096x4096, .f32⟩
  | .hbm, ⟨30, _⟩ => ⟨S1x1x4096, .f32⟩
  | .hbm, ⟨31, _⟩ => ⟨S2x4096x4096, .f32⟩
  | .hbm, ⟨32, _⟩ => ⟨S2x4096x4096, .f32⟩
  | .hbm, ⟨33, _⟩ => ⟨S1x1x4096, .f32⟩
  | .hbm, ⟨34, _⟩ => ⟨S2x4096x4096, .f32⟩
  | .hbm, ⟨35, _⟩ => ⟨S2x4096x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel5.lean ====
abbrev S16384x4096 : Shape := ⟨2, ![16384, 4096]⟩
abbrev S4096x4096 : Shape := ⟨2, ![4096, 4096]⟩
abbrev S1x4096 : Shape := ⟨2, ![1, 4096]⟩
abbrev S4096 : Shape := ⟨1, ![4096]⟩
abbrev S256x4096 : Shape := ⟨2, ![256, 4096]⟩
abbrev S128x4096 : Shape := ⟨2, ![128, 4096]⟩
abbrev S128 : Shape := ⟨1, ![128]⟩
abbrev S128x1 : Shape := ⟨2, ![128, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S1x4096, .f32⟩
  | .hbm, ⟨4, _⟩ => ⟨S1x4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S16384x4096, .f32⟩
  | .hbm, ⟨10, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S4096x4096, .bf16⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x4096 : Shape := ⟨2, ![16384, 4096]⟩
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S16384 : Shape := ⟨1, ![16384]⟩
abbrev S16384x1 : Shape := ⟨2, ![16384, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S4096x4096, .f32⟩
  | .hbm, ⟨10, _⟩ => ⟨S16384x4096, .f32⟩
  | .hbm, ⟨11, _⟩ => ⟨S16384x4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x4096, .f32⟩
  | .hbm, ⟨36, _⟩ => ⟨S16384x4096, .f32⟩
  | .hbm, ⟨37, _⟩ => ⟨S1x4096, .f32⟩
  | .hbm, ⟨38, _⟩ => ⟨S16384x4096, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel6.lean ====
abbrev S16384x4096 : Shape := ⟨2, ![16384, 4096]⟩
abbrev S4096x16384 : Shape := ⟨2, ![4096, 16384]⟩
abbrev S16384x16384 : Shape := ⟨2, ![16384, 16384]⟩
abbrev S2x1024x4096 : Shape := ⟨3, ![2, 1024, 4096]⟩
abbrev S2 : Shape := ⟨1, ![2]⟩
abbrev S3x4096x1024 : Shape := ⟨3, ![3, 4096, 1024]⟩
abbrev S3 : Shape := ⟨1, ![3]⟩
abbrev S2x1024x1024 : Shape := ⟨3, ![2, 1024, 1024]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x16384, .bf16⟩
  | .local _ .vmem, ⟨0, _⟩ => ⟨S2x1024x4096, .bf16⟩
  | .local _ .vmem, ⟨1, _⟩ => ⟨S3x4096x1024, .bf16⟩
  | .local _ .vmem, ⟨2, _⟩ => ⟨S2x1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩

abbrev nD : Nat := 1
abbrev τ : Topo := Topo.v7x

variable {F : FTy → Type} [FloatOps F]

abbrev grid0 : Pipeline.Grid := .none

def k0_off1 : Fin 1 → Nat :=
  let c0_i32_36_r0 : BitVec 32 := 0#32
  let c2_i32_r0 : BitVec 32 := 2#32
  let v39_r0 : BitVec 32 := Scalar.remui c0_i32_36_r0 c2_i32_r0
  ![v39_r0.toNat]
def k0_off2 : Fin 3 → Nat :=
  let c0_i32_36_r0 : BitVec 32 := 0#32
  let c2_i32_r0 : BitVec 32 := 2#32
  let v39_r0 : BitVec 32 := Scalar.remui c0_i32_36_r0 c2_i32_r0
  let c0_i32_37_r0 : BitVec 32 := 0#32
  let c0_i32_38_r0 : BitVec 32 := 0#32
  ![v39_r0.toNat, 0, 0]
def k0_off3 : Fin 1 → Nat :=
  let c0_i32_43_r0 : BitVec 32 := 0#32
  let c3_i32_r0 : BitVec 32 := 3#32
  let v46_r0 : BitVec 32 := Scalar.remui c0_i32_43_r0 c3_i32_r0
  ![v46_r0.toNat]
def k0_off4 : Fin 3 → Nat :=
  let c0_i32_43_r0 : BitVec 32 := 0#32
  let c3_i32_r0 : BitVec 32 := 3#32
  let v46_r0 : BitVec 32 := Scalar.remui c0_i32_43_r0 c3_i32_r0
  let c0_i32_44_r0 : BitVec 32 := 0#32
  let c0_i32_45_r0 : BitVec 32 := 0#32
  ![v46_r0.toNat, 0, 0]
def k0_cond1 : BitVec 1 :=
  let true_51_r0 : BitVec 1 := 1#1
  let true_9_r0 : BitVec 1 := 1#1
  let c1_i32_r0 : BitVec 32 := 1#32
  let c0_i32_10_r0 : BitVec 32 := 0#32
  let v11_r0 : BitVec 32 := Scalar.select true_9_r0 c1_i32_r0 c0_i32_10_r0
  let c16_i32_r0 : BitVec 32 := 16#32
  let v12_r0 : BitVec 1 := Scalar.cmpi .eq v11_r0 c16_i32_r0
  let c0_i32_11_r0 : BitVec 32 := 0#32
  let v13_r0 : BitVec 32 := Scalar.select v12_r0 c0_i32_11_r0 v11_r0
  let c0_i32_17_r0 : BitVec 32 := 0#32
  let v18_r0 : BitVec 32 := Scalar.addi v13_r0 c0_i32_17_r0
  let c0_i32_50_r0 : BitVec 32 := 0#32
  let v53_r0 : BitVec 1 := Scalar.cmpi .ne v18_r0 c0_i32_50_r0
  let v54_r0 : BitVec 1 := Scalar.andi true_51_r0 v53_r0
  let true_52_r0 : BitVec 1 := 1#1
  let v55_r0 : BitVec 1 := Scalar.andi v54_r0 true_52_r0
  let v56_r0 : BitVec 32 := Scalar.extui v55_r0
  let c0_i32_53_r0 : BitVec 32 := 0#32
  let v57_r0 : BitVec 1 := Scalar.cmpi .ne v56_r0 c0_i32_53_r0
  v57_r0

def k0_off5 : Fin 1 → Nat :=
  let c0_i32_48_r0 : BitVec 32 := 0#32
  let c1_i32_49_r0 : BitVec 32 := 1#32
  let v52_r0 : BitVec 32 := Scalar.addi c0_i32_48_r0 c1_i32_49_r0
  let c3_i32_113_r0 : BitVec 32 := 3#32
  let v120_r0 : BitVec 32 := Scalar.remui v52_r0 c3_i32_113_r0
  ![v120_r0.toNat]
def k0_off6 : Fin 3 → Nat :=
  let c0_i32_48_r0 : BitVec 32 := 0#32
  let c1_i32_49_r0 : BitVec 32 := 1#32
  let v52_r0 : BitVec 32 := Scalar.addi c0_i32_48_r0 c1_i32_49_r0
  let c3_i32_113_r0 : BitVec 32 := 3#32
  let v120_r0 : BitVec 32 := Scalar.remui v52_r0 c3_i32_113_r0
  let c0_i32_115_r0 : BitVec 32 := 0#32
  let c0_i32_116_r0 : BitVec 32 := 0#32
  ![v120_r0.toNat, 0, 0]
def k0_off7 : Fin 2 → Nat :=
  let c0_i32_117_r0 : BitVec 32 := 0#32
  let c1024_i32_114_r0 : BitVec 32 := 1024#32
  let true_9_r0 : BitVec 1 := 1#1
  let c1_i32_r0 : BitVec 32 := 1#32
  let c0_i32_10_r0 : BitVec 32 := 0#32
  let v11_r0 : BitVec 32 := Scalar.select true_9_r0 c1_i32_r0 c0_i32_10_r0
  let c16_i32_r0 : BitVec 32 := 16#32
  let v12_r0 : BitVec 1 := Scalar.cmpi .eq v11_r0 c16_i32_r0
  let c0_i32_11_r0 : BitVec 32 := 0#32
  let v13_r0 : BitVec 32 := Scalar.select v12_r0 c0_i32_11_r0 v11_r0
  let c0_i32_17_r0 : BitVec 32 := 0#32
  let v18_r0 : BitVec 32 := Scalar.addi v13_r0 c0_i32_17_r0
  let v121_r0 : BitVec 32 := Scalar.muli c1024_i32_114_r0 v18_r0
  ![0, v121_r0.toNat]
@[reducible] def k0_t1_loop : Scf.Loop 32 :=
  let c0_i32_61_r0 : BitVec 32 := 0#32
  let c256_i32_r0 : BitVec 32 := 256#32
  let v60_r0 : BitVec 32 := Scalar.addi c0_i32_61_r0 c256_i32_r0
  let c1_i32_62_r0 : BitVec 32 := 1#32
  ⟨c0_i32_61_r0, v60_r0, c1_i32_62_r0⟩
def k0_off8 (arg4_r0 : BitVec 32) : Fin 1 → Nat :=
  let c2_i32_205_r0 : BitVec 32 := 2#32
  let v285_r0 : BitVec 32 := Scalar.remui arg4_r0 c2_i32_205_r0
  ![v285_r0.toNat]
def k0_cond2 (k0_t1 : Fin k0_t1_loop.trips) (arg10_r0 : BitVec 32) (arg11_r0 : BitVec 32) : BitVec 1 :=
  let c0_i32_114_r0 : BitVec 32 := 0#32
  let v122_r0 : BitVec 32 := Scalar.addi arg10_r0 c0_i32_114_r0
  let true_126_r0 : BitVec 1 := 1#1
  let c1_i32_125_r0 : BitVec 32 := 1#32
  let v134_r0 : BitVec 32 := Scalar.addi arg11_r0 c1_i32_125_r0
  let v135_r0 : BitVec 32 := Scalar.select true_126_r0 v134_r0 arg11_r0
  let c16_i32_127_r0 : BitVec 32 := 16#32
  let v136_r0 : BitVec 1 := Scalar.cmpi .eq v135_r0 c16_i32_127_r0
  let c1_i32_129_r0 : BitVec 32 := 1#32
  let v138_r0 : BitVec 32 := Scalar.addi arg10_r0 c1_i32_129_r0
  let v139_r0 : BitVec 32 := Scalar.select v136_r0 v138_r0 arg10_r0
  let c16_i32_130_r0 : BitVec 32 := 16#32
  let v140_r0 : BitVec 1 := Scalar.cmpi .eq v139_r0 c16_i32_130_r0
  let c0_i32_131_r0 : BitVec 32 := 0#32
  let v141_r0 : BitVec 32 := Scalar.select v140_r0 c0_i32_131_r0 v139_r0
  let c0_i32_132_r0 : BitVec 32 := 0#32
  let v142_r0 : BitVec 32 := Scalar.addi v141_r0 c0_i32_132_r0
  let v164_r0 : BitVec 1 := Scalar.cmpi .ne v122_r0 v142_r0
  let c0_i32_61_r0 : BitVec 32 := 0#32
  let c1_i32_62_r0 : BitVec 32 := 1#32
  let arg3_r0 : BitVec 32 := Scf.iv c0_i32_61_r0 c1_i32_62_r0 k0_t1
  let c255_i32_152_r0 : BitVec 32 := 255#32
  let v165_r0 : BitVec 1 := Scalar.cmpi .sge arg3_r0 c255_i32_152_r0
  let true_153_r0 : BitVec 1 := 1#1
  let v166_r0 : BitVec 1 := Scalar.xori v165_r0 true_153_r0
  let v167_r0 : BitVec 1 := Scalar.andi v164_r0 v166_r0
  let true_154_r0 : BitVec 1 := 1#1
  let v168_r0 : BitVec 1 := Scalar.andi v167_r0 true_154_r0
  let v169_r0 : BitVec 32 := Scalar.extui v168_r0
  let c0_i32_155_r0 : BitVec 32 := 0#32
  let v170_r0 : BitVec 1 := Scalar.cmpi .ne v169_r0 c0_i32_155_r0
  v170_r0

def k0_off9 (arg4_r0 : BitVec 32) : Fin 3 → Nat :=
  let c2_i32_205_r0 : BitVec 32 := 2#32
  let v285_r0 : BitVec 32 := Scalar.remui arg4_r0 c2_i32_205_r0
  let c0_i32_207_r0 : BitVec 32 := 0#32
  let c0_i32_208_r0 : BitVec 32 := 0#32
  ![v285_r0.toNat, 0, 0]
def k0_off10 (arg10_r0 : BitVec 32) (arg11_r0 : BitVec 32) : Fin 2 → Nat :=
  let c1024_i32_206_r0 : BitVec 32 := 1024#32
  let true_126_r0 : BitVec 1 := 1#1
  let c1_i32_125_r0 : BitVec 32 := 1#32
  let v134_r0 : BitVec 32 := Scalar.addi arg11_r0 c1_i32_125_r0
  let v135_r0 : BitVec 32 := Scalar.select true_126_r0 v134_r0 arg11_r0
  let c16_i32_127_r0 : BitVec 32 := 16#32
  let v136_r0 : BitVec 1 := Scalar.cmpi .eq v135_r0 c16_i32_127_r0
  let c1_i32_129_r0 : BitVec 32 := 1#32
  let v138_r0 : BitVec 32 := Scalar.addi arg10_r0 c1_i32_129_r0
  let v139_r0 : BitVec 32 := Scalar.select v136_r0 v138_r0 arg10_r0
  let c16_i32_130_r0 : BitVec 32 := 16#32
  let v140_r0 : BitVec 1 := Scalar.cmpi .eq v139_r0 c16_i32_130_r0
  let c0_i32_131_r0 : BitVec 32 := 0#32
  let v141_r0 : BitVec 32 := Scalar.select v140_r0 c0_i32_131_r0 v139_r0
  let c0_i32_132_r0 : BitVec 32 := 0#32
  let v142_r0 : BitVec 32 := Scalar.addi v141_r0 c0_i32_132_r0
  let v286_r0 : BitVec 32 := Scalar.muli c1024_i32_206_r0 v142_r0
  let c0_i32_209_r0 : BitVec 32 := 0#32
  ![v286_r0.toNat, 0]
def k0_off11 (arg6_r0 : BitVec 32) : Fin 1 → Nat :=
  let c3_i32_205_r0 : BitVec 32 := 3#32
  let v285_r0 : BitVec 32 := Scalar.remui arg6_r0 c3_i32_205_r0
  ![v285_r0.toNat]
def k0_cond3 (k0_t1 : Fin k0_t1_loop.trips) (arg11_r0 : BitVec 32) : BitVec 1 :=
  let true_126_r0 : BitVec 1 := 1#1
  let c1_i32_125_r0 : BitVec 32 := 1#32
  let v134_r0 : BitVec 32 := Scalar.addi arg11_r0 c1_i32_125_r0
  let v135_r0 : BitVec 32 := Scalar.select true_126_r0 v134_r0 arg11_r0
  let c16_i32_127_r0 : BitVec 32 := 16#32
  let v136_r0 : BitVec 1 := Scalar.cmpi .eq v135_r0 c16_i32_127_r0
  let c0_i32_128_r0 : BitVec 32 := 0#32
  let v137_r0 : BitVec 32 := Scalar.select v136_r0 c0_i32_128_r0 v135_r0
  let c0_i32_133_r0 : BitVec 32 := 0#32
  let v143_r0 : BitVec 32 := Scalar.addi v137_r0 c0_i32_133_r0
  let true_135_r0 : BitVec 1 := 1#1
  let c1_i32_134_r0 : BitVec 32 := 1#32
  let v144_r0 : BitVec 32 := Scalar.addi v137_r0 c1_i32_134_r0
  let v145_r0 : BitVec 32 := Scalar.select true_135_r0 v144_r0 v137_r0
  let c16_i32_136_r0 : BitVec 32 := 16#32
  let v146_r0 : BitVec 1 := Scalar.cmpi .eq v145_r0 c16_i32_136_r0
  let c0_i32_137_r0 : BitVec 32 := 0#32
  let v147_r0 : BitVec 32 := Scalar.select v146_r0 c0_i32_137_r0 v145_r0
  let c0_i32_142_r0 : BitVec 32 := 0#32
  let v153_r0 : BitVec 32 := Scalar.addi v147_r0 c0_i32_142_r0
  let v174_r0 : BitVec 1 := Scalar.cmpi .ne v143_r0 v153_r0
  let c0_i32_61_r0 : BitVec 32 := 0#32
  let c1_i32_62_r0 : BitVec 32 := 1#32
  let arg3_r0 : BitVec 32 := Scf.iv c0_i32_61_r0 c1_i32_62_r0 k0_t1
  let c254_i32_r0 : BitVec 32 := 254#32
  let v175_r0 : BitVec 1 := Scalar.cmpi .sge arg3_r0 c254_i32_r0
  let true_158_r0 : BitVec 1 := 1#1
  let v176_r0 : BitVec 1 := Scalar.xori v175_r0 true_158_r0
  let v177_r0 : BitVec 1 := Scalar.andi v174_r0 v176_r0
  let true_159_r0 : BitVec 1 := 1#1
  let v178_r0 : BitVec 1 := Scalar.andi v177_r0 true_159_r0
  let v179_r0 : BitVec 32 := Scalar.extui v178_r0
  let c0_i32_160_r0 : BitVec 32 := 0#32
  let v180_r0 : BitVec 1 := Scalar.cmpi .ne v179_r0 c0_i32_160_r0
  v180_r0

def k0_off12 (arg6_r0 : BitVec 32) : Fin 3 → Nat :=
  let c3_i32_205_r0 : BitVec 32 := 3#32
  let v285_r0 : BitVec 32 := Scalar.remui arg6_r0 c3_i32_205_r0
  let c0_i32_207_r0 : BitVec 32 := 0#32
  let c0_i32_208_r0 : BitVec 32 := 0#32
  ![v285_r0.toNat, 0, 0]
def k0_off13 (arg11_r0 : BitVec 32) : Fin 2 → Nat :=
  let c0_i32_209_r0 : BitVec 32 := 0#32
  let c1024_i32_206_r0 : BitVec 32 := 1024#32
  let true_135_r0 : BitVec 1 := 1#1
  let true_126_r0 : BitVec 1 := 1#1
  let c1_i32_125_r0 : BitVec 32 := 1#32
  let v134_r0 : BitVec 32 := Scalar.addi arg11_r0 c1_i32_125_r0
  let v135_r0 : BitVec 32 := Scalar.select true_126_r0 v134_r0 arg11_r0
  let c16_i32_127_r0 : BitVec 32 := 16#32
  let v136_r0 : BitVec 1 := Scalar.cmpi .eq v135_r0 c16_i32_127_r0
  let c0_i32_128_r0 : BitVec 32 := 0#32
  let v137_r0 : BitVec 32 := Scalar.select v136_r0 c0_i32_128_r0 v135_r0
  let c1_i32_134_r0 : BitVec 32 := 1#32
  let v144_r0 : BitVec 32 := Scalar.addi v137_r0 c1_i32_134_r0
  let v145_r0 : BitVec 32 := Scalar.select true_135_r0 v144_r0 v137_r0
  let c16_i32_136_r0 : BitVec 32 := 16#32
  let v146_r0 : BitVec 1 := Scalar.cmpi .eq v145_r0 c16_i32_136_r0
  let c0_i32_137_r0 : BitVec 32 := 0#32
  let v147_r0 : BitVec 32 := Scalar.select v146_r0 c0_i32_137_r0 v145_r0
  let c0_i32_142_r0 : BitVec 32 := 0#32
  let v153_r0 : BitVec 32 := Scalar.addi v147_r0 c0_i32_142_r0
  let v286_r0 : BitVec 32 := Scalar.muli c1024_i32_206_r0 v153_r0
  ![0, v286_r0.toNat]
def k0_off14 (arg5_r0 : BitVec 32) : Fin 1 → Nat :=
  let c2_i32_206_r0 : BitVec 32 := 2#32
  let v286_r0 : BitVec 32 := Scalar.remui arg5_r0 c2_i32_206_r0
  ![v286_r0.toNat]
def k0_cond4 (k0_t1 : Fin k0_t1_loop.trips) (arg10_r0 : BitVec 32) (arg11_r0 : BitVec 32) : BitVec 1 :=
  let c0_i32_114_r0 : BitVec 32 := 0#32
  let v122_r0 : BitVec 32 := Scalar.addi arg10_r0 c0_i32_114_r0
  let true_117_r0 : BitVec 1 := 1#1
  let c1_i32_116_r0 : BitVec 32 := 1#32
  let v124_r0 : BitVec 32 := Scalar.subi arg11_r0 c1_i32_116_r0
  let v125_r0 : BitVec 32 := Scalar.select true_117_r0 v124_r0 arg11_r0
  let c_m1_i32_118_r0 : BitVec 32 := 4294967295#32
  let v126_r0 : BitVec 1 := Scalar.cmpi .eq v125_r0 c_m1_i32_118_r0
  let c1_i32_120_r0 : BitVec 32 := 1#32
  let v128_r0 : BitVec 32 := Scalar.subi arg10_r0 c1_i32_120_r0
  let v129_r0 : BitVec 32 := Scalar.select v126_r0 v128_r0 arg10_r0
  let c_m1_i32_121_r0 : BitVec 32 := 4294967295#32
  let v130_r0 : BitVec 1 := Scalar.cmpi .eq v129_r0 c_m1_i32_121_r0
  let c15_i32_122_r0 : BitVec 32 := 15#32
  let v131_r0 : BitVec 32 := Scalar.select v130_r0 c15_i32_122_r0 v129_r0
  let c0_i32_123_r0 : BitVec 32 := 0#32
  let v132_r0 : BitVec 32 := Scalar.addi v131_r0 c0_i32_123_r0
  let v190_r0 : BitVec 1 := Scalar.cmpi .ne v122_r0 v132_r0
  let c0_i32_61_r0 : BitVec 32 := 0#32
  let c1_i32_62_r0 : BitVec 32 := 1#32
  let arg3_r0 : BitVec 32 := Scf.iv c0_i32_61_r0 c1_i32_62_r0 k0_t1
  let c0_i32_113_r0 : BitVec 32 := 0#32
  let v120_r0 : BitVec 1 := Scalar.cmpi .eq arg3_r0 c0_i32_113_r0
  let v191_r0 : BitVec 1 := Scalar.ori v190_r0 v120_r0
  let c0_i32_165_r0 : BitVec 32 := 0#32
  let v192_r0 : BitVec 1 := Scalar.cmpi .sge arg3_r0 c0_i32_165_r0
  let v193_r0 : BitVec 1 := Scalar.andi v191_r0 v192_r0
  let v194_r0 : BitVec 32 := Scalar.extui v193_r0
  let c0_i32_166_r0 : BitVec 32 := 0#32
  let v195_r0 : BitVec 1 := Scalar.cmpi .ne v194_r0 c0_i32_166_r0
  v195_r0

def k0_off15 (arg5_r0 : BitVec 32) : Fin 3 → Nat :=
  let c2_i32_206_r0 : BitVec 32 := 2#32
  let v286_r0 : BitVec 32 := Scalar.remui arg5_r0 c2_i32_206_r0
  let c0_i32_207_r0 : BitVec 32 := 0#32
  let c0_i32_208_r0 : BitVec 32 := 0#32
  ![v286_r0.toNat, 0, 0]
def k0_off16 (arg10_r0 : BitVec 32) : Fin 2 → Nat :=
  let c1024_i32_205_r0 : BitVec 32 := 1024#32
  let c0_i32_114_r0 : BitVec 32 := 0#32
  let v122_r0 : BitVec 32 := Scalar.addi arg10_r0 c0_i32_114_r0
  let v285_r0 : BitVec 32 := Scalar.muli c1024_i32_205_r0 v122_r0
  let c0_i32_209_r0 : BitVec 32 := 0#32
  ![v285_r0.toNat, 0]
def k0_off17 (arg7_r0 : BitVec 32) : Fin 1 → Nat :=
  let c3_i32_206_r0 : BitVec 32 := 3#32
  let v286_r0 : BitVec 32 := Scalar.remui arg7_r0 c3_i32_206_r0
  ![v286_r0.toNat]
def k0_cond5 (k0_t1 : Fin k0_t1_loop.trips) (arg11_r0 : BitVec 32) : BitVec 1 :=
  let c0_i32_115_r0 : BitVec 32 := 0#32
  let v123_r0 : BitVec 32 := Scalar.addi arg11_r0 c0_i32_115_r0
  let true_117_r0 : BitVec 1 := 1#1
  let c1_i32_116_r0 : BitVec 32 := 1#32
  let v124_r0 : BitVec 32 := Scalar.subi arg11_r0 c1_i32_116_r0
  let v125_r0 : BitVec 32 := Scalar.select true_117_r0 v124_r0 arg11_r0
  let c_m1_i32_118_r0 : BitVec 32 := 4294967295#32
  let v126_r0 : BitVec 1 := Scalar.cmpi .eq v125_r0 c_m1_i32_118_r0
  let c15_i32_119_r0 : BitVec 32 := 15#32
  let v127_r0 : BitVec 32 := Scalar.select v126_r0 c15_i32_119_r0 v125_r0
  let c0_i32_124_r0 : BitVec 32 := 0#32
  let v133_r0 : BitVec 32 := Scalar.addi v127_r0 c0_i32_124_r0
  let v196_r0 : BitVec 1 := Scalar.cmpi .ne v123_r0 v133_r0
  let c0_i32_61_r0 : BitVec 32 := 0#32
  let c1_i32_62_r0 : BitVec 32 := 1#32
  let arg3_r0 : BitVec 32 := Scf.iv c0_i32_61_r0 c1_i32_62_r0 k0_t1
  let c0_i32_113_r0 : BitVec 32 := 0#32
  let v120_r0 : BitVec 1 := Scalar.cmpi .eq arg3_r0 c0_i32_113_r0
  let v197_r0 : BitVec 1 := Scalar.ori v196_r0 v120_r0
  let c0_i32_167_r0 : BitVec 32 := 0#32
  let v198_r0 : BitVec 1 := Scalar.cmpi .sge arg3_r0 c0_i32_167_r0
  let v199_r0 : BitVec 1 := Scalar.andi v197_r0 v198_r0
  let v200_r0 : BitVec 32 := Scalar.extui v199_r0
  let c0_i32_168_r0 : BitVec 32 := 0#32
  let v201_r0 : BitVec 1 := Scalar.cmpi .ne v200_r0 c0_i32_168_r0
  v201_r0

def k0_off18 (arg7_r0 : BitVec 32) : Fin 3 → Nat :=
  let c3_i32_206_r0 : BitVec 32 := 3#32
  let v286_r0 : BitVec 32 := Scalar.remui arg7_r0 c3_i32_206_r0
  let c0_i32_207_r0 : BitVec 32 := 0#32
  let c0_i32_208_r0 : BitVec 32 := 0#32
  ![v286_r0.toNat, 0, 0]
def k0_off19 (arg11_r0 : BitVec 32) : Fin 2 → Nat :=
  let c0_i32_209_r0 : BitVec 32 := 0#32
  let c1024_i32_205_r0 : BitVec 32 := 1024#32
  let c0_i32_115_r0 : BitVec 32 := 0#32
  let v123_r0 : BitVec 32 := Scalar.addi arg11_r0 c0_i32_115_r0
  let v285_r0 : BitVec 32 := Scalar.muli c1024_i32_205_r0 v123_r0
  ![0, v285_r0.toNat]
def k0_off20 (arg5_r0 : BitVec 32) : Fin 3 → Nat :=
  let c2_i32_171_r0 : BitVec 32 := 2#32
  let v210_r0 : BitVec 32 := Scalar.remui arg5_r0 c2_i32_171_r0
  let v213_r0 : Index := Scalar.indexCast v210_r0
  let c0_r0 : Index := 0#32
  let c0_174_r0 : Index := 0#32
  ![v213_r0.toNat, 0, 0]

def k0_chk2 (arg5_r0 : BitVec 32) : Prop :=
  (∀ a, (k0_off20 arg5_r0) a + S1x1024x4096.size a ≤ S2x1024x4096.size a)
theorem k0_off20_inb : ∀ (arg5_r0 : BitVec 32) (k0_hw2 : k0_chk2 arg5_r0), ∀ a, (k0_off20 arg5_r0) a + S1x1024x4096.size a ≤ S2x1024x4096.size a := fun arg5_r0 k0_hw2 => k0_hw2

def k0_off21 (arg7_r0 : BitVec 32) : Fin 3 → Nat :=
  let c3_i32_172_r0 : BitVec 32 := 3#32
  let v211_r0 : BitVec 32 := Scalar.remui arg7_r0 c3_i32_172_r0
  let v216_r0 : Index := Scalar.indexCast v211_r0
  let c0_175_r0 : Index := 0#32
  let c0_176_r0 : Index := 0#32
  ![v216_r0.toNat, 0, 0]

def k0_chk3 (arg7_r0 : BitVec 32) : Prop :=
  (∀ a, (k0_off21 arg7_r0) a + S1x4096x1024.size a ≤ S3x4096x1024.size a)
theorem k0_off21_inb : ∀ (arg7_r0 : BitVec 32) (k0_hw3 : k0_chk3 arg7_r0), ∀ a, (k0_off21 arg7_r0) a + S1x4096x1024.size a ≤ S3x4096x1024.size a := fun arg7_r0 k0_hw3 => k0_hw3

def k0_off22 (arg8_r0 : BitVec 32) : Fin 3 → Nat :=
  let c2_i32_173_r0 : BitVec 32 := 2#32
  let v212_r0 : BitVec 32 := Scalar.remui arg8_r0 c2_i32_173_r0
  let v224_r0 : Index := Scalar.indexCast v212_r0
  let c0_178_r0 : Index := 0#32
  let c0_179_r0 : Index := 0#32
  ![v224_r0.toNat, 0, 0]

def k0_chk4 (arg8_r0 : BitVec 32) : Prop :=
  (∀ a, (k0_off22 arg8_r0) a + S1x1024x1024.size a ≤ S2x1024x1024.size a) ∧
  (∀ (hinb : ∀ a, (k0_off22 arg8_r0) a + S1x1024x1024.size a ≤ S2x1024x1024.size a), (Rect.unit (s := S2x1024x1024) (k0_off22 arg8_r0) S1x1024x1024.size hinb).PackedRows (EltTy.packing .bf16))
theorem k0_off22_inb : ∀ (arg8_r0 : BitVec 32) (k0_hw4 : k0_chk4 arg8_r0), ∀ a, (k0_off22 arg8_r0) a + S1x1024x1024.size a ≤ S2x1024x1024.size a := fun arg8_r0 k0_hw4 => k0_hw4.1
theorem k0_off22_packedbf16 : ∀ (arg8_r0 : BitVec 32) (k0_hw4 : k0_chk4 arg8_r0), (Rect.unit (s := S2x1024x1024) (k0_off22 arg8_r0) S1x1024x1024.size (k0_off22_inb arg8_r0 k0_hw4)).PackedRows (EltTy.packing .bf16) := fun arg8_r0 k0_hw4 => k0_hw4.2 (k0_off22_inb arg8_r0 k0_hw4)

def k0_off23 (arg8_r0 : BitVec 32) : Fin 1 → Nat :=
  let c2_i32_205_r0 : BitVec 32 := 2#32
  let v285_r0 : BitVec 32 := Scalar.remui arg8_r0 c2_i32_205_r0
  ![v285_r0.toNat]
def k0_cond9 (k0_t1 : Fin k0_t1_loop.trips) (arg10_r0 : BitVec 32) (arg11_r0 : BitVec 32) : BitVec 1 :=
  let c0_i32_114_r0 : BitVec 32 := 0#32
  let v122_r0 : BitVec 32 := Scalar.addi arg10_r0 c0_i32_114_r0
  let true_126_r0 : BitVec 1 := 1#1
  let c1_i32_125_r0 : BitVec 32 := 1#32
  let v134_r0 : BitVec 32 := Scalar.addi arg11_r0 c1_i32_125_r0
  let v135_r0 : BitVec 32 := Scalar.select true_126_r0 v134_r0 arg11_r0
  let c16_i32_127_r0 : BitVec 32 := 16#32
  let v136_r0 : BitVec 1 := Scalar.cmpi .eq v135_r0 c16_i32_127_r0
  let c1_i32_129_r0 : BitVec 32 := 1#32
  let v138_r0 : BitVec 32 := Scalar.addi arg10_r0 c1_i32_129_r0
  let v139_r0 : BitVec 32 := Scalar.select v136_r0 v138_r0 arg10_r0
  let c16_i32_130_r0 : BitVec 32 := 16#32
  let v140_r0 : BitVec 1 := Scalar.cmpi .eq v139_r0 c16_i32_130_r0
  let c0_i32_131_r0 : BitVec 32 := 0#32
  let v141_r0 : BitVec 32 := Scalar.select v140_r0 c0_i32_131_r0 v139_r0
  let c0_i32_132_r0 : BitVec 32 := 0#32
  let v142_r0 : BitVec 32 := Scalar.addi v141_r0 c0_i32_132_r0
  let v238_r0 : BitVec 1 := Scalar.cmpi .ne v122_r0 v142_r0
  let c0_i32_115_r0 : BitVec 32 := 0#32
  let v123_r0 : BitVec 32 := Scalar.addi arg11_r0 c0_i32_115_r0
  let c0_i32_128_r0 : BitVec 32 := 0#32
  let v137_r0 : BitVec 32 := Scalar.select v136_r0 c0_i32_128_r0 v135_r0
  let c0_i32_133_r0 : BitVec 32 := 0#32
  let v143_r0 : BitVec 32 := Scalar.addi v137_r0 c0_i32_133_r0
  let v239_r0 : BitVec 1 := Scalar.cmpi .ne v123_r0 v143_r0
  let v240_r0 : BitVec 1 := Scalar.ori v238_r0 v239_r0
  let c0_i32_61_r0 : BitVec 32 := 0#32
  let c1_i32_62_r0 : BitVec 32 := 1#32
  let arg3_r0 : BitVec 32 := Scf.iv c0_i32_61_r0 c1_i32_62_r0 k0_t1
  let c255_i32_r0 : BitVec 32 := 255#32
  let v121_r0 : BitVec 1 := Scalar.cmpi .eq arg3_r0 c255_i32_r0
  let v241_r0 : BitVec 1 := Scalar.ori v240_r0 v121_r0
  let v242_r0 : BitVec 32 := Scalar.extui v241_r0
  let c0_i32_183_r0 : BitVec 32 := 0#32
  let v243_r0 : BitVec 1 := Scalar.cmpi .ne v242_r0 c0_i32_183_r0
  v243_r0

def k0_off24 (arg10_r0 : BitVec 32) (arg11_r0 : BitVec 32) : Fin 2 → Nat :=
  let c1024_i32_206_r0 : BitVec 32 := 1024#32
  let c0_i32_114_r0 : BitVec 32 := 0#32
  let v122_r0 : BitVec 32 := Scalar.addi arg10_r0 c0_i32_114_r0
  let v286_r0 : BitVec 32 := Scalar.muli c1024_i32_206_r0 v122_r0
  let c1024_i32_207_r0 : BitVec 32 := 1024#32
  let c0_i32_115_r0 : BitVec 32 := 0#32
  let v123_r0 : BitVec 32 := Scalar.addi arg11_r0 c0_i32_115_r0
  let v287_r0 : BitVec 32 := Scalar.muli c1024_i32_207_r0 v123_r0
  ![v286_r0.toNat, v287_r0.toNat]
def k0_off25 (arg8_r0 : BitVec 32) : Fin 3 → Nat :=
  let c2_i32_205_r0 : BitVec 32 := 2#32
  let v285_r0 : BitVec 32 := Scalar.remui arg8_r0 c2_i32_205_r0
  let c0_i32_208_r0 : BitVec 32 := 0#32
  let c0_i32_209_r0 : BitVec 32 := 0#32
  ![v285_r0.toNat, 0, 0]
def k0_off26 (arg9_r0 : BitVec 32) : Fin 1 → Nat :=
  let c2_i32_205_r0 : BitVec 32 := 2#32
  let v285_r0 : BitVec 32 := Scalar.remui arg9_r0 c2_i32_205_r0
  ![v285_r0.toNat]
def k0_cond12 (k0_t1 : Fin k0_t1_loop.trips) (arg10_r0 : BitVec 32) (arg11_r0 : BitVec 32) : BitVec 1 :=
  let c0_i32_114_r0 : BitVec 32 := 0#32
  let v122_r0 : BitVec 32 := Scalar.addi arg10_r0 c0_i32_114_r0
  let true_117_r0 : BitVec 1 := 1#1
  let c1_i32_116_r0 : BitVec 32 := 1#32
  let v124_r0 : BitVec 32 := Scalar.subi arg11_r0 c1_i32_116_r0
  let v125_r0 : BitVec 32 := Scalar.select true_117_r0 v124_r0 arg11_r0
  let c_m1_i32_118_r0 : BitVec 32 := 4294967295#32
  let v126_r0 : BitVec 1 := Scalar.cmpi .eq v125_r0 c_m1_i32_118_r0
  let c1_i32_120_r0 : BitVec 32 := 1#32
  let v128_r0 : BitVec 32 := Scalar.subi arg10_r0 c1_i32_120_r0
  let v129_r0 : BitVec 32 := Scalar.select v126_r0 v128_r0 arg10_r0
  let c_m1_i32_121_r0 : BitVec 32 := 4294967295#32
  let v130_r0 : BitVec 1 := Scalar.cmpi .eq v129_r0 c_m1_i32_121_r0
  let c15_i32_122_r0 : BitVec 32 := 15#32
  let v131_r0 : BitVec 32 := Scalar.select v130_r0 c15_i32_122_r0 v129_r0
  let c0_i32_123_r0 : BitVec 32 := 0#32
  let v132_r0 : BitVec 32 := Scalar.addi v131_r0 c0_i32_123_r0
  let v259_r0 : BitVec 1 := Scalar.cmpi .ne v122_r0 v132_r0
  let c0_i32_115_r0 : BitVec 32 := 0#32
  let v123_r0 : BitVec 32 := Scalar.addi arg11_r0 c0_i32_115_r0
  let c15_i32_119_r0 : BitVec 32 := 15#32
  let v127_r0 : BitVec 32 := Scalar.select v126_r0 c15_i32_119_r0 v125_r0
  let c0_i32_124_r0 : BitVec 32 := 0#32
  let v133_r0 : BitVec 32 := Scalar.addi v127_r0 c0_i32_124_r0
  let v260_r0 : BitVec 1 := Scalar.cmpi .ne v123_r0 v133_r0
  let v261_r0 : BitVec 1 := Scalar.ori v259_r0 v260_r0
  let c0_i32_61_r0 : BitVec 32 := 0#32
  let c1_i32_62_r0 : BitVec 32 := 1#32
  let arg3_r0 : BitVec 32 := Scf.iv c0_i32_61_r0 c1_i32_62_r0 k0_t1
  let c0_i32_113_r0 : BitVec 32 := 0#32
  let v120_r0 : BitVec 1 := Scalar.cmpi .eq arg3_r0 c0_i32_113_r0
  let true_192_r0 : BitVec 1 := 1#1
  let v262_r0 : BitVec 1 := Scalar.xori v120_r0 true_192_r0
  let v263_r0 : BitVec 1 := Scalar.andi v261_r0 v262_r0
  let v264_r0 : BitVec 32 := Scalar.extui v263_r0
  let c0_i32_193_r0 : BitVec 32 := 0#32
  let v265_r0 : BitVec 1 := Scalar.cmpi .ne v264_r0 c0_i32_193_r0
  v265_r0

def k0_off27 (arg10_r0 : BitVec 32) (arg11_r0 : BitVec 32) : Fin 2 → Nat :=
  let c1024_i32_206_r0 : BitVec 32 := 1024#32
  let true_117_r0 : BitVec 1 := 1#1
  let c1_i32_116_r0 : BitVec 32 := 1#32
  let v124_r0 : BitVec 32 := Scalar.subi arg11_r0 c1_i32_116_r0
  let v125_r0 : BitVec 32 := Scalar.select true_117_r0 v124_r0 arg11_r0
  let c_m1_i32_118_r0 : BitVec 32 := 4294967295#32
  let v126_r0 : BitVec 1 := Scalar.cmpi .eq v125_r0 c_m1_i32_118_r0
  let c1_i32_120_r0 : BitVec 32 := 1#32
  let v128_r0 : BitVec 32 := Scalar.subi arg10_r0 c1_i32_120_r0
  let v129_r0 : BitVec 32 := Scalar.select v126_r0 v128_r0 arg10_r0
  let c_m1_i32_121_r0 : BitVec 32 := 4294967295#32
  let v130_r0 : BitVec 1 := Scalar.cmpi .eq v129_r0 c_m1_i32_121_r0
  let c15_i32_122_r0 : BitVec 32 := 15#32
  let v131_r0 : BitVec 32 := Scalar.select v130_r0 c15_i32_122_r0 v129_r0
  let c0_i32_123_r0 : BitVec 32 := 0#32
  let v132_r0 : BitVec 32 := Scalar.addi v131_r0 c0_i32_123_r0
  let v286_r0 : BitVec 32 := Scalar.muli c1024_i32_206_r0 v132_r0
  let c1024_i32_207_r0 : BitVec 32 := 1024#32
  let c15_i32_119_r0 : BitVec 32 := 15#32
  let v127_r0 : BitVec 32 := Scalar.select v126_r0 c15_i32_119_r0 v125_r0
  let c0_i32_124_r0 : BitVec 32 := 0#32
  let v133_r0 : BitVec 32 := Scalar.addi v127_r0 c0_i32_124_r0
  let v287_r0 : BitVec 32 := Scalar.muli c1024_i32_207_r0 v133_r0
  ![v286_r0.toNat, v287_r0.toNat]
def k0_off28 (arg9_r0 : BitVec 32) : Fin 3 → Nat :=
  let c2_i32_205_r0 : BitVec 32 := 2#32
  let v285_r0 : BitVec 32 := Scalar.remui arg9_r0 c2_i32_205_r0
  let c0_i32_208_r0 : BitVec 32 := 0#32
  let c0_i32_209_r0 : BitVec 32 := 0#32
  ![v285_r0.toNat, 0, 0]

def k0_chk1 (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) : Prop :=
  (∀ (k0_h2 : k0_cond2 k0_t1 arg10_r0 arg11_r0 = 1#1), ∀ a, (k0_off8 arg4_r0) a + S1.size a ≤ S2.size a) ∧
  (∀ (k0_h2 : k0_cond2 k0_t1 arg10_r0 arg11_r0 = 1#1), ∀ a, (k0_off9 arg4_r0) a + S1x1024x4096.size a ≤ S2x1024x4096.size a) ∧
  (∀ (k0_h2 : k0_cond2 k0_t1 arg10_r0 arg11_r0 = 1#1), ∀ a, (k0_off10 arg10_r0 arg11_r0) a + S1024x4096.size a ≤ S16384x4096.size a) ∧
  (∀ (k0_h2 : k0_cond2 k0_t1 arg10_r0 arg11_r0 = 1#1), ∀ (hinb : ∀ a, (k0_off10 arg10_r0 arg11_r0) a + S1024x4096.size a ≤ S16384x4096.size a), (Rect.unit (s := S16384x4096) (k0_off10 arg10_r0 arg11_r0) S1024x4096.size hinb).WholeWords (EltTy.packing .bf16)) ∧
  (∀ (k0_h2 : k0_cond2 k0_t1 arg10_r0 arg11_r0 = 1#1), ∀ (hinb : ∀ a, (k0_off9 arg4_r0) a + S1x1024x4096.size a ≤ S2x1024x4096.size a), (Rect.unit (s := S2x1024x4096) (k0_off9 arg4_r0) S1x1024x4096.size hinb).WholeWords (EltTy.packing .bf16)) ∧
  (∀ (k0_h3 : k0_cond3 k0_t1 arg11_r0 = 1#1), ∀ a, (k0_off11 arg6_r0) a + S1.size a ≤ S3.size a) ∧
  (∀ (k0_h3 : k0_cond3 k0_t1 arg11_r0 = 1#1), ∀ a, (k0_off12 arg6_r0) a + S1x4096x1024.size a ≤ S3x4096x1024.size a) ∧
  (∀ (k0_h3 : k0_cond3 k0_t1 arg11_r0 = 1#1), ∀ a, (k0_off13 arg11_r0) a + S4096x1024.size a ≤ S4096x16384.size a) ∧
  (∀ (k0_h3 : k0_cond3 k0_t1 arg11_r0 = 1#1), ∀ (hinb : ∀ a, (k0_off13 arg11_r0) a + S4096x1024.size a ≤ S4096x16384.size a), (Rect.unit (s := S4096x16384) (k0_off13 arg11_r0) S4096x1024.size hinb).WholeWords (EltTy.packing .bf16)) ∧
  (∀ (k0_h3 : k0_cond3 k0_t1 arg11_r0 = 1#1), ∀ (hinb : ∀ a, (k0_off12 arg6_r0) a + S1x4096x1024.size a ≤ S3x4096x1024.size a), (Rect.unit (s := S3x4096x1024) (k0_off12 arg6_r0) S1x4096x1024.size hinb).WholeWords (EltTy.packing .bf16)) ∧
  (∀ (k0_h4 : k0_cond4 k0_t1 arg10_r0 arg11_r0 = 1#1), ∀ a, (k0_off14 arg5_r0) a + S1.size a ≤ S2.size a) ∧
  (∀ (k0_h4 : k0_cond4 k0_t1 arg10_r0 arg11_r0 = 1#1), ∀ a, (k0_off15 arg5_r0) a + S1x1024x4096.size a ≤ S2x1024x4096.size a) ∧
  (∀ (k0_h4 : k0_cond4 k0_t1 arg10_r0 arg11_r0 = 1#1), ∀ a, (k0_off16 arg10_r0) a + S1024x4096.size a ≤ S16384x4096.size a) ∧
  (∀ (k0_h4 : k0_cond4 k0_t1 arg10_r0 arg11_r0 = 1#1), ∀ (hinb : ∀ a, (k0_off16 arg10_r0) a + S1024x4096.size a ≤ S16384x4096.size a), (Rect.unit (s := S16384x4096) (k0_off16 arg10_r0) S1024x4096.size hinb).WholeWords (EltTy.packing .bf16)) ∧
  (∀ (k0_h4 : k0_cond4 k0_t1 arg10_r0 arg11_r0 = 1#1), ∀ (hinb : ∀ a, (k0_off15 arg5_r0) a + S1x1024x4096.size a ≤ S2x1024x4096.size a), (Rect.unit (s := S2x1024x4096) (k0_off15 arg5_r0) S1x1024x4096.size hinb).WholeWords (EltTy.packing .bf16)) ∧
  (∀ (k0_h5 : k0_cond5 k0_t1 arg11_r0 = 1#1), ∀ a, (k0_off17 arg7_r0) a + S1.size a ≤ S3.size a) ∧
  (∀ (k0_h5 : k0_cond5 k0_t1 arg11_r0 = 1#1), ∀ a, (k0_off18 arg7_r0) a + S1x4096x1024.size a ≤ S3x4096x1024.size a) ∧
  (∀ (k0_h5 : k0_cond5 k0_t1 arg11_r0 = 1#1), ∀ a, (k0_off19 arg11_r0) a + S4096x1024.size a ≤ S4096x16384.size a) ∧
  (∀ (k0_h5 : k0_cond5 k0_t1 arg11_r0 = 1#1), ∀ (hinb : ∀ a, (k0_off19 arg11_r0) a + S4096x1024.size a ≤ S4096x16384.size a), (Rect.unit (s := S4096x16384) (k0_off19 arg11_r0) S4096x1024.size hinb).WholeWords (EltTy.packing .bf16)) ∧
  (∀ (k0_h5 : k0_cond5 k0_t1 arg11_r0 = 1#1), ∀ (hinb : ∀ a, (k0_off18 arg7_r0) a + S1x4096x1024.size a ≤ S3x4096x1024.size a), (Rect.unit (s := S3x4096x1024) (k0_off18 arg7_r0) S1x4096x1024.size hinb).WholeWords (EltTy.packing .bf16)) ∧
  (∀ (k0_h9 : k0_cond9 k0_t1 arg10_r0 arg11_r0 = 1#1), ∀ a, (k0_off23 arg8_r0) a + S1.size a ≤ S2.size a) ∧
  (∀ (k0_h9 : k0_cond9 k0_t1 arg10_r0 arg11_r0 = 1#1), ∀ a, (k0_off24 arg10_r0 arg11_r0) a + S1024x1024.size a ≤ S16384x16384.size a) ∧
  (∀ (k0_h9 : k0_cond9 k0_t1 arg10_r0 arg11_r0 = 1#1), ∀ a, (k0_off25 arg8_r0) a + S1x1024x1024.size a ≤ S2x1024x1024.size a) ∧
  (∀ (k0_h9 : k0_cond9 k0_t1 arg10_r0 arg11_r0 = 1#1), ∀ (hinb : ∀ a, (k0_off25 arg8_r0) a + S1x1024x1024.size a ≤ S2x1024x1024.size a), (Rect.unit (s := S2x1024x1024) (k0_off25 arg8_r0) S1x1024x1024.size hinb).WholeWords (EltTy.packing .bf16)) ∧
  (∀ (k0_h9 : k0_cond9 k0_t1 arg10_r0 arg11_r0 = 1#1), ∀ (hinb : ∀ a, (k0_off24 arg10_r0 arg11_r0) a + S1024x1024.size a ≤ S16384x16384.size a), (Rect.unit (s := S16384x16384) (k0_off24 arg10_r0 arg11_r0) S1024x1024.size hinb).WholeWords (EltTy.packing .bf16)) ∧
  (∀ (k0_h12 : k0_cond12 k0_t1 arg10_r0 arg11_r0 = 1#1), ∀ a, (k0_off26 arg9_r0) a + S1.size a ≤ S2.size a) ∧
  (∀ (k0_h12 : k0_cond12 k0_t1 arg10_r0 arg11_r0 = 1#1), ∀ a, (k0_off27 arg10_r0 arg11_r0) a + S1024x1024.size a ≤ S16384x16384.size a) ∧
  (∀ (k0_h12 : k0_cond12 k0_t1 arg10_r0 arg11_r0 = 1#1), ∀ a, (k0_off28 arg9_r0) a + S1x1024x1024.size a ≤ S2x1024x1024.size a) ∧
  (∀ (k0_h12 : k0_cond12 k0_t1 arg10_r0 arg11_r0 = 1#1), ∀ (hinb : ∀ a, (k0_off28 arg9_r0) a + S1x1024x1024.size a ≤ S2x1024x1024.size a), (Rect.unit (s := S2x1024x1024) (k0_off28 arg9_r0) S1x1024x1024.size hinb).WholeWords (EltTy.packing .bf16)) ∧
  (∀ (k0_h12 : k0_cond12 k0_t1 arg10_r0 arg11_r0 = 1#1), ∀ (hinb : ∀ a, (k0_off27 arg10_r0 arg11_r0) a + S1024x1024.size a ≤ S16384x16384.size a), (Rect.unit (s := S16384x16384) (k0_off27 arg10_r0 arg11_r0) S1024x1024.size hinb).WholeWords (EltTy.packing .bf16))
theorem k0_off8_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), ∀ a, (k0_off8 arg4_r0) a + S1.size a ≤ S2.size a := fun k0_t1 arg4_r0 arg5_r0 arg6_r0 arg7_r0 arg8_r0 arg9_r0 arg10_r0 arg11_r0 k0_hw1 k0_h2 => k0_hw1.1 k0_h2
theorem k0_off9_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), ∀ a, (k0_off9 arg4_r0) a + S1x1024x4096.size a ≤ S2x1024x4096.size a := fun k0_t1 arg4_r0 arg5_r0 arg6_r0 arg7_r0 arg8_r0 arg9_r0 arg10_r0 arg11_r0 k0_hw1 k0_h2 => k0_hw1.2.1 k0_h2
theorem k0_off10_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), ∀ a, (k0_off10 arg10_r0 arg11_r0) a + S1024x4096.size a ≤ S16384x4096.size a := fun k0_t1 arg4_r0 arg5_r0 arg6_r0 arg7_r0 arg8_r0 arg9_r0 arg10_r0 arg11_r0 k0_hw1 k0_h2 => k0_hw1.2.2.1 k0_h2
theorem k0_off10_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), (Rect.unit (s := S16384x4096) (k0_off10 arg10_r0 arg11_r0) S1024x4096.size (k0_off10_inb k0_t1 arg4_r0 arg5_r0 arg6_r0 arg7_r0 arg8_r0 arg9_r0 arg10_r0 arg11_r0 k0_hw1 k0_h2)).WholeWords (EltTy.packing .bf16) := fun k0_t1 arg4_r0 arg5_r0 arg6_r0 arg7_r0 arg8_r0 arg9_r0 arg10_r0 arg11_r0 k0_hw1 k0_h2 => k0_hw1.2.2.2.1 k0_h2 (k0_off10_inb k0_t1 arg4_r0 arg5_r0 arg6_r0 arg7_r0 arg8_r0 arg9_r0 arg10_r0 arg11_r0 k0_hw1 k0_h2)
theorem k0_off9_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h2 : k0_cond2 k0_t1 arg10_r0 arg11_r0 = 1#1), (Rect.unit (s := S2x1024x4096) (k0_off9 arg4_r0) S1x1024x4096.size (k0_off9_inb k0_t1 arg4_r0 arg5_r0 arg6_r0 arg7_r0 arg8_r0 arg9_r0 arg10_r0 arg11_r0 k0_hw1 k0_h2)).WholeWords (EltTy.packing .bf16) := fun k0_t1 arg4_r0 arg5_r0 arg6_r0 arg7_r0 arg8_r0 arg9_r0 arg10_r0 arg11_r0 k0_hw1 k0_h2 => k0_hw1.2.2.2.2.1 k0_h2 (k0_off9_inb k0_t1 arg4_r0 arg5_r0 arg6_r0 arg7_r0 arg8_r0 arg9_r0 arg10_r0 arg11_r0 k0_hw1 k0_h2)
theorem k0_off11_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), ∀ a, (k0_off11 arg6_r0) a + S1.size a ≤ S3.size a := fun k0_t1 arg4_r0 arg5_r0 arg6_r0 arg7_r0 arg8_r0 arg9_r0 arg10_r0 arg11_r0 k0_hw1 k0_h3 => k0_hw1.2.2.2.2.2.1 k0_h3
theorem k0_off12_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), ∀ a, (k0_off12 arg6_r0) a + S1x4096x1024.size a ≤ S3x4096x1024.size a := fun k0_t1 arg4_r0 arg5_r0 arg6_r0 arg7_r0 arg8_r0 arg9_r0 arg10_r0 arg11_r0 k0_hw1 k0_h3 => k0_hw1.2.2.2.2.2.2.1 k0_h3
theorem k0_off13_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), ∀ a, (k0_off13 arg11_r0) a + S4096x1024.size a ≤ S4096x16384.size a := fun k0_t1 arg4_r0 arg5_r0 arg6_r0 arg7_r0 arg8_r0 arg9_r0 arg10_r0 arg11_r0 k0_hw1 k0_h3 => k0_hw1.2.2.2.2.2.2.2.1 k0_h3
theorem k0_off13_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), (Rect.unit (s := S4096x16384) (k0_off13 arg11_r0) S4096x1024.size (k0_off13_inb k0_t1 arg4_r0 arg5_r0 arg6_r0 arg7_r0 arg8_r0 arg9_r0 arg10_r0 arg11_r0 k0_hw1 k0_h3)).WholeWords (EltTy.packing .bf16) := fun k0_t1 arg4_r0 arg5_r0 arg6_r0 arg7_r0 arg8_r0 arg9_r0 arg10_r0 arg11_r0 k0_hw1 k0_h3 => k0_hw1.2.2.2.2.2.2.2.2.1 k0_h3 (k0_off13_inb k0_t1 arg4_r0 arg5_r0 arg6_r0 arg7_r0 arg8_r0 arg9_r0 arg10_r0 arg11_r0 k0_hw1 k0_h3)
theorem k0_off12_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h3 : k0_cond3 k0_t1 arg11_r0 = 1#1), (Rect.unit (s := S3x4096x1024) (k0_off12 arg6_r0) S1x4096x1024.size (k0_off12_inb k0_t1 arg4_r0 arg5_r0 arg6_r0 arg7_r0 arg8_r0 arg9_r0 arg10_r0 arg11_r0 k0_hw1 k0_h3)).WholeWords (EltTy.packing .bf16) := fun k0_t1 arg4_r0 arg5_r0 arg6_r0 arg7_r0 arg8_r0 arg9_r0 arg10_r0 arg11_r0 k0_hw1 k0_h3 => k0_hw1.2.2.2.2.2.2.2.2.2.1 k0_h3 (k0_off12_inb k0_t1 arg4_r0 arg5_r0 arg6_r0 arg7_r0 arg8_r0 arg9_r0 arg10_r0 arg11_r0 k0_hw1 k0_h3)
theorem k0_off14_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), ∀ a, (k0_off14 arg5_r0) a + S1.size a ≤ S2.size a := fun k0_t1 arg4_r0 arg5_r0 arg6_r0 arg7_r0 arg8_r0 arg9_r0 arg10_r0 arg11_r0 k0_hw1 k0_h4 => k0_hw1.2.2.2.2.2.2.2.2.2.2.1 k0_h4
theorem k0_off15_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), ∀ a, (k0_off15 arg5_r0) a + S1x1024x4096.size a ≤ S2x1024x4096.size a := fun k0_t1 arg4_r0 arg5_r0 arg6_r0 arg7_r0 arg8_r0 arg9_r0 arg10_r0 arg11_r0 k0_hw1 k0_h4 => k0_hw1.2.2.2.2.2.2.2.2.2.2.2.1 k0_h4
theorem k0_off16_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), ∀ a, (k0_off16 arg10_r0) a + S1024x4096.size a ≤ S16384x4096.size a := fun k0_t1 arg4_r0 arg5_r0 arg6_r0 arg7_r0 arg8_r0 arg9_r0 arg10_r0 arg11_r0 k0_hw1 k0_h4 => k0_hw1.2.2.2.2.2.2.2.2.2.2.2.2.1 k0_h4
theorem k0_off16_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), (Rect.unit (s := S16384x4096) (k0_off16 arg10_r0) S1024x4096.size (k0_off16_inb k0_t1 arg4_r0 arg5_r0 arg6_r0 arg7_r0 arg8_r0 arg9_r0 arg10_r0 arg11_r0 k0_hw1 k0_h4)).WholeWords (EltTy.packing .bf16) := fun k0_t1 arg4_r0 arg5_r0 arg6_r0 arg7_r0 arg8_r0 arg9_r0 arg10_r0 arg11_r0 k0_hw1 k0_h4 => k0_hw1.2.2.2.2.2.2.2.2.2.2.2.2.2.1 k0_h4 (k0_off16_inb k0_t1 arg4_r0 arg5_r0 arg6_r0 arg7_r0 arg8_r0 arg9_r0 arg10_r0 arg11_r0 k0_hw1 k0_h4)
theorem k0_off15_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h4 : k0_cond4 k0_t1 arg10_r0 arg11_r0 = 1#1), (Rect.unit (s := S2x1024x4096) (k0_off15 arg5_r0) S1x1024x4096.size (k0_off15_inb k0_t1 arg4_r0 arg5_r0 arg6_r0 arg7_r0 arg8_r0 arg9_r0 arg10_r0 arg11_r0 k0_hw1 k0_h4)).WholeWords (EltTy.packing .bf16) := fun k0_t1 arg4_r0 arg5_r0 arg6_r0 arg7_r0 arg8_r0 arg9_r0 arg10_r0 arg11_r0 k0_hw1 k0_h4 => k0_hw1.2.2.2.2.2.2.2.2.2.2.2.2.2.2.1 k0_h4 (k0_off15_inb k0_t1 arg4_r0 arg5_r0 arg6_r0 arg7_r0 arg8_r0 arg9_r0 arg10_r0 arg11_r0 k0_hw1 k0_h4)
theorem k0_off17_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), ∀ a, (k0_off17 arg7_r0) a + S1.size a ≤ S3.size a := fun k0_t1 arg4_r0 arg5_r0 arg6_r0 arg7_r0 arg8_r0 arg9_r0 arg10_r0 arg11_r0 k0_hw1 k0_h5 => k0_hw1.2.2.2.2.2.2.2.2.2.2.2.2.2.2.2.1 k0_h5
theorem k0_off18_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), ∀ a, (k0_off18 arg7_r0) a + S1x4096x1024.size a ≤ S3x4096x1024.size a := fun k0_t1 arg4_r0 arg5_r0 arg6_r0 arg7_r0 arg8_r0 arg9_r0 arg10_r0 arg11_r0 k0_hw1 k0_h5 => k0_hw1.2.2.2.2.2.2.2.2.2.2.2.2.2.2.2.2.1 k0_h5
theorem k0_off19_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), ∀ a, (k0_off19 arg11_r0) a + S4096x1024.size a ≤ S4096x16384.size a := fun k0_t1 arg4_r0 arg5_r0 arg6_r0 arg7_r0 arg8_r0 arg9_r0 arg10_r0 arg11_r0 k0_hw1 k0_h5 => k0_hw1.2.2.2.2.2.2.2.2.2.2.2.2.2.2.2.2.2.1 k0_h5
theorem k0_off19_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), (Rect.unit (s := S4096x16384) (k0_off19 arg11_r0) S4096x1024.size (k0_off19_inb k0_t1 arg4_r0 arg5_r0 arg6_r0 arg7_r0 arg8_r0 arg9_r0 arg10_r0 arg11_r0 k0_hw1 k0_h5)).WholeWords (EltTy.packing .bf16) := fun k0_t1 arg4_r0 arg5_r0 arg6_r0 arg7_r0 arg8_r0 arg9_r0 arg10_r0 arg11_r0 k0_hw1 k0_h5 => k0_hw1.2.2.2.2.2.2.2.2.2.2.2.2.2.2.2.2.2.2.1 k0_h5 (k0_off19_inb k0_t1 arg4_r0 arg5_r0 arg6_r0 arg7_r0 arg8_r0 arg9_r0 arg10_r0 arg11_r0 k0_hw1 k0_h5)
theorem k0_off18_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h5 : k0_cond5 k0_t1 arg11_r0 = 1#1), (Rect.unit (s := S3x4096x1024) (k0_off18 arg7_r0) S1x4096x1024.size (k0_off18_inb k0_t1 arg4_r0 arg5_r0 arg6_r0 arg7_r0 arg8_r0 arg9_r0 arg10_r0 arg11_r0 k0_hw1 k0_h5)).WholeWords (EltTy.packing .bf16) := fun k0_t1 arg4_r0 arg5_r0 arg6_r0 arg7_r0 arg8_r0 arg9_r0 arg10_r0 arg11_r0 k0_hw1 k0_h5 => k0_hw1.2.2.2.2.2.2.2.2.2.2.2.2.2.2.2.2.2.2.2.1 k0_h5 (k0_off18_inb k0_t1 arg4_r0 arg5_r0 arg6_r0 arg7_r0 arg8_r0 arg9_r0 arg10_r0 arg11_r0 k0_hw1 k0_h5)
theorem k0_off23_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), ∀ a, (k0_off23 arg8_r0) a + S1.size a ≤ S2.size a := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.1 k0_h9
theorem k0_off24_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), ∀ a, (k0_off24 arg10_r0 arg11_r0) a + S1024x1024.size a ≤ S16384x16384.size a := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.2.1 k0_h9
theorem k0_off25_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), ∀ a, (k0_off25 arg8_r0) a + S1x1024x1024.size a ≤ S2x1024x1024.size a := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.2.2.1 k0_h9
theorem k0_off25_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), (Rect.unit (s := S2x1024x1024) (k0_off25 arg8_r0) S1x1024x1024.size (k0_off25_inb k0_t1 arg4_r0 arg5_r0 arg6_r0 arg7_r0 arg8_r0 arg9_r0 arg10_r0 arg11_r0 k0_hw1 k0_h9)).WholeWords (EltTy.packing .bf16) := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.2.2.2.1 k0_h9 (k0_off25_inb k0_t1 arg4_r0 arg5_r0 arg6_r0 arg7_r0 arg8_r0 arg9_r0 arg10_r0 arg11_r0 k0_hw1 k0_h9)
theorem k0_off24_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h9 : k0_cond9 k0_t1 arg10_r0 arg11_r0 = 1#1), (Rect.unit (s := S16384x16384) (k0_off24 arg10_r0 arg11_r0) S1024x1024.size (k0_off24_inb k0_t1 arg4_r0 arg5_r0 arg6_r0 arg7_r0 arg8_r0 arg9_r0 arg10_r0 arg11_r0 k0_hw1 k0_h9)).WholeWords (EltTy.packing .bf16) := fun k0_t1 arg4_r0 arg5_r0 arg6_r0 arg7_r0 arg8_r0 arg9_r0 arg10_r0 arg11_r0 k0_hw1 k0_h9 => k0_hw1.2.2.2.2.2.2.2.2.2.2.2.2.2.2.2.2.2.2.2.2.2.2.2.2.1 k0_h9 (k0_off24_inb k0_t1 arg4_r0 arg5_r0 arg6_r0 arg7_r0 arg8_r0 arg9_r0 arg10_r0 arg11_r0 k0_hw1 k0_h9)
theorem k0_off26_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), ∀ a, (k0_off26 arg9_r0) a + S1.size a ≤ S2.size a := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.1 k0_h12
theorem k0_off27_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), ∀ a, (k0_off27 arg10_r0 arg11_r0) a + S1024x1024.size a ≤ S16384x16384.size a := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.2.1 k0_h12
theorem k0_off28_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), ∀ a, (k0_off28 arg9_r0) a + S1x1024x1024.size a ≤ S2x1024x1024.size a := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.2.2.1 k0_h12
theorem k0_off28_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), (Rect.unit (s := S2x1024x1024) (k0_off28 arg9_r0) S1x1024x1024.size (k0_off28_inb k0_t1 arg4_r0 arg5_r0 arg6_r0 arg7_r0 arg8_r0 arg9_r0 arg10_r0 arg11_r0 k0_hw1 k0_h12)).WholeWords (EltTy.packing .bf16) := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.2.2.2.1 k0_h12 (k0_off28_inb k0_t1 arg4_r0 arg5_r0 arg6_r0 arg7_r0 arg8_r0 arg9_r0 arg10_r0 arg11_r0 k0_hw1 k0_h12)
theorem k0_off27_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg4_r0 arg5_r0 arg6_r0 arg7_r0 arg8_r0 arg9_r0 arg10_r0 arg11_r0), ∀ (k0_h12 : k0_cond12 k0_t1 arg10_r0 arg11_r0 = 1#1), (Rect.unit (s := S16384x16384) (k0_off27 arg10_r0 arg11_r0) S1024x1024.size (k0_off27_inb k0_t1 arg4_r0 arg5_r0 arg6_r0 arg7_r0 arg8_r0 arg9_r0 arg10_r0 arg11_r0 k0_hw1 k0_h12)).WholeWords (EltTy.packing .bf16) := fun k0_t1 arg4_r0 arg5_r0 arg6_r0 arg7_r0 arg8_r0 arg9_r0 arg10_r0 arg11_r0 k0_hw1 k0_h12 => k0_hw1.2.2.2.2.2.2.2.2.2.2.2.2.2.2.2.2.2.2.2.2.2.2.2.2.2.2.2.2.2 k0_h12 (k0_off27_inb k0_t1 arg4_r0 arg5_r0 arg6_r0 arg7_r0 arg8_r0 arg9_r0 arg10_r0 arg11_r0 k0_hw1 k0_h12)

def k0_off29 (v61_5_r0 : BitVec 32) : Fin 1 → Nat :=
  let c2_i32_109_r0 : BitVec 32 := 2#32
  let v112_r0 : BitVec 32 := Scalar.remui v61_5_r0 c2_i32_109_r0
  ![v112_r0.toNat]

def k0_off30 (v61_7_r0 : BitVec 32) (v61_6_r0 : BitVec 32) : Fin 2 → Nat :=
  let c1024_i32_r0 : BitVec 32 := 1024#32
  let true_65_r0 : BitVec 1 := 1#1
  let c1_i32_64_r0 : BitVec 32 := 1#32
  let v62_r0 : BitVec 32 := Scalar.subi v61_7_r0 c1_i32_64_r0
  let v63_r0 : BitVec 32 := Scalar.select true_65_r0 v62_r0 v61_7_r0
  let c_m1_i32_66_r0 : BitVec 32 := 4294967295#32
  let v64_r0 : BitVec 1 := Scalar.cmpi .eq v63_r0 c_m1_i32_66_r0
  let c1_i32_68_r0 : BitVec 32 := 1#32
  let v66_r0 : BitVec 32 := Scalar.subi v61_6_r0 c1_i32_68_r0
  let v67_r0 : BitVec 32 := Scalar.select v64_r0 v66_r0 v61_6_r0
  let c_m1_i32_69_r0 : BitVec 32 := 4294967295#32
  let v68_r0 : BitVec 1 := Scalar.cmpi .eq v67_r0 c_m1_i32_69_r0
  let c15_i32_70_r0 : BitVec 32 := 15#32
  let v69_r0 : BitVec 32 := Scalar.select v68_r0 c15_i32_70_r0 v67_r0
  let c0_i32_71_r0 : BitVec 32 := 0#32
  let v70_r0 : BitVec 32 := Scalar.addi v69_r0 c0_i32_71_r0
  let v113_r0 : BitVec 32 := Scalar.muli c1024_i32_r0 v70_r0
  let c1024_i32_110_r0 : BitVec 32 := 1024#32
  let c15_i32_67_r0 : BitVec 32 := 15#32
  let v65_r0 : BitVec 32 := Scalar.select v64_r0 c15_i32_67_r0 v63_r0
  let c0_i32_72_r0 : BitVec 32 := 0#32
  let v71_r0 : BitVec 32 := Scalar.addi v65_r0 c0_i32_72_r0
  let v114_r0 : BitVec 32 := Scalar.muli c1024_i32_110_r0 v71_r0
  ![v113_r0.toNat, v114_r0.toNat]

def k0_off31 (v61_5_r0 : BitVec 32) : Fin 3 → Nat :=
  let c2_i32_109_r0 : BitVec 32 := 2#32
  let v112_r0 : BitVec 32 := Scalar.remui v61_5_r0 c2_i32_109_r0
  let c0_i32_111_r0 : BitVec 32 := 0#32
  let c0_i32_112_r0 : BitVec 32 := 0#32
  ![v112_r0.toNat, 0, 0]

def k0_chk5 (v61_5_r0 : BitVec 32) : Prop :=
  (∀ a, (k0_off29 v61_5_r0) a + S1.size a ≤ S2.size a) ∧
  (∀ a, (k0_off31 v61_5_r0) a + S1x1024x1024.size a ≤ S2x1024x1024.size a) ∧
  (∀ (hinb : ∀ a, (k0_off31 v61_5_r0) a + S1x1024x1024.size a ≤ S2x1024x1024.size a), (Rect.unit (s := S2x1024x1024) (k0_off31 v61_5_r0) S1x1024x1024.size hinb).WholeWords (EltTy.packing .bf16))
theorem k0_off29_inb : ∀ (v61_5_r0 : BitVec 32) (k0_hw5 : k0_chk5 v61_5_r0), ∀ a, (k0_off29 v61_5_r0) a + S1.size a ≤ S2.size a := fun v61_5_r0 k0_hw5 => k0_hw5.1
theorem k0_off31_inb : ∀ (v61_5_r0 : BitVec 32) (k0_hw5 : k0_chk5 v61_5_r0), ∀ a, (k0_off31 v61_5_r0) a + S1x1024x1024.size a ≤ S2x1024x1024.size a := fun v61_5_r0 k0_hw5 => k0_hw5.2.1
theorem k0_off31_wordsbf16 : ∀ (v61_5_r0 : BitVec 32) (k0_hw5 : k0_chk5 v61_5_r0), (Rect.unit (s := S2x1024x1024) (k0_off31 v61_5_r0) S1x1024x1024.size (k0_off31_inb v61_5_r0 k0_hw5)).WholeWords (EltTy.packing .bf16) := fun v61_5_r0 k0_hw5 => k0_hw5.2.2 (k0_off31_inb v61_5_r0 k0_hw5)

def k0_chk6 (v61_7_r0 : BitVec 32) (v61_6_r0 : BitVec 32) : Prop :=
  (∀ a, (k0_off30 v61_7_r0 v61_6_r0) a + S1024x1024.size a ≤ S16384x16384.size a) ∧
  (∀ (hinb : ∀ a, (k0_off30 v61_7_r0 v61_6_r0) a + S1024x1024.size a ≤ S16384x16384.size a), (Rect.unit (s := S16384x16384) (k0_off30 v61_7_r0 v61_6_r0) S1024x1024.size hinb).WholeWords (EltTy.packing .bf16))
theorem k0_off30_inb : ∀ (v61_7_r0 : BitVec 32) (v61_6_r0 : BitVec 32) (k0_hw6 : k0_chk6 v61_7_r0 v61_6_r0), ∀ a, (k0_off30 v61_7_r0 v61_6_r0) a + S1024x1024.size a ≤ S16384x16384.size a := fun v61_7_r0 v61_6_r0 k0_hw6 => k0_hw6.1
theorem k0_off30_wordsbf16 : ∀ (v61_7_r0 : BitVec 32) (v61_6_r0 : BitVec 32) (k0_hw6 : k0_chk6 v61_7_r0 v61_6_r0), (Rect.unit (s := S16384x16384) (k0_off30 v61_7_r0 v61_6_r0) S1024x1024.size (k0_off30_inb v61_7_r0 v61_6_r0 k0_hw6)).WholeWords (EltTy.packing .bf16) := fun v61_7_r0 v61_6_r0 k0_hw6 => k0_hw6.2 (k0_off30_inb v61_7_r0 v61_6_r0 k0_hw6)
-- ==== Reference6Ideal.lean ====
abbrev S16384x4096 : Shape := ⟨2, ![16384, 4096]⟩
abbrev S4096x16384 : Shape := ⟨2, ![4096, 16384]⟩
abbrev S16384x16384 : Shape := ⟨2, ![16384, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .f32⟩
  | .hbm, ⟨3, _⟩ => ⟨S4096x16384, .f32⟩
  | .hbm, ⟨4, _⟩ => ⟨S16384x16384, .f32⟩
  | .hbm, ⟨5, _⟩ => ⟨S_, .f32⟩
  | .hbm, ⟨6, _⟩ => ⟨S16384x16384, .f32⟩
  | .hbm, ⟨7, _⟩ => ⟨S16384x16384, .f32⟩
  | .hbm, ⟨8, _⟩ => ⟨S16384x16384, .f32⟩
  | .hbm, ⟨9, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.InProjBase.lean ====
/- One run of the in_proj kernel's body at a grid point, for any values: from the staging buffers at stated contents
   to the buffers at the products and the rounded weight blocks.  Three of the outputs are stored under a condition
   on the point; their contents afterwards are given by a value that agrees with the store where the condition holds
   and with what was there before where it fails. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Init
public import Idealize.ShloMosaic.Lib.Pipeline.Value

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A load of the whole of a whole buffer reads its contents. -/
theorem readAt_whole {sp : Space} {S : Shape} {e : EltTy} {a : Memref sig .tc sp S e} (h : a.IsWhole) {off : Fin S.rank → Nat}
    (h0 : off = fun _ => 0) (inb : ∀ a, off a + S.size a ≤ S.size a) (x : S.Idx → Elt F e) :
    View.readAt (Elt F) a.view (Rect.unit off S.size inb).toLoadRect (h.unread x) = x := by
  rw [View.readAt_eq_ld, h.read_unread, View.ld_unit_zero h0]

/-- One store through the whole of a buffer leaves its payload. -/
theorem read_store_whole {sp : Space} {S : Shape} {e : EltTy} (v : View sig .tc sp S e) (f : v.ty.Contents (Elt F)) {off : Fin S.rank → Nat}
    (h0 : off = fun _ => 0) (inb : ∀ a, off a + S.size a ≤ S.size a) (w : S.Idx → Elt F e) :
    v.read (Elt F) (v.writes (Elt F) f [⟨Rect.unit off S.size inb, w⟩]) = w := by
  rw [View.read_writes_eq_canon, View.canon_unit_zero h0]
  intro y
  refine ⟨_, List.mem_cons_self .., ?_⟩
  rw [Rect.mem_set_unit]
  intro a; subst h0
  exact ⟨Nat.zero_le _, by rw [Nat.zero_add]; exact (y a).isLt⟩

end Cert.KernelIdeal.InProj

end
-- ==== Proof.InProjRunA.lean ====
/- One run of the in_proj kernel's body at a grid point, for any values, in one of its four cases. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.InProjBase
public import Idealize.ShloMosaic.Init
public import Idealize.ShloMosaic.Lib.Pipeline.Value

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
theorem kernel_run_A (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S128x4096 .bf16) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4096 .f32) (harg7 : arg7.IsWhole) (arg8 : Memref sig .tc .vmem S16x4096 .f32) (harg8 : arg8.IsWhole) (arg9 : Memref sig .tc .vmem S16x8192 .f32) (harg9 : arg9.IsWhole) (arg10 : Memref sig .tc .vmem S16x4096 .f32) (harg10 : arg10.IsWhole) (arg11 : Memref sig .tc .vmem S16x16384 .f32) (harg11 : arg11.IsWhole) (arg12 : Memref sig .tc .vmem S64x4096 .f32) (harg12 : arg12.IsWhole) (arg13 : Memref sig .tc .vmem S1024x1024 .f32) (harg13 : arg13.IsWhole) (arg14 : Memref sig .tc .vmem S1024x128 .f32) (harg14 : arg14.IsWhole) (arg15 : Memref sig .tc .vmem S16x4096 .bf16) (harg15 : arg15.IsWhole) (arg16 : Memref sig .tc .vmem S16x4096 .bf16) (harg16 : arg16.IsWhole) (arg17 : Memref sig .tc .vmem S16x4096 .bf16) (harg17 : arg17.IsWhole) (arg18 : Memref sig .tc .vmem S16x4096 .bf16) (harg18 : arg18.IsWhole) (arg19 : Memref sig .tc .vmem S16x8192 .bf16) (harg19 : arg19.IsWhole) (arg20 : Memref sig .tc .vmem S16x4096 .bf16) (harg20 : arg20.IsWhole) (arg21 : Memref sig .tc .vmem S16x16384 .bf16) (harg21 : arg21.IsWhole) (arg22 : Memref sig .tc .vmem S64x4096 .bf16) (harg22 : arg22.IsWhole)
    (hc0 : k0_cond1 i = 1#1) (hc1 : k0_cond2 i = 1#1) (hc2 : k0_cond3 i = 1#1) (hc3 : k0_cond4 i = 1#1) (hc4 : k0_cond5 i = 1#1) (hc5 : k0_cond6 i = 1#1) (hc6 : k0_cond7 i = 1#1) (hc7 : k0_cond8 i = 1#1) (hc8 : k0_cond9 i = 1#1)
    (x0 : Vec F S1024x4096 .bf16) (x1 : Vec F S1024x4096 .bf16) (x2 : Vec F S128x4096 .bf16) (x3 : Vec F S16x4096 .f32) (x4 : Vec F S16x4096 .f32) (x5 : Vec F S16x4096 .f32) (x6 : Vec F S16x4096 .f32) (x7 : Vec F S16x8192 .f32) (x8 : Vec F S16x4096 .f32) (x9 : Vec F S16x16384 .f32) (x10 : Vec F S64x4096 .f32)
    (y11 : Vec F S1024x1024 .f32) (y12 : Vec F S1024x128 .f32) (y13 : Vec F S16x4096 .bf16) (y14 : Vec F S16x4096 .bf16) (y15 : Vec F S16x4096 .bf16) (y16 : Vec F S16x4096 .bf16) (y17 : Vec F S16x8192 .bf16) (y18 : Vec F S16x4096 .bf16) (y19 : Vec F S16x16384 .bf16) (y20 : Vec F S64x4096 .bf16)
    (z12 : Vec F S1024x128 .f32) (z13 : Vec F S16x4096 .bf16) (z14 : Vec F S16x4096 .bf16)
    (hz12 : k0_cond1 i = 1#1 → z12 = k0_pay4 x0 x2) (hy12 : ¬ k0_cond1 i = 1#1 → z12 = y12) (hz13 : k0_cond2 i = 1#1 → z13 = k0_pay5 x3) (hy13 : ¬ k0_cond2 i = 1#1 → z13 = y13) (hz14 : k0_cond3 i = 1#1 → z14 = k0_pay6 x4) (hy14 : ¬ k0_cond3 i = 1#1 → z14 = y14) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18 ∗ owns (c : Thread nD τ) arg21 fullShare y19 ∗ owns (c : Thread nD τ) arg22 fullShare y20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay3 x0 x1) ∗ owns (c : Thread nD τ) arg14 fullShare z12 ∗ owns (c : Thread nD τ) arg15 fullShare z13 ∗ owns (c : Thread nD τ) arg16 fullShare z14 ∗ owns (c : Thread nD τ) arg17 fullShare (k0_pay7 x5) ∗ owns (c : Thread nD τ) arg18 fullShare (k0_pay8 x6) ∗ owns (c : Thread nD τ) arg19 fullShare (k0_pay9 x7) ∗ owns (c : Thread nD τ) arg20 fullShare (k0_pay10 x8) ∗ owns (c : Thread nD τ) arg21 fullShare (k0_pay1 x9) ∗ owns (c : Thread nD τ) arg22 fullShare (k0_pay2 x10)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro; exact (read_store_whole _ _ hz _ _).trans (by rw [readAt_whole harg2 hz]; rw [readAt_whole harg3 hz])
    isplitl [H12]
    · iexists _; isplitr; swap; · iexact H12
      ipureintro; first | (rw [hz12 hc0]; exact (read_store_whole _ _ hz _ _).trans (by rw [readAt_whole harg2 hz]; rw [readAt_whole harg4 hz])) | (rw [hy12 hc0]; exact harg14.read_unread _)
    isplitl [H13]
    · iexists _; isplitr; swap; · iexact H13
      ipureintro; first | (rw [hz13 hc1]; exact (read_store_whole _ _ hz _ _).trans (by rw [readAt_whole harg5 hz])) | (rw [hy13 hc1]; exact harg15.read_unread _)
    isplitl [H14]
    · iexists _; isplitr; swap; · iexact H14
      ipureintro; first | (rw [hz14 hc2]; exact (read_store_whole _ _ hz _ _).trans (by rw [readAt_whole harg6 hz])) | (rw [hy14 hc2]; exact harg16.read_unread _)
    isplitl [H15]
    · iexists _; isplitr; swap; · iexact H15
      ipureintro; exact (read_store_whole _ _ hz _ _).trans (by rw [readAt_whole harg7 hz])
    isplitl [H16]
    · iexists _; isplitr; swap; · iexact H16
      ipureintro; exact (read_store_whole _ _ hz _ _).trans (by rw [readAt_whole harg8 hz])
    isplitl [H17]
    · iexists _; isplitr; swap; · iexact H17
      ipureintro; exact (read_store_whole _ _ hz _ _).trans (by rw [readAt_whole harg9 hz])
    isplitl [H18]
    · iexists _; isplitr; swap; · iexact H18
      ipureintro; exact (read_store_whole _ _ hz _ _).trans (by rw [readAt_whole harg10 hz])
    isplitl [H19]
    · iexists _; isplitr; swap; · iexact H19
      ipureintro; exact (read_store_whole _ _ hz _ _).trans (by rw [readAt_whole harg11 hz])
    iexists _; isplitr; swap; · iexact H20
    ipureintro; exact (read_store_whole _ _ hz _ _).trans (by rw [readAt_whole harg12 hz])

end Cert.KernelIdeal.InProj

end
-- ==== Proof.InProjRunB.lean ====
/- One run of the in_proj kernel's body at a grid point, for any values, in one of its four cases. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.InProjBase
public import Idealize.ShloMosaic.Init
public import Idealize.ShloMosaic.Lib.Pipeline.Value

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
theorem kernel_run_B (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S128x4096 .bf16) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4096 .f32) (harg7 : arg7.IsWhole) (arg8 : Memref sig .tc .vmem S16x4096 .f32) (harg8 : arg8.IsWhole) (arg9 : Memref sig .tc .vmem S16x8192 .f32) (harg9 : arg9.IsWhole) (arg10 : Memref sig .tc .vmem S16x4096 .f32) (harg10 : arg10.IsWhole) (arg11 : Memref sig .tc .vmem S16x16384 .f32) (harg11 : arg11.IsWhole) (arg12 : Memref sig .tc .vmem S64x4096 .f32) (harg12 : arg12.IsWhole) (arg13 : Memref sig .tc .vmem S1024x1024 .f32) (harg13 : arg13.IsWhole) (arg14 : Memref sig .tc .vmem S1024x128 .f32) (harg14 : arg14.IsWhole) (arg15 : Memref sig .tc .vmem S16x4096 .bf16) (harg15 : arg15.IsWhole) (arg16 : Memref sig .tc .vmem S16x4096 .bf16) (harg16 : arg16.IsWhole) (arg17 : Memref sig .tc .vmem S16x4096 .bf16) (harg17 : arg17.IsWhole) (arg18 : Memref sig .tc .vmem S16x4096 .bf16) (harg18 : arg18.IsWhole) (arg19 : Memref sig .tc .vmem S16x8192 .bf16) (harg19 : arg19.IsWhole) (arg20 : Memref sig .tc .vmem S16x4096 .bf16) (harg20 : arg20.IsWhole) (arg21 : Memref sig .tc .vmem S16x16384 .bf16) (harg21 : arg21.IsWhole) (arg22 : Memref sig .tc .vmem S64x4096 .bf16) (harg22 : arg22.IsWhole)
    (hc0 : ¬ k0_cond1 i = 1#1) (hc1 : k0_cond2 i = 1#1) (hc2 : k0_cond3 i = 1#1) (hc3 : k0_cond4 i = 1#1) (hc4 : k0_cond5 i = 1#1) (hc5 : k0_cond6 i = 1#1) (hc6 : k0_cond7 i = 1#1) (hc7 : k0_cond8 i = 1#1) (hc8 : k0_cond9 i = 1#1)
    (x0 : Vec F S1024x4096 .bf16) (x1 : Vec F S1024x4096 .bf16) (x2 : Vec F S128x4096 .bf16) (x3 : Vec F S16x4096 .f32) (x4 : Vec F S16x4096 .f32) (x5 : Vec F S16x4096 .f32) (x6 : Vec F S16x4096 .f32) (x7 : Vec F S16x8192 .f32) (x8 : Vec F S16x4096 .f32) (x9 : Vec F S16x16384 .f32) (x10 : Vec F S64x4096 .f32)
    (y11 : Vec F S1024x1024 .f32) (y12 : Vec F S1024x128 .f32) (y13 : Vec F S16x4096 .bf16) (y14 : Vec F S16x4096 .bf16) (y15 : Vec F S16x4096 .bf16) (y16 : Vec F S16x4096 .bf16) (y17 : Vec F S16x8192 .bf16) (y18 : Vec F S16x4096 .bf16) (y19 : Vec F S16x16384 .bf16) (y20 : Vec F S64x4096 .bf16)
    (z12 : Vec F S1024x128 .f32) (z13 : Vec F S16x4096 .bf16) (z14 : Vec F S16x4096 .bf16)
    (hz12 : k0_cond1 i = 1#1 → z12 = k0_pay4 x0 x2) (hy12 : ¬ k0_cond1 i = 1#1 → z12 = y12) (hz13 : k0_cond2 i = 1#1 → z13 = k0_pay5 x3) (hy13 : ¬ k0_cond2 i = 1#1 → z13 = y13) (hz14 : k0_cond3 i = 1#1 → z14 = k0_pay6 x4) (hy14 : ¬ k0_cond3 i = 1#1 → z14 = y14) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18 ∗ owns (c : Thread nD τ) arg21 fullShare y19 ∗ owns (c : Thread nD τ) arg22 fullShare y20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay3 x0 x1) ∗ owns (c : Thread nD τ) arg14 fullShare z12 ∗ owns (c : Thread nD τ) arg15 fullShare z13 ∗ owns (c : Thread nD τ) arg16 fullShare z14 ∗ owns (c : Thread nD τ) arg17 fullShare (k0_pay7 x5) ∗ owns (c : Thread nD τ) arg18 fullShare (k0_pay8 x6) ∗ owns (c : Thread nD τ) arg19 fullShare (k0_pay9 x7) ∗ owns (c : Thread nD τ) arg20 fullShare (k0_pay10 x8) ∗ owns (c : Thread nD τ) arg21 fullShare (k0_pay1 x9) ∗ owns (c : Thread nD τ) arg22 fullShare (k0_pay2 x10)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro; exact (read_store_whole _ _ hz _ _).trans (by rw [readAt_whole harg2 hz]; rw [readAt_whole harg3 hz])
    isplitl [H12]
    · iexists _; isplitr; swap; · iexact H12
      ipureintro; first | (rw [hz12 hc0]; exact (read_store_whole _ _ hz _ _).trans (by rw [readAt_whole harg2 hz]; rw [readAt_whole harg4 hz])) | (rw [hy12 hc0]; exact harg14.read_unread _)
    isplitl [H13]
    · iexists _; isplitr; swap; · iexact H13
      ipureintro; first | (rw [hz13 hc1]; exact (read_store_whole _ _ hz _ _).trans (by rw [readAt_whole harg5 hz])) | (rw [hy13 hc1]; exact harg15.read_unread _)
    isplitl [H14]
    · iexists _; isplitr; swap; · iexact H14
      ipureintro; first | (rw [hz14 hc2]; exact (read_store_whole _ _ hz _ _).trans (by rw [readAt_whole harg6 hz])) | (rw [hy14 hc2]; exact harg16.read_unread _)
    isplitl [H15]
    · iexists _; isplitr; swap; · iexact H15
      ipureintro; exact (read_store_whole _ _ hz _ _).trans (by rw [readAt_whole harg7 hz])
    isplitl [H16]
    · iexists _; isplitr; swap; · iexact H16
      ipureintro; exact (read_store_whole _ _ hz _ _).trans (by rw [readAt_whole harg8 hz])
    isplitl [H17]
    · iexists _; isplitr; swap; · iexact H17
      ipureintro; exact (read_store_whole _ _ hz _ _).trans (by rw [readAt_whole harg9 hz])
    isplitl [H18]
    · iexists _; isplitr; swap; · iexact H18
      ipureintro; exact (read_store_whole _ _ hz _ _).trans (by rw [readAt_whole harg10 hz])
    isplitl [H19]
    · iexists _; isplitr; swap; · iexact H19
      ipureintro; exact (read_store_whole _ _ hz _ _).trans (by rw [readAt_whole harg11 hz])
    iexists _; isplitr; swap; · iexact H20
    ipureintro; exact (read_store_whole _ _ hz _ _).trans (by rw [readAt_whole harg12 hz])

end Cert.KernelIdeal.InProj

end
-- ==== Proof.InProjRunC.lean ====
/- One run of the in_proj kernel's body at a grid point, for any values, in one of its four cases. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.InProjBase
public import Idealize.ShloMosaic.Init
public import Idealize.ShloMosaic.Lib.Pipeline.Value

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
theorem kernel_run_C (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S128x4096 .bf16) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4096 .f32) (harg7 : arg7.IsWhole) (arg8 : Memref sig .tc .vmem S16x4096 .f32) (harg8 : arg8.IsWhole) (arg9 : Memref sig .tc .vmem S16x8192 .f32) (harg9 : arg9.IsWhole) (arg10 : Memref sig .tc .vmem S16x4096 .f32) (harg10 : arg10.IsWhole) (arg11 : Memref sig .tc .vmem S16x16384 .f32) (harg11 : arg11.IsWhole) (arg12 : Memref sig .tc .vmem S64x4096 .f32) (harg12 : arg12.IsWhole) (arg13 : Memref sig .tc .vmem S1024x1024 .f32) (harg13 : arg13.IsWhole) (arg14 : Memref sig .tc .vmem S1024x128 .f32) (harg14 : arg14.IsWhole) (arg15 : Memref sig .tc .vmem S16x4096 .bf16) (harg15 : arg15.IsWhole) (arg16 : Memref sig .tc .vmem S16x4096 .bf16) (harg16 : arg16.IsWhole) (arg17 : Memref sig .tc .vmem S16x4096 .bf16) (harg17 : arg17.IsWhole) (arg18 : Memref sig .tc .vmem S16x4096 .bf16) (harg18 : arg18.IsWhole) (arg19 : Memref sig .tc .vmem S16x8192 .bf16) (harg19 : arg19.IsWhole) (arg20 : Memref sig .tc .vmem S16x4096 .bf16) (harg20 : arg20.IsWhole) (arg21 : Memref sig .tc .vmem S16x16384 .bf16) (harg21 : arg21.IsWhole) (arg22 : Memref sig .tc .vmem S64x4096 .bf16) (harg22 : arg22.IsWhole)
    (hc0 : k0_cond1 i = 1#1) (hc1 : ¬ k0_cond2 i = 1#1) (hc2 : ¬ k0_cond3 i = 1#1) (hc3 : k0_cond4 i = 1#1) (hc4 : k0_cond5 i = 1#1) (hc5 : k0_cond6 i = 1#1) (hc6 : k0_cond7 i = 1#1) (hc7 : k0_cond8 i = 1#1) (hc8 : k0_cond9 i = 1#1)
    (x0 : Vec F S1024x4096 .bf16) (x1 : Vec F S1024x4096 .bf16) (x2 : Vec F S128x4096 .bf16) (x3 : Vec F S16x4096 .f32) (x4 : Vec F S16x4096 .f32) (x5 : Vec F S16x4096 .f32) (x6 : Vec F S16x4096 .f32) (x7 : Vec F S16x8192 .f32) (x8 : Vec F S16x4096 .f32) (x9 : Vec F S16x16384 .f32) (x10 : Vec F S64x4096 .f32)
    (y11 : Vec F S1024x1024 .f32) (y12 : Vec F S1024x128 .f32) (y13 : Vec F S16x4096 .bf16) (y14 : Vec F S16x4096 .bf16) (y15 : Vec F S16x4096 .bf16) (y16 : Vec F S16x4096 .bf16) (y17 : Vec F S16x8192 .bf16) (y18 : Vec F S16x4096 .bf16) (y19 : Vec F S16x16384 .bf16) (y20 : Vec F S64x4096 .bf16)
    (z12 : Vec F S1024x128 .f32) (z13 : Vec F S16x4096 .bf16) (z14 : Vec F S16x4096 .bf16)
    (hz12 : k0_cond1 i = 1#1 → z12 = k0_pay4 x0 x2) (hy12 : ¬ k0_cond1 i = 1#1 → z12 = y12) (hz13 : k0_cond2 i = 1#1 → z13 = k0_pay5 x3) (hy13 : ¬ k0_cond2 i = 1#1 → z13 = y13) (hz14 : k0_cond3 i = 1#1 → z14 = k0_pay6 x4) (hy14 : ¬ k0_cond3 i = 1#1 → z14 = y14) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18 ∗ owns (c : Thread nD τ) arg21 fullShare y19 ∗ owns (c : Thread nD τ) arg22 fullShare y20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay3 x0 x1) ∗ owns (c : Thread nD τ) arg14 fullShare z12 ∗ owns (c : Thread nD τ) arg15 fullShare z13 ∗ owns (c : Thread nD τ) arg16 fullShare z14 ∗ owns (c : Thread nD τ) arg17 fullShare (k0_pay7 x5) ∗ owns (c : Thread nD τ) arg18 fullShare (k0_pay8 x6) ∗ owns (c : Thread nD τ) arg19 fullShare (k0_pay9 x7) ∗ owns (c : Thread nD τ) arg20 fullShare (k0_pay10 x8) ∗ owns (c : Thread nD τ) arg21 fullShare (k0_pay1 x9) ∗ owns (c : Thread nD τ) arg22 fullShare (k0_pay2 x10)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro; exact (read_store_whole _ _ hz _ _).trans (by rw [readAt_whole harg2 hz]; rw [readAt_whole harg3 hz])
    isplitl [H12]
    · iexists _; isplitr; swap; · iexact H12
      ipureintro; first | (rw [hz12 hc0]; exact (read_store_whole _ _ hz _ _).trans (by rw [readAt_whole harg2 hz]; rw [readAt_whole harg4 hz])) | (rw [hy12 hc0]; exact harg14.read_unread _)
    isplitl [H13]
    · iexists _; isplitr; swap; · iexact H13
      ipureintro; first | (rw [hz13 hc1]; exact (read_store_whole _ _ hz _ _).trans (by rw [readAt_whole harg5 hz])) | (rw [hy13 hc1]; exact harg15.read_unread _)
    isplitl [H14]
    · iexists _; isplitr; swap; · iexact H14
      ipureintro; first | (rw [hz14 hc2]; exact (read_store_whole _ _ hz _ _).trans (by rw [readAt_whole harg6 hz])) | (rw [hy14 hc2]; exact harg16.read_unread _)
    isplitl [H15]
    · iexists _; isplitr; swap; · iexact H15
      ipureintro; exact (read_store_whole _ _ hz _ _).trans (by rw [readAt_whole harg7 hz])
    isplitl [H16]
    · iexists _; isplitr; swap; · iexact H16
      ipureintro; exact (read_store_whole _ _ hz _ _).trans (by rw [readAt_whole harg8 hz])
    isplitl [H17]
    · iexists _; isplitr; swap; · iexact H17
      ipureintro; exact (read_store_whole _ _ hz _ _).trans (by rw [readAt_whole harg9 hz])
    isplitl [H18]
    · iexists _; isplitr; swap; · iexact H18
      ipureintro; exact (read_store_whole _ _ hz _ _).trans (by rw [readAt_whole harg10 hz])
    isplitl [H19]
    · iexists _; isplitr; swap; · iexact H19
      ipureintro; exact (read_store_whole _ _ hz _ _).trans (by rw [readAt_whole harg11 hz])
    iexists _; isplitr; swap; · iexact H20
    ipureintro; exact (read_store_whole _ _ hz _ _).trans (by rw [readAt_whole harg12 hz])

end Cert.KernelIdeal.InProj

end
-- ==== Proof.InProjRunD.lean ====
/- One run of the in_proj kernel's body at a grid point, for any values, in one of its four cases. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.InProjBase
public import Idealize.ShloMosaic.Init
public import Idealize.ShloMosaic.Lib.Pipeline.Value

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
theorem kernel_run_D (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S128x4096 .bf16) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4096 .f32) (harg7 : arg7.IsWhole) (arg8 : Memref sig .tc .vmem S16x4096 .f32) (harg8 : arg8.IsWhole) (arg9 : Memref sig .tc .vmem S16x8192 .f32) (harg9 : arg9.IsWhole) (arg10 : Memref sig .tc .vmem S16x4096 .f32) (harg10 : arg10.IsWhole) (arg11 : Memref sig .tc .vmem S16x16384 .f32) (harg11 : arg11.IsWhole) (arg12 : Memref sig .tc .vmem S64x4096 .f32) (harg12 : arg12.IsWhole) (arg13 : Memref sig .tc .vmem S1024x1024 .f32) (harg13 : arg13.IsWhole) (arg14 : Memref sig .tc .vmem S1024x128 .f32) (harg14 : arg14.IsWhole) (arg15 : Memref sig .tc .vmem S16x4096 .bf16) (harg15 : arg15.IsWhole) (arg16 : Memref sig .tc .vmem S16x4096 .bf16) (harg16 : arg16.IsWhole) (arg17 : Memref sig .tc .vmem S16x4096 .bf16) (harg17 : arg17.IsWhole) (arg18 : Memref sig .tc .vmem S16x4096 .bf16) (harg18 : arg18.IsWhole) (arg19 : Memref sig .tc .vmem S16x8192 .bf16) (harg19 : arg19.IsWhole) (arg20 : Memref sig .tc .vmem S16x4096 .bf16) (harg20 : arg20.IsWhole) (arg21 : Memref sig .tc .vmem S16x16384 .bf16) (harg21 : arg21.IsWhole) (arg22 : Memref sig .tc .vmem S64x4096 .bf16) (harg22 : arg22.IsWhole)
    (hc0 : ¬ k0_cond1 i = 1#1) (hc1 : ¬ k0_cond2 i = 1#1) (hc2 : ¬ k0_cond3 i = 1#1) (hc3 : k0_cond4 i = 1#1) (hc4 : k0_cond5 i = 1#1) (hc5 : k0_cond6 i = 1#1) (hc6 : k0_cond7 i = 1#1) (hc7 : k0_cond8 i = 1#1) (hc8 : k0_cond9 i = 1#1)
    (x0 : Vec F S1024x4096 .bf16) (x1 : Vec F S1024x4096 .bf16) (x2 : Vec F S128x4096 .bf16) (x3 : Vec F S16x4096 .f32) (x4 : Vec F S16x4096 .f32) (x5 : Vec F S16x4096 .f32) (x6 : Vec F S16x4096 .f32) (x7 : Vec F S16x8192 .f32) (x8 : Vec F S16x4096 .f32) (x9 : Vec F S16x16384 .f32) (x10 : Vec F S64x4096 .f32)
    (y11 : Vec F S1024x1024 .f32) (y12 : Vec F S1024x128 .f32) (y13 : Vec F S16x4096 .bf16) (y14 : Vec F S16x4096 .bf16) (y15 : Vec F S16x4096 .bf16) (y16 : Vec F S16x4096 .bf16) (y17 : Vec F S16x8192 .bf16) (y18 : Vec F S16x4096 .bf16) (y19 : Vec F S16x16384 .bf16) (y20 : Vec F S64x4096 .bf16)
    (z12 : Vec F S1024x128 .f32) (z13 : Vec F S16x4096 .bf16) (z14 : Vec F S16x4096 .bf16)
    (hz12 : k0_cond1 i = 1#1 → z12 = k0_pay4 x0 x2) (hy12 : ¬ k0_cond1 i = 1#1 → z12 = y12) (hz13 : k0_cond2 i = 1#1 → z13 = k0_pay5 x3) (hy13 : ¬ k0_cond2 i = 1#1 → z13 = y13) (hz14 : k0_cond3 i = 1#1 → z14 = k0_pay6 x4) (hy14 : ¬ k0_cond3 i = 1#1 → z14 = y14) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18 ∗ owns (c : Thread nD τ) arg21 fullShare y19 ∗ owns (c : Thread nD τ) arg22 fullShare y20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay3 x0 x1) ∗ owns (c : Thread nD τ) arg14 fullShare z12 ∗ owns (c : Thread nD τ) arg15 fullShare z13 ∗ owns (c : Thread nD τ) arg16 fullShare z14 ∗ owns (c : Thread nD τ) arg17 fullShare (k0_pay7 x5) ∗ owns (c : Thread nD τ) arg18 fullShare (k0_pay8 x6) ∗ owns (c : Thread nD τ) arg19 fullShare (k0_pay9 x7) ∗ owns (c : Thread nD τ) arg20 fullShare (k0_pay10 x8) ∗ owns (c : Thread nD τ) arg21 fullShare (k0_pay1 x9) ∗ owns (c : Thread nD τ) arg22 fullShare (k0_pay2 x10)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro; exact (read_store_whole _ _ hz _ _).trans (by rw [readAt_whole harg2 hz]; rw [readAt_whole harg3 hz])
    isplitl [H12]
    · iexists _; isplitr; swap; · iexact H12
      ipureintro; first | (rw [hz12 hc0]; exact (read_store_whole _ _ hz _ _).trans (by rw [readAt_whole harg2 hz]; rw [readAt_whole harg4 hz])) | (rw [hy12 hc0]; exact harg14.read_unread _)
    isplitl [H13]
    · iexists _; isplitr; swap; · iexact H13
      ipureintro; first | (rw [hz13 hc1]; exact (read_store_whole _ _ hz _ _).trans (by rw [readAt_whole harg5 hz])) | (rw [hy13 hc1]; exact harg15.read_unread _)
    isplitl [H14]
    · iexists _; isplitr; swap; · iexact H14
      ipureintro; first | (rw [hz14 hc2]; exact (read_store_whole _ _ hz _ _).trans (by rw [readAt_whole harg6 hz])) | (rw [hy14 hc2]; exact harg16.read_unread _)
    isplitl [H15]
    · iexists _; isplitr; swap; · iexact H15
      ipureintro; exact (read_store_whole _ _ hz _ _).trans (by rw [readAt_whole harg7 hz])
    isplitl [H16]
    · iexists _; isplitr; swap; · iexact H16
      ipureintro; exact (read_store_whole _ _ hz _ _).trans (by rw [readAt_whole harg8 hz])
    isplitl [H17]
    · iexists _; isplitr; swap; · iexact H17
      ipureintro; exact (read_store_whole _ _ hz _ _).trans (by rw [readAt_whole harg9 hz])
    isplitl [H18]
    · iexists _; isplitr; swap; · iexact H18
      ipureintro; exact (read_store_whole _ _ hz _ _).trans (by rw [readAt_whole harg10 hz])
    isplitl [H19]
    · iexists _; isplitr; swap; · iexact H19
      ipureintro; exact (read_store_whole _ _ hz _ _).trans (by rw [readAt_whole harg11 hz])
    iexists _; isplitr; swap; · iexact H20
    ipureintro; exact (read_store_whole _ _ hz _ _).trans (by rw [readAt_whole harg12 hz])

end Cert.KernelIdeal.InProj

end
-- ==== Proof.InProjRun.lean ====
/- One run of the in_proj kernel's body at a grid point, for any values: the four cases together.  Three of the outputs
   are stored under a condition on the point; their contents afterwards are a value that agrees with the store where the
   condition holds and with what was there before where it fails. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.InProjRunA
public import proofs.«01_k».proof.Proof.InProjRunB
public import proofs.«01_k».proof.Proof.InProjRunC
public import proofs.«01_k».proof.Proof.InProjRunD
public import Idealize.ShloMosaic.Init
public import Idealize.ShloMosaic.Lib.Pipeline.Value

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem kernel_run (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S128x4096 .bf16) (harg4 : arg4.IsWhole) (arg5 : Memref sig .tc .vmem S16x4096 .f32) (harg5 : arg5.IsWhole) (arg6 : Memref sig .tc .vmem S16x4096 .f32) (harg6 : arg6.IsWhole) (arg7 : Memref sig .tc .vmem S16x4096 .f32) (harg7 : arg7.IsWhole) (arg8 : Memref sig .tc .vmem S16x4096 .f32) (harg8 : arg8.IsWhole) (arg9 : Memref sig .tc .vmem S16x8192 .f32) (harg9 : arg9.IsWhole) (arg10 : Memref sig .tc .vmem S16x4096 .f32) (harg10 : arg10.IsWhole) (arg11 : Memref sig .tc .vmem S16x16384 .f32) (harg11 : arg11.IsWhole) (arg12 : Memref sig .tc .vmem S64x4096 .f32) (harg12 : arg12.IsWhole) (arg13 : Memref sig .tc .vmem S1024x1024 .f32) (harg13 : arg13.IsWhole) (arg14 : Memref sig .tc .vmem S1024x128 .f32) (harg14 : arg14.IsWhole) (arg15 : Memref sig .tc .vmem S16x4096 .bf16) (harg15 : arg15.IsWhole) (arg16 : Memref sig .tc .vmem S16x4096 .bf16) (harg16 : arg16.IsWhole) (arg17 : Memref sig .tc .vmem S16x4096 .bf16) (harg17 : arg17.IsWhole) (arg18 : Memref sig .tc .vmem S16x4096 .bf16) (harg18 : arg18.IsWhole) (arg19 : Memref sig .tc .vmem S16x8192 .bf16) (harg19 : arg19.IsWhole) (arg20 : Memref sig .tc .vmem S16x4096 .bf16) (harg20 : arg20.IsWhole) (arg21 : Memref sig .tc .vmem S16x16384 .bf16) (harg21 : arg21.IsWhole) (arg22 : Memref sig .tc .vmem S64x4096 .bf16) (harg22 : arg22.IsWhole)
    (h12 : k0_cond2 i = 1#1 ↔ k0_cond3 i = 1#1) (hc3 : k0_cond4 i = 1#1) (hc4 : k0_cond5 i = 1#1) (hc5 : k0_cond6 i = 1#1) (hc6 : k0_cond7 i = 1#1) (hc7 : k0_cond8 i = 1#1) (hc8 : k0_cond9 i = 1#1)
    (x0 : Vec F S1024x4096 .bf16) (x1 : Vec F S1024x4096 .bf16) (x2 : Vec F S128x4096 .bf16) (x3 : Vec F S16x4096 .f32) (x4 : Vec F S16x4096 .f32) (x5 : Vec F S16x4096 .f32) (x6 : Vec F S16x4096 .f32) (x7 : Vec F S16x8192 .f32) (x8 : Vec F S16x4096 .f32) (x9 : Vec F S16x16384 .f32) (x10 : Vec F S64x4096 .f32)
    (y11 : Vec F S1024x1024 .f32) (y12 : Vec F S1024x128 .f32) (y13 : Vec F S16x4096 .bf16) (y14 : Vec F S16x4096 .bf16) (y15 : Vec F S16x4096 .bf16) (y16 : Vec F S16x4096 .bf16) (y17 : Vec F S16x8192 .bf16) (y18 : Vec F S16x4096 .bf16) (y19 : Vec F S16x16384 .bf16) (y20 : Vec F S64x4096 .bf16)
    (z12 : Vec F S1024x128 .f32) (z13 : Vec F S16x4096 .bf16) (z14 : Vec F S16x4096 .bf16)
    (hz12 : k0_cond1 i = 1#1 → z12 = k0_pay4 x0 x2) (hy12 : ¬ k0_cond1 i = 1#1 → z12 = y12) (hz13 : k0_cond2 i = 1#1 → z13 = k0_pay5 x3) (hy13 : ¬ k0_cond2 i = 1#1 → z13 = y13) (hz14 : k0_cond3 i = 1#1 → z14 = k0_pay6 x4) (hy14 : ¬ k0_cond3 i = 1#1 → z14 = y14) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18 ∗ owns (c : Thread nD τ) arg21 fullShare y19 ∗ owns (c : Thread nD τ) arg22 fullShare y20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay3 x0 x1) ∗ owns (c : Thread nD τ) arg14 fullShare z12 ∗ owns (c : Thread nD τ) arg15 fullShare z13 ∗ owns (c : Thread nD τ) arg16 fullShare z14 ∗ owns (c : Thread nD τ) arg17 fullShare (k0_pay7 x5) ∗ owns (c : Thread nD τ) arg18 fullShare (k0_pay8 x6) ∗ owns (c : Thread nD τ) arg19 fullShare (k0_pay9 x7) ∗ owns (c : Thread nD τ) arg20 fullShare (k0_pay10 x8) ∗ owns (c : Thread nD τ) arg21 fullShare (k0_pay1 x9) ∗ owns (c : Thread nD τ) arg22 fullShare (k0_pay2 x10)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases hc0 : k0_cond1 i = 1#1 <;> by_cases hc1 : k0_cond2 i = 1#1
  · exact kernel_run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 (h12.mp hc1) hc3 hc4 hc5 hc6 hc7 hc8 x0 x1 x2 x3 x4 x5 x6 x7 x8 x9 x10 y11 y12 y13 y14 y15 y16 y17 y18 y19 y20 z12 z13 z14 hz12 hy12 hz13 hy13 hz14 hy14
  · exact kernel_run_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 (fun h => hc1 (h12.mpr h)) hc3 hc4 hc5 hc6 hc7 hc8 x0 x1 x2 x3 x4 x5 x6 x7 x8 x9 x10 y11 y12 y13 y14 y15 y16 y17 y18 y19 y20 z12 z13 z14 hz12 hy12 hz13 hy13 hz14 hy14
  · exact kernel_run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 (h12.mp hc1) hc3 hc4 hc5 hc6 hc7 hc8 x0 x1 x2 x3 x4 x5 x6 x7 x8 x9 x10 y11 y12 y13 y14 y15 y16 y17 y18 y19 y20 z12 z13 z14 hz12 hy12 hz13 hy13 hz14 hy14
  · exact kernel_run_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 (fun h => hc1 (h12.mpr h)) hc3 hc4 hc5 hc6 hc7 hc8 x0 x1 x2 x3 x4 x5 x6 x7 x8 x9 x10 y11 y12 y13 y14 y15 y16 y17 y18 y19 y20 z12 z13 z14 hz12 hy12 hz13 hy13 hz14 hy14

end Cert.KernelIdeal.InProj

end
-- ==== Proof.InProjData.lean ====
/- The windows' blocks of the in_proj call at a grid point, index by index, and the contents the body leaves in the
   output windows' buffers; the buffers of the three windows stored under a condition hold, through the points that do
   not store, what the last storing point left. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.InProjBase
public import Idealize.ShloMosaic.Lib.ValueIdxCore
public import Idealize.ShloMosaic.Init
public import Idealize.ShloMosaic.Lib.Pipeline.Value

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first column of the weight that column block `j` of the product is taken from. -/
def colStart (j : ℕ) : ℕ := if j < 2 then 1024 * j else if j < 8 then 1600 + 1024 * (j - 2) else 7776 + 1024 * (j - 8)

theorem idx0 : ∀ t : Fin cfg0.N, win0_0.index t (0 : Fin 2) = t.val / 16 ∧ win0_0.index t (1 : Fin 2) = 0 := (by decide +kernel : ∀ t : Fin grid0.N, _)
theorem idx1 : ∀ t : Fin cfg0.N, win0_1.index t (0 : Fin 2) = colStart (t.val % 16) ∧ win0_1.index t (1 : Fin 2) = 0 := (by decide +kernel : ∀ t : Fin grid0.N, _)
theorem idx2 : ∀ t : Fin cfg0.N, win0_2.index t (0 : Fin 2) = 7744 ∧ win0_2.index t (1 : Fin 2) = 0 := (by decide +kernel : ∀ t : Fin grid0.N, _)
theorem idx11 : ∀ t : Fin cfg0.N, win0_11.index t (0 : Fin 2) = t.val / 16 ∧ win0_11.index t (1 : Fin 2) = t.val % 16 := (by decide +kernel : ∀ t : Fin grid0.N, _)
theorem idx12 : ∀ t : Fin cfg0.N, win0_12.index t (0 : Fin 2) = t.val / 16 ∧ win0_12.index t (1 : Fin 2) = 0 := (by decide +kernel : ∀ t : Fin grid0.N, _)
theorem idx3 : ∀ t : Fin cfg0.N, win0_3.index t (0 : Fin 2) = min t.val 127 ∧ win0_3.index t (1 : Fin 2) = 0 := (by decide +kernel : ∀ t : Fin grid0.N, _)
theorem idx4 : ∀ t : Fin cfg0.N, win0_4.index t (0 : Fin 2) = min t.val 127 ∧ win0_4.index t (1 : Fin 2) = 0 := (by decide +kernel : ∀ t : Fin grid0.N, _)
theorem idx13 : ∀ t : Fin cfg0.N, win0_13.index t (0 : Fin 2) = min t.val 127 ∧ win0_13.index t (1 : Fin 2) = 0 := (by decide +kernel : ∀ t : Fin grid0.N, _)
theorem idx14 : ∀ t : Fin cfg0.N, win0_14.index t (0 : Fin 2) = min t.val 127 ∧ win0_14.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx15 : ∀ t : Fin cfg0.N, win0_15.index t (0 : Fin 2) = t.val ∧ win0_15.index t (1 : Fin 2) = 0 := (by decide +kernel : ∀ t : Fin grid0.N, _)
theorem idx16 : ∀ t : Fin cfg0.N, win0_16.index t (0 : Fin 2) = t.val ∧ win0_16.index t (1 : Fin 2) = 0 := (by decide +kernel : ∀ t : Fin grid0.N, _)
theorem idx17 : ∀ t : Fin cfg0.N, win0_17.index t (0 : Fin 2) = t.val ∧ win0_17.index t (1 : Fin 2) = 0 := (by decide +kernel : ∀ t : Fin grid0.N, _)
theorem idx18 : ∀ t : Fin cfg0.N, win0_18.index t (0 : Fin 2) = t.val ∧ win0_18.index t (1 : Fin 2) = 0 := (by decide +kernel : ∀ t : Fin grid0.N, _)
theorem idx19 : ∀ t : Fin cfg0.N, win0_19.index t (0 : Fin 2) = t.val ∧ win0_19.index t (1 : Fin 2) = 0 := (by decide +kernel : ∀ t : Fin grid0.N, _)
theorem idx20 : ∀ t : Fin cfg0.N, win0_20.index t (0 : Fin 2) = t.val ∧ win0_20.index t (1 : Fin 2) = 0 := (by decide +kernel : ∀ t : Fin grid0.N, _)

/-- The grid has 256 points. -/
theorem lt256 (t : Fin cfg0.N) : t.val < 256 := lt_of_lt_of_eq t.isLt N_0

/-! ## An index of a window's block as an index of its array -/

theorem colStart_le (j : ℕ) (h : j < 16) : colStart j + 1024 ≤ 15968 := by unfold colStart; split <;> [omega; (split <;> omega)]

theorem emb0 (t : Fin cfg0.N) (y : S1024x4096.Idx) :
    ((cfg0.win 0).blk t).view.emb y = (ix2 (⟨t.val / 16 * 1024 + (y 0).val, by have := lt256 t; have : (y 0).val < 1024 := (y 0).isLt; omega⟩ : Fin 16384) ((y 1) : Fin 4096) : S16384x4096.Idx) := by
  obtain ⟨e0, e1⟩ := idx0 t
  funext a; apply Fin.ext
  match a with
  | ⟨0, _⟩ => show win0_0.index t (0 : Fin 2) * 1024 + 1 * (y 0).val = t.val / 16 * 1024 + (y 0).val; omega
  | ⟨1, _⟩ => show win0_0.index t (1 : Fin 2) * 4096 + 1 * (y 1).val = (y 1).val; omega

theorem iblk0_apply (c : Dev nD) (t : Fin cfg0.N) (y : S1024x4096.Idx) : iblk m c 0 t y
    = (V m c main_arg0 : S16384x4096.Idx → Elt F .bf16) (ix2 (⟨t.val / 16 * 1024 + (y 0).val, by have := lt256 t; have : (y 0).val < 1024 := (y 0).isLt; omega⟩ : Fin 16384) ((y 1) : Fin 4096)) :=
  congrArg (V m c main_arg0) (emb0 t y)

theorem emb1 (t : Fin cfg0.N) (y : S1024x4096.Idx) :
    ((cfg0.win 1).blk t).view.emb y = (ix2 (⟨colStart (t.val % 16) + (y 0).val, by have := colStart_le (t.val % 16) (Nat.mod_lt _ (by decide)); have : (y 0).val < 1024 := (y 0).isLt; omega⟩ : Fin 15968) ((y 1) : Fin 4096) : S15968x4096.Idx) := by
  obtain ⟨e0, e1⟩ := idx1 t
  funext a; apply Fin.ext
  match a with
  | ⟨0, _⟩ => show win0_1.index t (0 : Fin 2) + 1 * (y 0).val = colStart (t.val % 16) + (y 0).val; omega
  | ⟨1, _⟩ => show win0_1.index t (1 : Fin 2) + 1 * (y 1).val = (y 1).val; omega

theorem iblk1_apply (c : Dev nD) (t : Fin cfg0.N) (y : S1024x4096.Idx) : iblk m c 1 t y
    = (V m c main_v2 : S15968x4096.Idx → Elt F .bf16) (ix2 (⟨colStart (t.val % 16) + (y 0).val, by have := colStart_le (t.val % 16) (Nat.mod_lt _ (by decide)); have : (y 0).val < 1024 := (y 0).isLt; omega⟩ : Fin 15968) ((y 1) : Fin 4096)) :=
  congrArg (V m c main_v2) (emb1 t y)

theorem emb2 (t : Fin cfg0.N) (y : S128x4096.Idx) :
    ((cfg0.win 2).blk t).view.emb y = (ix2 (⟨7744 + (y 0).val, by have : (y 0).val < 128 := (y 0).isLt; omega⟩ : Fin 15968) ((y 1) : Fin 4096) : S15968x4096.Idx) := by
  obtain ⟨e0, e1⟩ := idx2 t
  funext a; apply Fin.ext
  match a with
  | ⟨0, _⟩ => show win0_2.index t (0 : Fin 2) + 1 * (y 0).val = 7744 + (y 0).val; omega
  | ⟨1, _⟩ => show win0_2.index t (1 : Fin 2) + 1 * (y 1).val = (y 1).val; omega

theorem iblk2_apply (c : Dev nD) (t : Fin cfg0.N) (y : S128x4096.Idx) : iblk m c 2 t y
    = (V m c main_v2 : S15968x4096.Idx → Elt F .bf16) (ix2 (⟨7744 + (y 0).val, by have : (y 0).val < 128 := (y 0).isLt; omega⟩ : Fin 15968) ((y 1) : Fin 4096)) :=
  congrArg (V m c main_v2) (emb2 t y)

theorem emb3 (t : Fin cfg0.N) (y : S16x4096.Idx) :
    ((cfg0.win 3).blk t).view.emb y = (ix2 (⟨min t.val 127 * 16 + (y 0).val, by have := lt256 t; have : (y 0).val < 16 := (y 0).isLt; omega⟩ : Fin 2048) ((y 1) : Fin 4096) : S2048x4096.Idx) := by
  obtain ⟨e0, e1⟩ := idx3 t
  funext a; apply Fin.ext
  match a with
  | ⟨0, _⟩ => show win0_3.index t (0 : Fin 2) * 16 + 1 * (y 0).val = min t.val 127 * 16 + (y 0).val; omega
  | ⟨1, _⟩ => show win0_3.index t (1 : Fin 2) * 4096 + 1 * (y 1).val = (y 1).val; omega

theorem iblk3_apply (c : Dev nD) (t : Fin cfg0.N) (y : S16x4096.Idx) : iblk m c 3 t y
    = (V m c main_v3 : S2048x4096.Idx → Elt F .f32) (ix2 (⟨min t.val 127 * 16 + (y 0).val, by have := lt256 t; have : (y 0).val < 16 := (y 0).isLt; omega⟩ : Fin 2048) ((y 1) : Fin 4096)) :=
  congrArg (V m c main_v3) (emb3 t y)

theorem emb4 (t : Fin cfg0.N) (y : S16x4096.Idx) :
    ((cfg0.win 4).blk t).view.emb y = (ix2 (⟨min t.val 127 * 16 + (y 0).val, by have := lt256 t; have : (y 0).val < 16 := (y 0).isLt; omega⟩ : Fin 2048) ((y 1) : Fin 4096) : S2048x4096.Idx) := by
  obtain ⟨e0, e1⟩ := idx4 t
  funext a; apply Fin.ext
  match a with
  | ⟨0, _⟩ => show win0_4.index t (0 : Fin 2) * 16 + 1 * (y 0).val = min t.val 127 * 16 + (y 0).val; omega
  | ⟨1, _⟩ => show win0_4.index t (1 : Fin 2) * 4096 + 1 * (y 1).val = (y 1).val; omega

theorem iblk4_apply (c : Dev nD) (t : Fin cfg0.N) (y : S16x4096.Idx) : iblk m c 4 t y
    = (V m c main_v4 : S2048x4096.Idx → Elt F .f32) (ix2 (⟨min t.val 127 * 16 + (y 0).val, by have := lt256 t; have : (y 0).val < 16 := (y 0).isLt; omega⟩ : Fin 2048) ((y 1) : Fin 4096)) :=
  congrArg (V m c main_v4) (emb4 t y)

theorem emb5 (t : Fin cfg0.N) (y : S16x4096.Idx) :
    ((cfg0.win 5).blk t).view.emb y = (ix2 (⟨t.val * 16 + (y 0).val, by have := lt256 t; have : (y 0).val < 16 := (y 0).isLt; omega⟩ : Fin 4096) ((y 1) : Fin 4096) : S4096x4096.Idx) := by
  obtain ⟨e0, e1⟩ := idx5 t
  funext a; apply Fin.ext
  match a with
  | ⟨0, _⟩ => show win0_5.index t (0 : Fin 2) * 16 + 1 * (y 0).val = t.val * 16 + (y 0).val; omega
  | ⟨1, _⟩ => show win0_5.index t (1 : Fin 2) * 4096 + 1 * (y 1).val = (y 1).val; omega

theorem iblk5_apply (c : Dev nD) (t : Fin cfg0.N) (y : S16x4096.Idx) : iblk m c 5 t y
    = (V m c main_v5 : S4096x4096.Idx → Elt F .f32) (ix2 (⟨t.val * 16 + (y 0).val, by have := lt256 t; have : (y 0).val < 16 := (y 0).isLt; omega⟩ : Fin 4096) ((y 1) : Fin 4096)) :=
  congrArg (V m c main_v5) (emb5 t y)

theorem emb6 (t : Fin cfg0.N) (y : S16x4096.Idx) :
    ((cfg0.win 6).blk t).view.emb y = (ix2 (⟨t.val * 16 + (y 0).val, by have := lt256 t; have : (y 0).val < 16 := (y 0).isLt; omega⟩ : Fin 4096) ((y 1) : Fin 4096) : S4096x4096.Idx) := by
  obtain ⟨e0, e1⟩ := idx6 t
  funext a; apply Fin.ext
  match a with
  | ⟨0, _⟩ => show win0_6.index t (0 : Fin 2) * 16 + 1 * (y 0).val = t.val * 16 + (y 0).val; omega
  | ⟨1, _⟩ => show win0_6.index t (1 : Fin 2) * 4096 + 1 * (y 1).val = (y 1).val; omega

theorem iblk6_apply (c : Dev nD) (t : Fin cfg0.N) (y : S16x4096.Idx) : iblk m c 6 t y
    = (V m c main_v6 : S4096x4096.Idx → Elt F .f32) (ix2 (⟨t.val * 16 + (y 0).val, by have := lt256 t; have : (y 0).val < 16 := (y 0).isLt; omega⟩ : Fin 4096) ((y 1) : Fin 4096)) :=
  congrArg (V m c main_v6) (emb6 t y)

theorem emb7 (t : Fin cfg0.N) (y : S16x8192.Idx) :
    ((cfg0.win 7).blk t).view.emb y = (ix2 (⟨t.val * 16 + (y 0).val, by have := lt256 t; have : (y 0).val < 16 := (y 0).isLt; omega⟩ : Fin 4096) ((y 1) : Fin 8192) : S4096x8192.Idx) := by
  obtain ⟨e0, e1⟩ := idx7 t
  funext a; apply Fin.ext
  match a with
  | ⟨0, _⟩ => show win0_7.index t (0 : Fin 2) * 16 + 1 * (y 0).val = t.val * 16 + (y 0).val; omega
  | ⟨1, _⟩ => show win0_7.index t (1 : Fin 2) * 8192 + 1 * (y 1).val = (y 1).val; omega

theorem iblk7_apply (c : Dev nD) (t : Fin cfg0.N) (y : S16x8192.Idx) : iblk m c 7 t y
    = (V m c main_v7 : S4096x8192.Idx → Elt F .f32) (ix2 (⟨t.val * 16 + (y 0).val, by have := lt256 t; have : (y 0).val < 16 := (y 0).isLt; omega⟩ : Fin 4096) ((y 1) : Fin 8192)) :=
  congrArg (V m c main_v7) (emb7 t y)

theorem emb8 (t : Fin cfg0.N) (y : S16x4096.Idx) :
    ((cfg0.win 8).blk t).view.emb y = (ix2 (⟨t.val * 16 + (y 0).val, by have := lt256 t; have : (y 0).val < 16 := (y 0).isLt; omega⟩ : Fin 4096) ((y 1) : Fin 4096) : S4096x4096.Idx) := by
  obtain ⟨e0, e1⟩ := idx8 t
  funext a; apply Fin.ext
  match a with
  | ⟨0, _⟩ => show win0_8.index t (0 : Fin 2) * 16 + 1 * (y 0).val = t.val * 16 + (y 0).val; omega
  | ⟨1, _⟩ => show win0_8.index t (1 : Fin 2) * 4096 + 1 * (y 1).val = (y 1).val; omega

theorem iblk8_apply (c : Dev nD) (t : Fin cfg0.N) (y : S16x4096.Idx) : iblk m c 8 t y
    = (V m c main_v8 : S4096x4096.Idx → Elt F .f32) (ix2 (⟨t.val * 16 + (y 0).val, by have := lt256 t; have : (y 0).val < 16 := (y 0).isLt; omega⟩ : Fin 4096) ((y 1) : Fin 4096)) :=
  congrArg (V m c main_v8) (emb8 t y)

theorem emb9 (t : Fin cfg0.N) (y : S16x16384.Idx) :
    ((cfg0.win 9).blk t).view.emb y = (ix2 (⟨t.val * 16 + (y 0).val, by have := lt256 t; have : (y 0).val < 16 := (y 0).isLt; omega⟩ : Fin 4096) ((y 1) : Fin 16384) : S4096x16384.Idx) := by
  obtain ⟨e0, e1⟩ := idx9 t
  funext a; apply Fin.ext
  match a with
  | ⟨0, _⟩ => show win0_9.index t (0 : Fin 2) * 16 + 1 * (y 0).val = t.val * 16 + (y 0).val; omega
  | ⟨1, _⟩ => show win0_9.index t (1 : Fin 2) * 16384 + 1 * (y 1).val = (y 1).val; omega

theorem iblk9_apply (c : Dev nD) (t : Fin cfg0.N) (y : S16x16384.Idx) : iblk m c 9 t y
    = (V m c main_v9 : S4096x16384.Idx → Elt F .f32) (ix2 (⟨t.val * 16 + (y 0).val, by have := lt256 t; have : (y 0).val < 16 := (y 0).isLt; omega⟩ : Fin 4096) ((y 1) : Fin 16384)) :=
  congrArg (V m c main_v9) (emb9 t y)

theorem emb10 (t : Fin cfg0.N) (y : S64x4096.Idx) :
    ((cfg0.win 10).blk t).view.emb y = (ix2 (⟨t.val * 64 + (y 0).val, by have := lt256 t; have : (y 0).val < 64 := (y 0).isLt; omega⟩ : Fin 16384) ((y 1) : Fin 4096) : S16384x4096.Idx) := by
  obtain ⟨e0, e1⟩ := idx10 t
  funext a; apply Fin.ext
  match a with
  | ⟨0, _⟩ => show win0_10.index t (0 : Fin 2) * 64 + 1 * (y 0).val = t.val * 64 + (y 0).val; omega
  | ⟨1, _⟩ => show win0_10.index t (1 : Fin 2) * 4096 + 1 * (y 1).val = (y 1).val; omega

theorem iblk10_apply (c : Dev nD) (t : Fin cfg0.N) (y : S64x4096.Idx) : iblk m c 10 t y
    = (V m c main_v10 : S16384x4096.Idx → Elt F .f32) (ix2 (⟨t.val * 64 + (y 0).val, by have := lt256 t; have : (y 0).val < 64 := (y 0).isLt; omega⟩ : Fin 16384) ((y 1) : Fin 4096)) :=
  congrArg (V m c main_v10) (emb10 t y)

theorem emb11 (t : Fin cfg0.N) (y : S1024x1024.Idx) :
    ((cfg0.win 11).blk t).view.emb y = (ix2 (⟨t.val / 16 * 1024 + (y 0).val, by have := lt256 t; have : (y 0).val < 1024 := (y 0).isLt; omega⟩ : Fin 16384) (⟨t.val % 16 * 1024 + (y 1).val, by have : (y 1).val < 1024 := (y 1).isLt; omega⟩ : Fin 16384) : S16384x16384.Idx) := by
  obtain ⟨e0, e1⟩ := idx11 t
  funext a; apply Fin.ext
  match a with
  | ⟨0, _⟩ => show win0_11.index t (0 : Fin 2) * 1024 + 1 * (y 0).val = t.val / 16 * 1024 + (y 0).val; omega
  | ⟨1, _⟩ => show win0_11.index t (1 : Fin 2) * 1024 + 1 * (y 1).val = t.val % 16 * 1024 + (y 1).val; omega

theorem emb12 (t : Fin cfg0.N) (y : S1024x128.Idx) :
    ((cfg0.win 12).blk t).view.emb y = (ix2 (⟨t.val / 16 * 1024 + (y 0).val, by have := lt256 t; have : (y 0).val < 1024 := (y 0).isLt; omega⟩ : Fin 16384) ((y 1) : Fin 128) : S16384x128.Idx) := by
  obtain ⟨e0, e1⟩ := idx12 t
  funext a; apply Fin.ext
  match a with
  | ⟨0, _⟩ => show win0_12.index t (0 : Fin 2) * 1024 + 1 * (y 0).val = t.val / 16 * 1024 + (y 0).val; omega
  | ⟨1, _⟩ => show win0_12.index t (1 : Fin 2) * 128 + 1 * (y 1).val = (y 1).val; omega

theorem emb13 (t : Fin cfg0.N) (y : S16x4096.Idx) :
    ((cfg0.win 13).blk t).view.emb y = (ix2 (⟨min t.val 127 * 16 + (y 0).val, by have := lt256 t; have : (y 0).val < 16 := (y 0).isLt; omega⟩ : Fin 2048) ((y 1) : Fin 4096) : S2048x4096.Idx) := by
  obtain ⟨e0, e1⟩ := idx13 t
  funext a; apply Fin.ext
  match a with
  | ⟨0, _⟩ => show win0_13.index t (0 : Fin 2) * 16 + 1 * (y 0).val = min t.val 127 * 16 + (y 0).val; omega
  | ⟨1, _⟩ => show win0_13.index t (1 : Fin 2) * 4096 + 1 * (y 1).val = (y 1).val; omega

theorem emb14 (t : Fin cfg0.N) (y : S16x4096.Idx) :
    ((cfg0.win 14).blk t).view.emb y = (ix2 (⟨min t.val 127 * 16 + (y 0).val, by have := lt256 t; have : (y 0).val < 16 := (y 0).isLt; omega⟩ : Fin 2048) ((y 1) : Fin 4096) : S2048x4096.Idx) := by
  obtain ⟨e0, e1⟩ := idx14 t
  funext a; apply Fin.ext
  match a with
  | ⟨0, _⟩ => show win0_14.index t (0 : Fin 2) * 16 + 1 * (y 0).val = min t.val 127 * 16 + (y 0).val; omega
  | ⟨1, _⟩ => show win0_14.index t (1 : Fin 2) * 4096 + 1 * (y 1).val = (y 1).val; omega

theorem emb15 (t : Fin cfg0.N) (y : S16x4096.Idx) :
    ((cfg0.win 15).blk t).view.emb y = (ix2 (⟨t.val * 16 + (y 0).val, by have := lt256 t; have : (y 0).val < 16 := (y 0).isLt; omega⟩ : Fin 4096) ((y 1) : Fin 4096) : S4096x4096.Idx) := by
  obtain ⟨e0, e1⟩ := idx15 t
  funext a; apply Fin.ext
  match a with
  | ⟨0, _⟩ => show win0_15.index t (0 : Fin 2) * 16 + 1 * (y 0).val = t.val * 16 + (y 0).val; omega
  | ⟨1, _⟩ => show win0_15.index t (1 : Fin 2) * 4096 + 1 * (y 1).val = (y 1).val; omega

theorem emb16 (t : Fin cfg0.N) (y : S16x4096.Idx) :
    ((cfg0.win 16).blk t).view.emb y = (ix2 (⟨t.val * 16 + (y 0).val, by have := lt256 t; have : (y 0).val < 16 := (y 0).isLt; omega⟩ : Fin 4096) ((y 1) : Fin 4096) : S4096x4096.Idx) := by
  obtain ⟨e0, e1⟩ := idx16 t
  funext a; apply Fin.ext
  match a with
  | ⟨0, _⟩ => show win0_16.index t (0 : Fin 2) * 16 + 1 * (y 0).val = t.val * 16 + (y 0).val; omega
  | ⟨1, _⟩ => show win0_16.index t (1 : Fin 2) * 4096 + 1 * (y 1).val = (y 1).val; omega

theorem emb17 (t : Fin cfg0.N) (y : S16x8192.Idx) :
    ((cfg0.win 17).blk t).view.emb y = (ix2 (⟨t.val * 16 + (y 0).val, by have := lt256 t; have : (y 0).val < 16 := (y 0).isLt; omega⟩ : Fin 4096) ((y 1) : Fin 8192) : S4096x8192.Idx) := by
  obtain ⟨e0, e1⟩ := idx17 t
  funext a; apply Fin.ext
  match a with
  | ⟨0, _⟩ => show win0_17.index t (0 : Fin 2) * 16 + 1 * (y 0).val = t.val * 16 + (y 0).val; omega
  | ⟨1, _⟩ => show win0_17.index t (1 : Fin 2) * 8192 + 1 * (y 1).val = (y 1).val; omega

theorem emb18 (t : Fin cfg0.N) (y : S16x4096.Idx) :
    ((cfg0.win 18).blk t).view.emb y = (ix2 (⟨t.val * 16 + (y 0).val, by have := lt256 t; have : (y 0).val < 16 := (y 0).isLt; omega⟩ : Fin 4096) ((y 1) : Fin 4096) : S4096x4096.Idx) := by
  obtain ⟨e0, e1⟩ := idx18 t
  funext a; apply Fin.ext
  match a with
  | ⟨0, _⟩ => show win0_18.index t (0 : Fin 2) * 16 + 1 * (y 0).val = t.val * 16 + (y 0).val; omega
  | ⟨1, _⟩ => show win0_18.index t (1 : Fin 2) * 4096 + 1 * (y 1).val = (y 1).val; omega

theorem emb19 (t : Fin cfg0.N) (y : S16x16384.Idx) :
    ((cfg0.win 19).blk t).view.emb y = (ix2 (⟨t.val * 16 + (y 0).val, by have := lt256 t; have : (y 0).val < 16 := (y 0).isLt; omega⟩ : Fin 4096) ((y 1) : Fin 16384) : S4096x16384.Idx) := by
  obtain ⟨e0, e1⟩ := idx19 t
  funext a; apply Fin.ext
  match a with
  | ⟨0, _⟩ => show win0_19.index t (0 : Fin 2) * 16 + 1 * (y 0).val = t.val * 16 + (y 0).val; omega
  | ⟨1, _⟩ => show win0_19.index t (1 : Fin 2) * 16384 + 1 * (y 1).val = (y 1).val; omega

theorem emb20 (t : Fin cfg0.N) (y : S64x4096.Idx) :
    ((cfg0.win 20).blk t).view.emb y = (ix2 (⟨t.val * 64 + (y 0).val, by have := lt256 t; have : (y 0).val < 64 := (y 0).isLt; omega⟩ : Fin 16384) ((y 1) : Fin 4096) : S16384x4096.Idx) := by
  obtain ⟨e0, e1⟩ := idx20 t
  funext a; apply Fin.ext
  match a with
  | ⟨0, _⟩ => show win0_20.index t (0 : Fin 2) * 64 + 1 * (y 0).val = t.val * 64 + (y 0).val; omega
  | ⟨1, _⟩ => show win0_20.index t (1 : Fin 2) * 4096 + 1 * (y 1).val = (y 1).val; omega

theorem iblk0_congr (c : Dev nD) (t t' : Fin cfg0.N) (h : t.val / 16 = t'.val / 16) :
    (iblk m c 0 t : S1024x4096.Idx → Elt F .bf16) = iblk m c 0 t' := by
  funext y
  refine (iblk0_apply m c t y).trans (Eq.trans ?_ (iblk0_apply m c t' y).symm)
  simp only [h]

theorem iblk2_congr (c : Dev nD) (t t' : Fin cfg0.N)  :
    (iblk m c 2 t : S128x4096.Idx → Elt F .bf16) = iblk m c 2 t' := by
  funext y
  refine (iblk2_apply m c t y).trans (Eq.trans ?_ (iblk2_apply m c t' y).symm)
  rfl

theorem iblk3_congr (c : Dev nD) (t t' : Fin cfg0.N) (h : min t.val 127 = min t'.val 127) :
    (iblk m c 3 t : S16x4096.Idx → Elt F .f32) = iblk m c 3 t' := by
  funext y
  refine (iblk3_apply m c t y).trans (Eq.trans ?_ (iblk3_apply m c t' y).symm)
  simp only [h]

theorem iblk4_congr (c : Dev nD) (t t' : Fin cfg0.N) (h : min t.val 127 = min t'.val 127) :
    (iblk m c 4 t : S16x4096.Idx → Elt F .f32) = iblk m c 4 t' := by
  funext y
  refine (iblk4_apply m c t y).trans (Eq.trans ?_ (iblk4_apply m c t' y).symm)
  simp only [h]

/-! ## What the body leaves -/

/-- The proof data of the call's pipeline on core `c`: each input's buffer at its block, each output's at what the body
    stores of the point's blocks, or stored at the last point that stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => k0_pay3 (iblk m c 0 t) (iblk m c 1 t)
    | ⟨12, _⟩ => k0_pay4 (iblk m c 0 t) (iblk m c 2 t)
    | ⟨13, _⟩ => k0_pay5 (iblk m c 3 t)
    | ⟨14, _⟩ => k0_pay6 (iblk m c 4 t)
    | ⟨15, _⟩ => k0_pay7 (iblk m c 5 t)
    | ⟨16, _⟩ => k0_pay8 (iblk m c 6 t)
    | ⟨17, _⟩ => k0_pay9 (iblk m c 7 t)
    | ⟨18, _⟩ => k0_pay10 (iblk m c 8 t)
    | ⟨19, _⟩ => k0_pay1 (iblk m c 9 t)
    | ⟨20, _⟩ => k0_pay2 (iblk m c 10 t)
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = k0_pay3 (iblk m c 0 t) (iblk m c 1 t) := by dsimp only [dats]
theorem after0_12 (c : Dev nD) (t : Fin cfg0.N) : (dats m 0 c).after 12 t = k0_pay4 (iblk m c 0 t) (iblk m c 2 t) := by dsimp only [dats]
theorem after0_13 (c : Dev nD) (t : Fin cfg0.N) : (dats m 0 c).after 13 t = k0_pay5 (iblk m c 3 t) := by dsimp only [dats]
theorem after0_14 (c : Dev nD) (t : Fin cfg0.N) : (dats m 0 c).after 14 t = k0_pay6 (iblk m c 4 t) := by dsimp only [dats]
theorem after0_15 (c : Dev nD) (t : Fin cfg0.N) : (dats m 0 c).after 15 t = k0_pay7 (iblk m c 5 t) := by dsimp only [dats]
theorem after0_16 (c : Dev nD) (t : Fin cfg0.N) : (dats m 0 c).after 16 t = k0_pay8 (iblk m c 6 t) := by dsimp only [dats]
theorem after0_17 (c : Dev nD) (t : Fin cfg0.N) : (dats m 0 c).after 17 t = k0_pay9 (iblk m c 7 t) := by dsimp only [dats]
theorem after0_18 (c : Dev nD) (t : Fin cfg0.N) : (dats m 0 c).after 18 t = k0_pay10 (iblk m c 8 t) := by dsimp only [dats]
theorem after0_19 (c : Dev nD) (t : Fin cfg0.N) : (dats m 0 c).after 19 t = k0_pay1 (iblk m c 9 t) := by dsimp only [dats]
theorem after0_20 (c : Dev nD) (t : Fin cfg0.N) : (dats m 0 c).after 20 t = k0_pay2 (iblk m c 10 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d

/-- An output window whose idle points follow points that do not write back and leave the same contents: at an idle
    point its buffer holds those. -/
theorem before_idle {cfg : Cfg sig Λ₀} {c : Dev nD} (dat : Dat τ (Elt F) Unit ℕ (UR sig nD τ) ℕ cfg c) (w : Fin cfg.W)
    (hw : (cfg.win w).isOut = true) (hclip : ∀ (i : cfg.grid.Coords) a, (cfg.win w).clip i a = none)
    (h : ∀ (t : Fin cfg.N), cfg.idle w (cfg.grid.coords t) = true → t.val ≠ 0
      ∧ (cfg.win w).flush ⟨t.val - 1, Nat.lt_of_le_of_lt (Nat.sub_le _ _) t.isLt⟩ = false
      ∧ dat.after w ⟨t.val - 1, Nat.lt_of_le_of_lt (Nat.sub_le _ _) t.isLt⟩ = dat.after w t) (d) :
    ∀ (n : ℕ) (t : Fin cfg.N), t.val = n → cfg.idle w (cfg.grid.coords t) = true → dat.before w t d = dat.after w t := by
  intro n
  induction n with
  | zero => intro t ht hi; exact absurd ht (h t hi).1
  | succ n ih =>
    intro t ht hi
    obtain ⟨h0, hf, ha⟩ := h t hi
    rw [dat.before_of_pos w t h0 ((cfg.win w).fetch_out hw t), hf, if_neg Bool.false_ne_true, ← ha]
    unfold Dat.left
    cases hi' : cfg.idle w (cfg.grid.coords ⟨t.val - 1, Nat.lt_of_le_of_lt (Nat.sub_le _ _) t.isLt⟩) with
    | true => exact ih _ (by show t.val - 1 = n; omega) hi'
    | false =>
      dsimp only
      unfold Dat.kept
      rw [Pipeline.fill_of_clip_none w _ (hclip _) d (dat.after w _), Window.fill_cut]

/-- The body's post for a window whose buffer is at the stated contents, where at an idle point those are what it found. -/
theorem leaves_of_after {cfg : Cfg sig Λ₀} {c : Dev nD} (dat : Dat τ (Elt F) Unit ℕ (UR sig nD τ) ℕ cfg c) (w : Fin cfg.W) (t : Fin cfg.N) (d)
    (h : cfg.idle w (cfg.grid.coords t) = true → dat.before w t d = dat.after w t) :
    (owns (c : Thread nD τ) ((cfg.win w).stage (cfg.slots t w)) fullShare (dat.after w t) : sProp 𝕄) ⊢ dat.leavesExact w t := by
  unfold Dat.leavesExact
  cases hi : cfg.idle w (cfg.grid.coords t) with
  | false => exact .rfl
  | true =>
    cases (cfg.win w).flush t with
    | true => exact .rfl
    | false =>
      rw [← h hi]
      iintro H; iexists d; iexact H

theorem hcond1 : ∀ t : Fin cfg0.N, k0_cond1 (grid0.coords t) = 1#1 ↔ t.val % 16 = 0 := (by decide +kernel : ∀ t : Fin grid0.N, _)
theorem hcond2 : ∀ t : Fin cfg0.N, k0_cond2 (grid0.coords t) = 1#1 ↔ t.val < 128 := (by decide +kernel : ∀ t : Fin grid0.N, _)
theorem hcond3 : ∀ t : Fin cfg0.N, k0_cond3 (grid0.coords t) = 1#1 ↔ t.val < 128 := (by decide +kernel : ∀ t : Fin grid0.N, _)
theorem hcond4 : ∀ t : Fin cfg0.N, k0_cond4 (grid0.coords t) = 1#1 := (by decide +kernel : ∀ t : Fin grid0.N, _)
theorem hcond5 : ∀ t : Fin cfg0.N, k0_cond5 (grid0.coords t) = 1#1 := (by decide +kernel : ∀ t : Fin grid0.N, _)
theorem hcond6 : ∀ t : Fin cfg0.N, k0_cond6 (grid0.coords t) = 1#1 := (by decide +kernel : ∀ t : Fin grid0.N, _)
theorem hcond7 : ∀ t : Fin cfg0.N, k0_cond7 (grid0.coords t) = 1#1 := (by decide +kernel : ∀ t : Fin grid0.N, _)
theorem hcond8 : ∀ t : Fin cfg0.N, k0_cond8 (grid0.coords t) = 1#1 := (by decide +kernel : ∀ t : Fin grid0.N, _)
theorem hcond9 : ∀ t : Fin cfg0.N, k0_cond9 (grid0.coords t) = 1#1 := (by decide +kernel : ∀ t : Fin grid0.N, _)
theorem flush13 : ∀ t : Fin cfg0.N, (cfg0.win 13).flush t = true ↔ t.val < 127 ∨ t.val = 255 := (by decide +kernel : ∀ t : Fin grid0.N, win0_13.flush t = true ↔ _)
theorem flush14 : ∀ t : Fin cfg0.N, (cfg0.win 14).flush t = true ↔ t.val < 127 ∨ t.val = 255 := (by decide +kernel : ∀ t : Fin grid0.N, win0_14.flush t = true ↔ _)

theorem idle12 (t : Fin cfg0.N) : cfg0.idle 12 (cfg0.grid.coords t) = true ↔ ¬ t.val % 16 = 0 := by
  rw [← hcond1 t]
  show (!(k0_cond1 (grid0.coords t) == 1#1)) = true ↔ _
  simp

theorem idle13 (t : Fin cfg0.N) : cfg0.idle 13 (cfg0.grid.coords t) = true ↔ ¬ t.val < 128 := by
  rw [← hcond2 t]
  show (!(k0_cond2 (grid0.coords t) == 1#1)) = true ↔ _
  simp

theorem idle14 (t : Fin cfg0.N) : cfg0.idle 14 (cfg0.grid.coords t) = true ↔ ¬ t.val < 128 := by
  rw [← hcond3 t]
  show (!(k0_cond3 (grid0.coords t) == 1#1)) = true ↔ _
  simp

theorem before12 (c : Dev nD) (t : Fin cfg0.N) (d) (hi : cfg0.idle 12 (cfg0.grid.coords t) = true) :
    (dats m 0 c).before 12 t d = (dats m 0 c).after 12 t :=
  before_idle (dats m 0 c) 12 rfl (fun _ _ => rfl) (fun t hi => by
    have h0 := (idle12 t).mp hi
    have hN := lt256 t
    refine ⟨by omega, ?_, ?_⟩
    · refine Bool.eq_false_iff.mpr fun hf => ?_
      have := (flush0_12 ⟨t.val - 1, Nat.lt_of_le_of_lt (Nat.sub_le _ _) t.isLt⟩).mp hf
      dsimp only at this; omega
    · rw [after0_12, after0_12, iblk0_congr m c _ t (by dsimp only; omega), iblk2_congr m c _ t]) d t.val t rfl hi

theorem before13 (c : Dev nD) (t : Fin cfg0.N) (d) (hi : cfg0.idle 13 (cfg0.grid.coords t) = true) :
    (dats m 0 c).before 13 t d = (dats m 0 c).after 13 t :=
  before_idle (dats m 0 c) 13 rfl (fun _ _ => rfl) (fun t hi => by
    have h0 := (idle13 t).mp hi
    have hN := lt256 t
    refine ⟨by omega, ?_, ?_⟩
    · refine Bool.eq_false_iff.mpr fun hf => ?_
      have := (flush13 ⟨t.val - 1, Nat.lt_of_le_of_lt (Nat.sub_le _ _) t.isLt⟩).mp hf
      dsimp only at this; omega
    · rw [after0_13, after0_13, iblk3_congr m c _ t (by dsimp only; omega)]) d t.val t rfl hi

theorem before14 (c : Dev nD) (t : Fin cfg0.N) (d) (hi : cfg0.idle 14 (cfg0.grid.coords t) = true) :
    (dats m 0 c).before 14 t d = (dats m 0 c).after 14 t :=
  before_idle (dats m 0 c) 14 rfl (fun _ _ => rfl) (fun t hi => by
    have h0 := (idle14 t).mp hi
    have hN := lt256 t
    refine ⟨by omega, ?_, ?_⟩
    · refine Bool.eq_false_iff.mpr fun hf => ?_
      have := (flush14 ⟨t.val - 1, Nat.lt_of_le_of_lt (Nat.sub_le _ _) t.isLt⟩).mp hf
      dsimp only at this; omega
    · rw [after0_14, after0_14, iblk4_congr m c _ t (by dsimp only; omega)]) d t.val t rfl hi

end Cert.KernelIdeal.InProj

end
-- ==== Proof.InProjFrame.lean ====
/- The in_proj call: the body obligation at every point and the run of the whole program, every output array named. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.InProjRun
public import proofs.«01_k».proof.Proof.InProjData
public import Idealize.ShloMosaic.Init
public import Idealize.ShloMosaic.Lib.Pipeline.Value

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem live15 (t : Fin cfg0.N) : cfg0.idle 15 (cfg0.grid.coords t) = false := by
  show (!(k0_cond4 (grid0.coords t) == 1#1)) = false
  rw [hcond4 t]; rfl
theorem live16 (t : Fin cfg0.N) : cfg0.idle 16 (cfg0.grid.coords t) = false := by
  show (!(k0_cond5 (grid0.coords t) == 1#1)) = false
  rw [hcond5 t]; rfl
theorem live17 (t : Fin cfg0.N) : cfg0.idle 17 (cfg0.grid.coords t) = false := by
  show (!(k0_cond6 (grid0.coords t) == 1#1)) = false
  rw [hcond6 t]; rfl
theorem live18 (t : Fin cfg0.N) : cfg0.idle 18 (cfg0.grid.coords t) = false := by
  show (!(k0_cond7 (grid0.coords t) == 1#1)) = false
  rw [hcond7 t]; rfl
theorem live19 (t : Fin cfg0.N) : cfg0.idle 19 (cfg0.grid.coords t) = false := by
  show (!(k0_cond8 (grid0.coords t) == 1#1)) = false
  rw [hcond8 t]; rfl
theorem live20 (t : Fin cfg0.N) : cfg0.idle 20 (cfg0.grid.coords t) = false := by
  show (!(k0_cond9 (grid0.coords t) == 1#1)) = false
  rw [hcond9 t]; rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (kernel_run c (grid0.coords t) _ _ _ _ _ _ _ _ _ _ _ _ _ _ _ _ _ _ _ _ _ _ _ _ _ _ _ _ _ _ _ _ _ _ _ _ _ _ _ _ _ _ ((hcond2 t).trans (hcond3 t).symm) (hcond4 t) (hcond5 t) (hcond6 t) (hcond7 t) (hcond8 t) (hcond9 t) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18) ((dats m 0 c).before 19 t d19) ((dats m 0 c).before 20 t d20) ((dats m 0 c).after 12 t) ((dats m 0 c).after 13 t) ((dats m 0 c).after 14 t) (fun _ => after0_12 m c t) (fun h => (before12 m c t d12 ((idle12 t).mpr fun h' => h ((hcond1 t).mpr h'))).symm) (fun _ => after0_13 m c t) (fun h => (before13 m c t d13 ((idle13 t).mpr fun h' => h ((hcond2 t).mpr h'))).symm) (fun _ => after0_14 m c t) (fun h => (before14 m c t d14 ((idle14 t).mpr fun h' => h ((hcond3 t).mpr h'))).symm) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]
  · iapply (leaves_of_after (dats m 0 c) 0 t d0 (fun h => Bool.noConfusion ((show false = true from h)))); rw [after0_0]; iexact H0
  isplitl [H1]
  · iapply (leaves_of_after (dats m 0 c) 1 t d1 (fun h => Bool.noConfusion ((show false = true from h)))); rw [after0_1]; iexact H1
  isplitl [H2]
  · iapply (leaves_of_after (dats m 0 c) 2 t d2 (fun h => Bool.noConfusion ((show false = true from h)))); rw [after0_2]; iexact H2
  isplitl [H3]
  · iapply (leaves_of_after (dats m 0 c) 3 t d3 (fun h => Bool.noConfusion ((show false = true from h)))); rw [after0_3]; iexact H3
  isplitl [H4]
  · iapply (leaves_of_after (dats m 0 c) 4 t d4 (fun h => Bool.noConfusion ((show false = true from h)))); rw [after0_4]; iexact H4
  isplitl [H5]
  · iapply (leaves_of_after (dats m 0 c) 5 t d5 (fun h => Bool.noConfusion ((show false = true from h)))); rw [after0_5]; iexact H5
  isplitl [H6]
  · iapply (leaves_of_after (dats m 0 c) 6 t d6 (fun h => Bool.noConfusion ((show false = true from h)))); rw [after0_6]; iexact H6
  isplitl [H7]
  · iapply (leaves_of_after (dats m 0 c) 7 t d7 (fun h => Bool.noConfusion ((show false = true from h)))); rw [after0_7]; iexact H7
  isplitl [H8]
  · iapply (leaves_of_after (dats m 0 c) 8 t d8 (fun h => Bool.noConfusion ((show false = true from h)))); rw [after0_8]; iexact H8
  isplitl [H9]
  · iapply (leaves_of_after (dats m 0 c) 9 t d9 (fun h => Bool.noConfusion ((show false = true from h)))); rw [after0_9]; iexact H9
  isplitl [H10]
  · iapply (leaves_of_after (dats m 0 c) 10 t d10 (fun h => Bool.noConfusion ((show false = true from h)))); rw [after0_10]; iexact H10
  isplitl [H11]
  · iapply (leaves_of_after (dats m 0 c) 11 t d11 (fun h => Bool.noConfusion ((show false = true from h)))); rw [after0_11]; iexact H11
  isplitl [H12]
  · iapply (leaves_of_after (dats m 0 c) 12 t d12 (before12 m c t d12)); iexact H12
  isplitl [H13]
  · iapply (leaves_of_after (dats m 0 c) 13 t d13 (before13 m c t d13)); iexact H13
  isplitl [H14]
  · iapply (leaves_of_after (dats m 0 c) 14 t d14 (before14 m c t d14)); iexact H14
  isplitl [H15]
  · iapply (leaves_of_after (dats m 0 c) 15 t d15 (fun h => Bool.noConfusion ((live15 t).symm.trans h))); rw [after0_15]; iexact H15
  isplitl [H16]
  · iapply (leaves_of_after (dats m 0 c) 16 t d16 (fun h => Bool.noConfusion ((live16 t).symm.trans h))); rw [after0_16]; iexact H16
  isplitl [H17]
  · iapply (leaves_of_after (dats m 0 c) 17 t d17 (fun h => Bool.noConfusion ((live17 t).symm.trans h))); rw [after0_17]; iexact H17
  isplitl [H18]
  · iapply (leaves_of_after (dats m 0 c) 18 t d18 (fun h => Bool.noConfusion ((live18 t).symm.trans h))); rw [after0_18]; iexact H18
  isplitl [H19]
  · iapply (leaves_of_after (dats m 0 c) 19 t d19 (fun h => Bool.noConfusion ((live19 t).symm.trans h))); rw [after0_19]; iexact H19
  · iapply (leaves_of_after (dats m 0 c) 20 t d20 (fun h => Bool.noConfusion ((live20 t).symm.trans h))); rw [after0_20]; iexact H20

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the theorem's implicit arguments are found by unifying its conclusion with this one
set_option backward.isDefEq.respectTransparency.types false in
set_option maxHeartbeats 800000 in
/-- The whole run: every window's array at its contents after the last point, every other buffer as the host operations
    leave it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.InProj

end
-- ==== Proof.InProjTail.lean ====
/- What the host operations around the in_proj call leave: the arrays that the call finds as functions of the arguments,
   and the slices after it as functions of the two product arrays; and the whole run with every result named. -/
module

public import proofs.«01_k».proof.Proof.InProjFrame
public import Idealize.ShloMosaic.Lib.Pipeline.FrameTail

@[expose] public section

set_option maxRecDepth 16384

noncomputable section

namespace Cert.KernelIdeal.InProj

open Idealize.ShloMosaic Idealize.ShloMosaic.TcCoe Idealize.ShloMosaic.Tactic
open Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg)

/-! ## Before the call -/

theorem V_v2 (c : Dev nD) : V m c main_v2 = truncf .bf16 (transpose S15968x4096 [1, 0]
    (shapeCast _ (m ((c.tc : Thread nD τ).loc main_arg1)) shapeCasts_S1x4096x15968_S4096x15968) transposes_S4096x15968_S15968x4096_1_0) bitsLt_bf16_f32 := by
  show StableHlo.after (List.flatten [hostOps0]) (fun b => m (c, b)) (Proc.devRef .tc main_v2) = _
  simp only [List.flatten_cons, List.flatten_nil, List.append_nil]
  after_results <;> rfl

theorem V_v3 (c : Dev nD) : V m c main_v3 = shapeCast _ (m ((c.tc : Thread nD τ).loc main_arg2)) shapeCasts_S1x2048x4096_S2048x4096 := by
  show StableHlo.after (List.flatten [hostOps0]) (fun b => m (c, b)) (Proc.devRef .tc main_v3) = _
  simp only [List.flatten_cons, List.flatten_nil, List.append_nil]
  after_results <;> rfl

theorem V_v4 (c : Dev nD) : V m c main_v4 = shapeCast _ (m ((c.tc : Thread nD τ).loc main_arg3)) shapeCasts_S1x2048x4096_S2048x4096 := by
  show StableHlo.after (List.flatten [hostOps0]) (fun b => m (c, b)) (Proc.devRef .tc main_v4) = _
  simp only [List.flatten_cons, List.flatten_nil, List.append_nil]
  after_results <;> rfl

theorem V_v5 (c : Dev nD) : V m c main_v5 = shapeCast _ (m ((c.tc : Thread nD τ).loc main_arg4)) shapeCasts_S1x4096x4096_S4096x4096 := by
  show StableHlo.after (List.flatten [hostOps0]) (fun b => m (c, b)) (Proc.devRef .tc main_v5) = _
  simp only [List.flatten_cons, List.flatten_nil, List.append_nil]
  after_results <;> rfl

theorem V_v6 (c : Dev nD) : V m c main_v6 = shapeCast _ (m ((c.tc : Thread nD τ).loc main_arg5)) shapeCasts_S1x4096x4096_S4096x4096 := by
  show StableHlo.after (List.flatten [hostOps0]) (fun b => m (c, b)) (Proc.devRef .tc main_v6) = _
  simp only [List.flatten_cons, List.flatten_nil, List.append_nil]
  after_results <;> rfl

theorem V_v7 (c : Dev nD) : V m c main_v7 = shapeCast _ (m ((c.tc : Thread nD τ).loc main_arg6)) shapeCasts_S1x4096x8192_S4096x8192 := by
  show StableHlo.after (List.flatten [hostOps0]) (fun b => m (c, b)) (Proc.devRef .tc main_v7) = _
  simp only [List.flatten_cons, List.flatten_nil, List.append_nil]
  after_results <;> rfl

theorem V_v8 (c : Dev nD) : V m c main_v8 = shapeCast _ (m ((c.tc : Thread nD τ).loc main_arg7)) shapeCasts_S1x4096x4096_S4096x4096 := by
  show StableHlo.after (List.flatten [hostOps0]) (fun b => m (c, b)) (Proc.devRef .tc main_v8) = _
  simp only [List.flatten_cons, List.flatten_nil, List.append_nil]
  after_results <;> rfl

theorem V_v9 (c : Dev nD) : V m c main_v9 = shapeCast _ (m ((c.tc : Thread nD τ).loc main_arg8)) shapeCasts_S1x4096x16384_S4096x16384 := by
  show StableHlo.after (List.flatten [hostOps0]) (fun b => m (c, b)) (Proc.devRef .tc main_v9) = _
  simp only [List.flatten_cons, List.flatten_nil, List.append_nil]
  after_results <;> rfl

theorem V_v10 (c : Dev nD) : V m c main_v10 = shapeCast _ (m ((c.tc : Thread nD τ).loc main_arg9)) shapeCasts_S1x16384x4096_S16384x4096 := by
  show StableHlo.after (List.flatten [hostOps0]) (fun b => m (c, b)) (Proc.devRef .tc main_v10) = _
  simp only [List.flatten_cons, List.flatten_nil, List.append_nil]
  after_results <;> rfl

/-! ## After the call -/

/-- A window's array as the host operations after the call find it. -/
theorem exit_arr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  (dats m 0 c).withArrays_arrAt sharedIn0 (V0 m c) (A_eq m c) w

theorem tail_v12 (c : Dev nD) : Pipeline.afterTail₀ cfgs (dats m) 0 (V0 m) [hostOps1] c main_v12
    = extractStridedSlice S16384x1024 ![0, 0] ((dats m 0 c).arrAt 11 cfg0.N : S16384x16384.Idx → Elt F .f32) slices_S16384x16384_S16384x1024_0_0 := by
  unfold Pipeline.afterTail₀
  simp only [List.flatten_cons, List.flatten_nil, List.append_nil]
  have h := exit_arr m c 11
  revert h
  generalize Pipeline.withArrays (cfgs 0).spec c (V0 m c) (fun w => (dats m 0 c).arrAt w (cfgs 0).N) = V'
  intro h
  rw [← h]
  after_results <;> rfl

theorem tail_v13 (c : Dev nD) : Pipeline.afterTail₀ cfgs (dats m) 0 (V0 m) [hostOps1] c main_v13
    = extractStridedSlice S16384x512 ![0, 1024] ((dats m 0 c).arrAt 11 cfg0.N : S16384x16384.Idx → Elt F .f32) slices_S16384x16384_S16384x512_0_1024 := by
  unfold Pipeline.afterTail₀
  simp only [List.flatten_cons, List.flatten_nil, List.append_nil]
  have h := exit_arr m c 11
  revert h
  generalize Pipeline.withArrays (cfgs 0).spec c (V0 m c) (fun w => (dats m 0 c).arrAt w (cfgs 0).N) = V'
  intro h
  rw [← h]
  after_results <;> rfl

theorem tail_v14 (c : Dev nD) : Pipeline.afterTail₀ cfgs (dats m) 0 (V0 m) [hostOps1] c main_v14
    = extractStridedSlice S16384x64 ![0, 1536] ((dats m 0 c).arrAt 11 cfg0.N : S16384x16384.Idx → Elt F .f32) slices_S16384x16384_S16384x64_0_1536 := by
  unfold Pipeline.afterTail₀
  simp only [List.flatten_cons, List.flatten_nil, List.append_nil]
  have h := exit_arr m c 11
  revert h
  generalize Pipeline.withArrays (cfgs 0).spec c (V0 m c) (fun w => (dats m 0 c).arrAt w (cfgs 0).N) = V'
  intro h
  rw [← h]
  after_results <;> rfl

theorem tail_v15 (c : Dev nD) : Pipeline.afterTail₀ cfgs (dats m) 0 (V0 m) [hostOps1] c main_v15
    = extractStridedSlice S16384x1024 ![0, 2048] ((dats m 0 c).arrAt 11 cfg0.N : S16384x16384.Idx → Elt F .f32) slices_S16384x16384_S16384x1024_0_2048 := by
  unfold Pipeline.afterTail₀
  simp only [List.flatten_cons, List.flatten_nil, List.append_nil]
  have h := exit_arr m c 11
  revert h
  generalize Pipeline.withArrays (cfgs 0).spec c (V0 m c) (fun w => (dats m 0 c).arrAt w (cfgs 0).N) = V'
  intro h
  rw [← h]
  after_results <;> rfl

theorem tail_v16 (c : Dev nD) : Pipeline.afterTail₀ cfgs (dats m) 0 (V0 m) [hostOps1] c main_v16
    = extractStridedSlice S16384x1024 ![0, 3072] ((dats m 0 c).arrAt 11 cfg0.N : S16384x16384.Idx → Elt F .f32) slices_S16384x16384_S16384x1024_0_3072 := by
  unfold Pipeline.afterTail₀
  simp only [List.flatten_cons, List.flatten_nil, List.append_nil]
  have h := exit_arr m c 11
  revert h
  generalize Pipeline.withArrays (cfgs 0).spec c (V0 m c) (fun w => (dats m 0 c).arrAt w (cfgs 0).N) = V'
  intro h
  rw [← h]
  after_results <;> rfl

theorem tail_v17 (c : Dev nD) : Pipeline.afterTail₀ cfgs (dats m) 0 (V0 m) [hostOps1] c main_v17
    = extractStridedSlice S16384x2048 ![0, 4096] ((dats m 0 c).arrAt 11 cfg0.N : S16384x16384.Idx → Elt F .f32) slices_S16384x16384_S16384x2048_0_4096 := by
  unfold Pipeline.afterTail₀
  simp only [List.flatten_cons, List.flatten_nil, List.append_nil]
  have h := exit_arr m c 11
  revert h
  generalize Pipeline.withArrays (cfgs 0).spec c (V0 m c) (fun w => (dats m 0 c).arrAt w (cfgs 0).N) = V'
  intro h
  rw [← h]
  after_results <;> rfl

theorem tail_v18 (c : Dev nD) : Pipeline.afterTail₀ cfgs (dats m) 0 (V0 m) [hostOps1] c main_v18
    = extractStridedSlice S16384x2048 ![0, 6144] ((dats m 0 c).arrAt 11 cfg0.N : S16384x16384.Idx → Elt F .f32) slices_S16384x16384_S16384x2048_0_6144 := by
  unfold Pipeline.afterTail₀
  simp only [List.flatten_cons, List.flatten_nil, List.append_nil]
  have h := exit_arr m c 11
  revert h
  generalize Pipeline.withArrays (cfgs 0).spec c (V0 m c) (fun w => (dats m 0 c).arrAt w (cfgs 0).N) = V'
  intro h
  rw [← h]
  after_results <;> rfl

theorem tail_v19 (c : Dev nD) : Pipeline.afterTail₀ cfgs (dats m) 0 (V0 m) [hostOps1] c main_v19
    = extractStridedSlice S16384x32 ![0, 0] ((dats m 0 c).arrAt 12 cfg0.N : S16384x128.Idx → Elt F .f32) slices_S16384x128_S16384x32_0_0 := by
  unfold Pipeline.afterTail₀
  simp only [List.flatten_cons, List.flatten_nil, List.append_nil]
  have h := exit_arr m c 12
  revert h
  generalize Pipeline.withArrays (cfgs 0).spec c (V0 m c) (fun w => (dats m 0 c).arrAt w (cfgs 0).N) = V'
  intro h
  rw [← h]
  after_results <;> rfl

theorem tail_v20 (c : Dev nD) : Pipeline.afterTail₀ cfgs (dats m) 0 (V0 m) [hostOps1] c main_v20
    = extractStridedSlice S16384x8192 ![0, 8192] ((dats m 0 c).arrAt 11 cfg0.N : S16384x16384.Idx → Elt F .f32) slices_S16384x16384_S16384x8192_0_8192 := by
  unfold Pipeline.afterTail₀
  simp only [List.flatten_cons, List.flatten_nil, List.append_nil]
  have h := exit_arr m c 11
  revert h
  generalize Pipeline.withArrays (cfgs 0).spec c (V0 m c) (fun w => (dats m 0 c).arrAt w (cfgs 0).N) = V'
  intro h
  rw [← h]
  after_results <;> rfl

/-- The run with every result named. -/
theorem run_results : θ_run defs (onTc (τ := τ) (main (F := F))) ⟨m, fun _ => 0, ρ⟩ (fun r => ∀ c : Dev nD,
      r.2.mem ((c.tc : Thread nD τ).loc main_v12) = extractStridedSlice S16384x1024 ![0, 0] ((dats m 0 c).arrAt 11 cfg0.N : S16384x16384.Idx → Elt F .f32) slices_S16384x16384_S16384x1024_0_0
      ∧ r.2.mem ((c.tc : Thread nD τ).loc main_v13) = extractStridedSlice S16384x512 ![0, 1024] ((dats m 0 c).arrAt 11 cfg0.N : S16384x16384.Idx → Elt F .f32) slices_S16384x16384_S16384x512_0_1024
      ∧ r.2.mem ((c.tc : Thread nD τ).loc main_v14) = extractStridedSlice S16384x64 ![0, 1536] ((dats m 0 c).arrAt 11 cfg0.N : S16384x16384.Idx → Elt F .f32) slices_S16384x16384_S16384x64_0_1536
      ∧ r.2.mem ((c.tc : Thread nD τ).loc main_v15) = extractStridedSlice S16384x1024 ![0, 2048] ((dats m 0 c).arrAt 11 cfg0.N : S16384x16384.Idx → Elt F .f32) slices_S16384x16384_S16384x1024_0_2048
      ∧ r.2.mem ((c.tc : Thread nD τ).loc main_v16) = extractStridedSlice S16384x1024 ![0, 3072] ((dats m 0 c).arrAt 11 cfg0.N : S16384x16384.Idx → Elt F .f32) slices_S16384x16384_S16384x1024_0_3072
      ∧ r.2.mem ((c.tc : Thread nD τ).loc main_v17) = extractStridedSlice S16384x2048 ![0, 4096] ((dats m 0 c).arrAt 11 cfg0.N : S16384x16384.Idx → Elt F .f32) slices_S16384x16384_S16384x2048_0_4096
      ∧ r.2.mem ((c.tc : Thread nD τ).loc main_v18) = extractStridedSlice S16384x2048 ![0, 6144] ((dats m 0 c).arrAt 11 cfg0.N : S16384x16384.Idx → Elt F .f32) slices_S16384x16384_S16384x2048_0_6144
      ∧ r.2.mem ((c.tc : Thread nD τ).loc main_v19) = extractStridedSlice S16384x32 ![0, 0] ((dats m 0 c).arrAt 12 cfg0.N : S16384x128.Idx → Elt F .f32) slices_S16384x128_S16384x32_0_0
      ∧ r.2.mem ((c.tc : Thread nD τ).loc main_v20) = extractStridedSlice S16384x8192 ![0, 8192] ((dats m 0 c).arrAt 11 cfg0.N : S16384x16384.Idx → Elt F .f32) slices_S16384x16384_S16384x8192_0_8192
      ∧ r.2.mem ((c.tc : Thread nD τ).loc main_v11_2) = (dats m 0 c).arrAt 13 cfg0.N
      ∧ r.2.mem ((c.tc : Thread nD τ).loc main_v11_3) = (dats m 0 c).arrAt 14 cfg0.N
      ∧ r.2.mem ((c.tc : Thread nD τ).loc main_v11_4) = (dats m 0 c).arrAt 15 cfg0.N
      ∧ r.2.mem ((c.tc : Thread nD τ).loc main_v11_5) = (dats m 0 c).arrAt 16 cfg0.N
      ∧ r.2.mem ((c.tc : Thread nD τ).loc main_v11_6) = (dats m 0 c).arrAt 17 cfg0.N
      ∧ r.2.mem ((c.tc : Thread nD τ).loc main_v11_7) = (dats m 0 c).arrAt 18 cfg0.N
      ∧ r.2.mem ((c.tc : Thread nD τ).loc main_v11_8) = (dats m 0 c).arrAt 19 cfg0.N
      ∧ r.2.mem ((c.tc : Thread nD τ).loc main_v11_9) = (dats m 0 c).arrAt 20 cfg0.N) :=
  (θ_run defs _ _).mono (fun _ h c => ⟨((h.1 c).2 main_v12 (Pipeline.mem_restRefs_of main_v12 (by decide) (by decide))).trans (tail_v12 m c),
      ((h.1 c).2 main_v13 (Pipeline.mem_restRefs_of main_v13 (by decide) (by decide))).trans (tail_v13 m c),
      ((h.1 c).2 main_v14 (Pipeline.mem_restRefs_of main_v14 (by decide) (by decide))).trans (tail_v14 m c),
      ((h.1 c).2 main_v15 (Pipeline.mem_restRefs_of main_v15 (by decide) (by decide))).trans (tail_v15 m c),
      ((h.1 c).2 main_v16 (Pipeline.mem_restRefs_of main_v16 (by decide) (by decide))).trans (tail_v16 m c),
      ((h.1 c).2 main_v17 (Pipeline.mem_restRefs_of main_v17 (by decide) (by decide))).trans (tail_v17 m c),
      ((h.1 c).2 main_v18 (Pipeline.mem_restRefs_of main_v18 (by decide) (by decide))).trans (tail_v18 m c),
      ((h.1 c).2 main_v19 (Pipeline.mem_restRefs_of main_v19 (by decide) (by decide))).trans (tail_v19 m c),
      ((h.1 c).2 main_v20 (Pipeline.mem_restRefs_of main_v20 (by decide) (by decide))).trans (tail_v20 m c),
      (h.1 c).1 13,
      (h.1 c).1 14,
      (h.1 c).1 15,
      (h.1 c).1 16,
      (h.1 c).1 17,
      (h.1 c).1 18,
      (h.1 c).1 19,
      (h.1 c).1 20⟩) (run_main m ρ)

/-- The run leaves every argument as it was launched. -/
theorem run_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) ((θ_run defs _ _).mono (fun _ h => h.1) (run_main m ρ))

end Cert.KernelIdeal.InProj

end
-- ==== Proof.InProjValue.lean ====
/- The values of the in_proj call at the ideal instance: each output window's array after the run as one function of the
   arrays the call finds, the host's slices of it, and both met with the reference's product and its slices. -/
module

public import proofs.«01_k».proof.Proof.InProjFrame
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.KernelIdeal.InProj

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ)

/-! ## The body's products at an index -/

theorem pay3_apply (x0 x1 : Vec Ideal S1024x4096 .bf16) (y : S1024x1024.Idx) :
    k0_pay3 (F := Ideal) x0 x1 y = ∑ k : Fin 4096, x0 (ix2 (y 0) k) * x1 (ix2 (y 1) k) := by
  pointwise [k0_pay3]

theorem pay4_apply (x0 : Vec Ideal S1024x4096 .bf16) (x1 : Vec Ideal S128x4096 .bf16) (y : S1024x128.Idx) :
    k0_pay4 (F := Ideal) x0 x1 y = ∑ k : Fin 4096, x0 (ix2 (y 0) k) * x1 (ix2 (y 1) k) := by
  pointwise [k0_pay4]

theorem k0_pay5_eq (x : Vec Ideal S16x4096 .f32) (y : S16x4096.Idx) : k0_pay5 (F := Ideal) x y = x y := by
  pointwise [k0_pay5]

theorem k0_pay6_eq (x : Vec Ideal S16x4096 .f32) (y : S16x4096.Idx) : k0_pay6 (F := Ideal) x y = x y := by
  pointwise [k0_pay6]

theorem k0_pay7_eq (x : Vec Ideal S16x4096 .f32) (y : S16x4096.Idx) : k0_pay7 (F := Ideal) x y = x y := by
  pointwise [k0_pay7]

theorem k0_pay8_eq (x : Vec Ideal S16x4096 .f32) (y : S16x4096.Idx) : k0_pay8 (F := Ideal) x y = x y := by
  pointwise [k0_pay8]

theorem k0_pay9_eq (x : Vec Ideal S16x8192 .f32) (y : S16x8192.Idx) : k0_pay9 (F := Ideal) x y = x y := by
  pointwise [k0_pay9]

theorem k0_pay10_eq (x : Vec Ideal S16x4096 .f32) (y : S16x4096.Idx) : k0_pay10 (F := Ideal) x y = x y := by
  pointwise [k0_pay10]

theorem k0_pay1_eq (x : Vec Ideal S16x16384 .f32) (y : S16x16384.Idx) : k0_pay1 (F := Ideal) x y = x y := by
  pointwise [k0_pay1]

theorem k0_pay2_eq (x : Vec Ideal S64x4096 .f32) (y : S64x4096.Idx) : k0_pay2 (F := Ideal) x y = x y := by
  pointwise [k0_pay2]

/-! ## The arrays after the run -/

/-- The column of the weight that column `q` of the product's array is taken from. -/
def col (q : ℕ) : ℕ := colStart (q / 1024) + q % 1024

theorem col_lt (q : ℕ) (h : q < 16384) : col q < 15968 := by
  have := colStart_le (q / 1024) (by omega); unfold col; omega

/-- The product's array after the run, of the activations `x` and the transposed weight `w`. -/
def G11 (x : FVec Ideal S16384x4096 .bf16) (w : FVec Ideal S15968x4096 .bf16) : FVec Ideal S16384x16384 .f32 := fun i =>
  ∑ k : Fin 4096, x (ix2 (i 0 : Fin 16384) k) * w (ix2 (⟨col (i 1).val, col_lt _ (i 1).isLt⟩ : Fin 15968) k)

/-- The array of the 128 columns that hold the low-rank gate. -/
def G12 (x : FVec Ideal S16384x4096 .bf16) (w : FVec Ideal S15968x4096 .bf16) : FVec Ideal S16384x128 .f32 := fun i =>
  ∑ k : Fin 4096, x (ix2 (i 0 : Fin 16384) k)
    * w (ix2 (⟨7744 + (i 1).val, by have : (i 1).val < 128 := (i 1).isLt; omega⟩ : Fin 15968) k)

theorem arr11 (c : Dev nD) : (dats m 0 c).arrAt 11 cfg0.N = G11 (V m c main_arg0) (V m c main_v2) := by
  refine (dats m 0 c).arrAt_eq_of_covers 11 _ (by decide +kernel) fun t hf y => ?_
  rw [emb11]
  refine (pay3_apply (iblk m c 0 t) (iblk m c 1 t) y).trans (Finset.sum_congr rfl fun k _ => ?_)
  rw [iblk0_apply, iblk1_apply]
  have h1 : (y 1).val < 1024 := (y 1).isLt
  have h2 : (t.val % 16 * 1024 + (y 1).val) / 1024 = t.val % 16 := by omega
  have h3 : (t.val % 16 * 1024 + (y 1).val) % 1024 = (y 1).val := by omega
  congr 2
  refine congrArg (fun z : Fin 15968 => ix2 z k) (Fin.ext ?_)
  show colStart (t.val % 16) + (y 1).val = col (t.val % 16 * 1024 + (y 1).val)
  unfold col; rw [h2, h3]

theorem arr12 (c : Dev nD) : (dats m 0 c).arrAt 12 cfg0.N = G12 (V m c main_arg0) (V m c main_v2) := by
  refine (dats m 0 c).arrAt_eq_of_covers 12 _ (by decide +kernel) fun t hf y => ?_
  rw [emb12]
  refine (pay4_apply (iblk m c 0 t) (iblk m c 2 t) y).trans (Finset.sum_congr rfl fun k _ => ?_)
  rw [iblk0_apply, iblk2_apply]
  rfl

theorem arr13 (c : Dev nD) : (dats m 0 c).arrAt 13 cfg0.N = (V m c main_v3 : S2048x4096.Idx → Elt Ideal .f32) := by
  refine (dats m 0 c).arrAt_eq_of_covers 13 _ (by decide +kernel) fun t hf y => ?_
  rw [emb13]
  exact (k0_pay5_eq (iblk m c 3 t) y).trans (iblk3_apply m c t y)

theorem arr14 (c : Dev nD) : (dats m 0 c).arrAt 14 cfg0.N = (V m c main_v4 : S2048x4096.Idx → Elt Ideal .f32) := by
  refine (dats m 0 c).arrAt_eq_of_covers 14 _ (by decide +kernel) fun t hf y => ?_
  rw [emb14]
  exact (k0_pay6_eq (iblk m c 4 t) y).trans (iblk4_apply m c t y)

theorem arr15 (c : Dev nD) : (dats m 0 c).arrAt 15 cfg0.N = (V m c main_v5 : S4096x4096.Idx → Elt Ideal .f32) := by
  refine (dats m 0 c).arrAt_eq_of_covers 15 _ (by decide +kernel) fun t hf y => ?_
  rw [emb15]
  exact (k0_pay7_eq (iblk m c 5 t) y).trans (iblk5_apply m c t y)

theorem arr16 (c : Dev nD) : (dats m 0 c).arrAt 16 cfg0.N = (V m c main_v6 : S4096x4096.Idx → Elt Ideal .f32) := by
  refine (dats m 0 c).arrAt_eq_of_covers 16 _ (by decide +kernel) fun t hf y => ?_
  rw [emb16]
  exact (k0_pay8_eq (iblk m c 6 t) y).trans (iblk6_apply m c t y)

theorem arr17 (c : Dev nD) : (dats m 0 c).arrAt 17 cfg0.N = (V m c main_v7 : S4096x8192.Idx → Elt Ideal .f32) := by
  refine (dats m 0 c).arrAt_eq_of_covers 17 _ (by decide +kernel) fun t hf y => ?_
  rw [emb17]
  exact (k0_pay9_eq (iblk m c 7 t) y).trans (iblk7_apply m c t y)

theorem arr18 (c : Dev nD) : (dats m 0 c).arrAt 18 cfg0.N = (V m c main_v8 : S4096x4096.Idx → Elt Ideal .f32) := by
  refine (dats m 0 c).arrAt_eq_of_covers 18 _ (by decide +kernel) fun t hf y => ?_
  rw [emb18]
  exact (k0_pay10_eq (iblk m c 8 t) y).trans (iblk8_apply m c t y)

theorem arr19 (c : Dev nD) : (dats m 0 c).arrAt 19 cfg0.N = (V m c main_v9 : S4096x16384.Idx → Elt Ideal .f32) := by
  refine (dats m 0 c).arrAt_eq_of_covers 19 _ (by decide +kernel) fun t hf y => ?_
  rw [emb19]
  exact (k0_pay1_eq (iblk m c 9 t) y).trans (iblk9_apply m c t y)

theorem arr20 (c : Dev nD) : (dats m 0 c).arrAt 20 cfg0.N = (V m c main_v10 : S16384x4096.Idx → Elt Ideal .f32) := by
  refine (dats m 0 c).arrAt_eq_of_covers 20 _ (by decide +kernel) fun t hf y => ?_
  rw [emb20]
  exact (k0_pay2_eq (iblk m c 10 t) y).trans (iblk10_apply m c t y)

end Cert.KernelIdeal.InProj

end
-- ==== Proof.InProjMeet.lean ====
/- The slices of the kernel's two product arrays against the slices of the reference's one product, and the casts of the
   weights against the reference's casts, at the ideal instance. -/
module

public import proofs.«01_k».proof.Proof.InProjValue

@[expose] public section

set_option maxRecDepth 16384

noncomputable section

namespace Cert.KernelIdeal.InProj

open Idealize.ShloMosaic Idealize.ShloMosaic.TcCoe Idealize.ShloMosaic.Tactic
open Cert.KernelIdeal.Gen

/-- The weight as the call finds it: transposed, and rounded to bf16, which the ideal instance reads as itself. -/
def wT (x1 : FVec Ideal S1x4096x15968 .f32) : FVec Ideal S15968x4096 .bf16 :=
  truncf .bf16 (transpose S15968x4096 [1, 0] (shapeCast _ x1 shapeCasts_S1x4096x15968_S4096x15968) transposes_S4096x15968_S15968x4096_1_0) bitsLt_bf16_f32

theorem wT_apply (x1 : FVec Ideal S1x4096x15968 .f32) (q : Fin 15968) (k : Fin 4096) : wT x1 (ix2 q k) = x1 (ix3 0 k q) := by
  pointwise [wT]

/-- The reference's product at an index. -/
theorem ref_apply (x0 : FVec Ideal S16384x4096 .bf16) (x1 : FVec Ideal S1x4096x15968 .f32) (j : Cert.ReferenceIdeal.S16384x15968.Idx) :
    Cert.ReferenceIdeal.Read.val_main_v2 (F := Ideal) x0 x1 j = ∑ k : Fin 4096, x0 (ix2 (j 0 : Fin 16384) k) * x1 (ix3 0 k (j 1 : Fin 15968)) := by
  pointwise [Cert.ReferenceIdeal.Read.val_main_v2, Cert.ReferenceIdeal.Read.val_main_v0, Cert.ReferenceIdeal.Read.val_main_v1]

theorem G11_eq (x0 : FVec Ideal S16384x4096 .bf16) (x1 : FVec Ideal S1x4096x15968 .f32) (i : S16384x16384.Idx) (j : Cert.ReferenceIdeal.S16384x15968.Idx)
    (h0 : (i 0).val = (j 0).val) (h1 : col (i 1).val = (j 1).val) :
    G11 x0 (wT x1) i = Cert.ReferenceIdeal.Read.val_main_v2 (F := Ideal) x0 x1 j := by
  rw [ref_apply]
  unfold G11
  refine Finset.sum_congr rfl fun k _ => ?_
  have e0 : (i 0 : Fin 16384) = (j 0 : Fin 16384) := Fin.ext h0
  have e1 : (⟨col (i 1).val, col_lt _ (i 1).isLt⟩ : Fin 15968) = (j 1 : Fin 15968) := Fin.ext h1
  rw [wT_apply, e0, e1]

theorem G12_eq (x0 : FVec Ideal S16384x4096 .bf16) (x1 : FVec Ideal S1x4096x15968 .f32) (i : S16384x128.Idx) (j : Cert.ReferenceIdeal.S16384x15968.Idx)
    (h0 : (i 0).val = (j 0).val) (h1 : 7744 + (i 1).val = (j 1).val) :
    G12 x0 (wT x1) i = Cert.ReferenceIdeal.Read.val_main_v2 (F := Ideal) x0 x1 j := by
  rw [ref_apply]
  unfold G12
  refine Finset.sum_congr rfl fun k _ => ?_
  have e0 : (i 0 : Fin 16384) = (j 0 : Fin 16384) := Fin.ext h0
  have e1 : (⟨7744 + (i 1).val, by have : (i 1).val < 128 := (i 1).isLt; omega⟩ : Fin 15968) = (j 1 : Fin 15968) := Fin.ext h1
  rw [wT_apply, e0, e1]

theorem meet12 (x0 : FVec Ideal S16384x4096 .bf16) (x1 : FVec Ideal S1x4096x15968 .f32) :
    extractStridedSlice S16384x1024 ![0, 0] (G11 x0 (wT x1)) slices_S16384x16384_S16384x1024_0_0 = Cert.ReferenceIdeal.Read.val_main_v3 (F := Ideal) x0 x1 := by
  funext i
  have h1 : (i 1).val < 1024 := (i 1).isLt
  rw [Cert.ReferenceIdeal.Read.val_main_v3_apply]
  refine (extractStridedSlice_apply ![0, 0] (G11 x0 (wT x1)) slices_S16384x16384_S16384x1024_0_0 i
    (ix2 (i 0 : Fin 16384) (⟨0 + (i 1).val, by omega⟩ : Fin 16384)) (fun a => match a with
    | ⟨0, _⟩ => by show (i 0).val = 0 + (i 0).val; omega
    | ⟨1, _⟩ => by show 0 + (i 1).val = 0 + (i 1).val; rfl)).trans ?_
  exact G11_eq x0 x1 _ _ (by rfl)
    (by show col (0 + (i 1).val) = (i 1).val; unfold col colStart; split <;> [omega; (split <;> omega)])

theorem meet13 (x0 : FVec Ideal S16384x4096 .bf16) (x1 : FVec Ideal S1x4096x15968 .f32) :
    extractStridedSlice S16384x512 ![0, 1024] (G11 x0 (wT x1)) slices_S16384x16384_S16384x512_0_1024 = Cert.ReferenceIdeal.Read.val_main_v4 (F := Ideal) x0 x1 := by
  funext i
  have h1 : (i 1).val < 512 := (i 1).isLt
  rw [Cert.ReferenceIdeal.Read.val_main_v4_apply]
  refine (extractStridedSlice_apply ![0, 1024] (G11 x0 (wT x1)) slices_S16384x16384_S16384x512_0_1024 i
    (ix2 (i 0 : Fin 16384) (⟨1024 + (i 1).val, by omega⟩ : Fin 16384)) (fun a => match a with
    | ⟨0, _⟩ => by show (i 0).val = 0 + (i 0).val; omega
    | ⟨1, _⟩ => by show 1024 + (i 1).val = 1024 + (i 1).val; rfl)).trans ?_
  exact G11_eq x0 x1 _ _ (by rfl)
    (by show col (1024 + (i 1).val) = 1024 + (i 1).val; unfold col colStart; split <;> [omega; (split <;> omega)])

theorem meet14 (x0 : FVec Ideal S16384x4096 .bf16) (x1 : FVec Ideal S1x4096x15968 .f32) :
    extractStridedSlice S16384x64 ![0, 1536] (G11 x0 (wT x1)) slices_S16384x16384_S16384x64_0_1536 = Cert.ReferenceIdeal.Read.val_main_v5 (F := Ideal) x0 x1 := by
  funext i
  have h1 : (i 1).val < 64 := (i 1).isLt
  rw [Cert.ReferenceIdeal.Read.val_main_v5_apply]
  refine (extractStridedSlice_apply ![0, 1536] (G11 x0 (wT x1)) slices_S16384x16384_S16384x64_0_1536 i
    (ix2 (i 0 : Fin 16384) (⟨1536 + (i 1).val, by omega⟩ : Fin 16384)) (fun a => match a with
    | ⟨0, _⟩ => by show (i 0).val = 0 + (i 0).val; omega
    | ⟨1, _⟩ => by show 1536 + (i 1).val = 1536 + (i 1).val; rfl)).trans ?_
  exact G11_eq x0 x1 _ _ (by rfl)
    (by show col (1536 + (i 1).val) = 1536 + (i 1).val; unfold col colStart; split <;> [omega; (split <;> omega)])

theorem meet15 (x0 : FVec Ideal S16384x4096 .bf16) (x1 : FVec Ideal S1x4096x15968 .f32) :
    extractStridedSlice S16384x1024 ![0, 2048] (G11 x0 (wT x1)) slices_S16384x16384_S16384x1024_0_2048 = Cert.ReferenceIdeal.Read.val_main_v6 (F := Ideal) x0 x1 := by
  funext i
  have h1 : (i 1).val < 1024 := (i 1).isLt
  rw [Cert.ReferenceIdeal.Read.val_main_v6_apply]
  refine (extractStridedSlice_apply ![0, 2048] (G11 x0 (wT x1)) slices_S16384x16384_S16384x1024_0_2048 i
    (ix2 (i 0 : Fin 16384) (⟨2048 + (i 1).val, by omega⟩ : Fin 16384)) (fun a => match a with
    | ⟨0, _⟩ => by show (i 0).val = 0 + (i 0).val; omega
    | ⟨1, _⟩ => by show 2048 + (i 1).val = 2048 + (i 1).val; rfl)).trans ?_
  exact G11_eq x0 x1 _ _ (by rfl)
    (by show col (2048 + (i 1).val) = 1600 + (i 1).val; unfold col colStart; split <;> [omega; (split <;> omega)])

theorem meet16 (x0 : FVec Ideal S16384x4096 .bf16) (x1 : FVec Ideal S1x4096x15968 .f32) :
    extractStridedSlice S16384x1024 ![0, 3072] (G11 x0 (wT x1)) slices_S16384x16384_S16384x1024_0_3072 = Cert.ReferenceIdeal.Read.val_main_v7 (F := Ideal) x0 x1 := by
  funext i
  have h1 : (i 1).val < 1024 := (i 1).isLt
  rw [Cert.ReferenceIdeal.Read.val_main_v7_apply]
  refine (extractStridedSlice_apply ![0, 3072] (G11 x0 (wT x1)) slices_S16384x16384_S16384x1024_0_3072 i
    (ix2 (i 0 : Fin 16384) (⟨3072 + (i 1).val, by omega⟩ : Fin 16384)) (fun a => match a with
    | ⟨0, _⟩ => by show (i 0).val = 0 + (i 0).val; omega
    | ⟨1, _⟩ => by show 3072 + (i 1).val = 3072 + (i 1).val; rfl)).trans ?_
  exact G11_eq x0 x1 _ _ (by rfl)
    (by show col (3072 + (i 1).val) = 2624 + (i 1).val; unfold col colStart; split <;> [omega; (split <;> omega)])

theorem meet17 (x0 : FVec Ideal S16384x4096 .bf16) (x1 : FVec Ideal S1x4096x15968 .f32) :
    extractStridedSlice S16384x2048 ![0, 4096] (G11 x0 (wT x1)) slices_S16384x16384_S16384x2048_0_4096 = Cert.ReferenceIdeal.Read.val_main_v8 (F := Ideal) x0 x1 := by
  funext i
  have h1 : (i 1).val < 2048 := (i 1).isLt
  rw [Cert.ReferenceIdeal.Read.val_main_v8_apply]
  refine (extractStridedSlice_apply ![0, 4096] (G11 x0 (wT x1)) slices_S16384x16384_S16384x2048_0_4096 i
    (ix2 (i 0 : Fin 16384) (⟨4096 + (i 1).val, by omega⟩ : Fin 16384)) (fun a => match a with
    | ⟨0, _⟩ => by show (i 0).val = 0 + (i 0).val; omega
    | ⟨1, _⟩ => by show 4096 + (i 1).val = 4096 + (i 1).val; rfl)).trans ?_
  exact G11_eq x0 x1 _ _ (by rfl)
    (by show col (4096 + (i 1).val) = 3648 + (i 1).val; unfold col colStart; split <;> [omega; (split <;> omega)])

theorem meet18 (x0 : FVec Ideal S16384x4096 .bf16) (x1 : FVec Ideal S1x4096x15968 .f32) :
    extractStridedSlice S16384x2048 ![0, 6144] (G11 x0 (wT x1)) slices_S16384x16384_S16384x2048_0_6144 = Cert.ReferenceIdeal.Read.val_main_v9 (F := Ideal) x0 x1 := by
  funext i
  have h1 : (i 1).val < 2048 := (i 1).isLt
  rw [Cert.ReferenceIdeal.Read.val_main_v9_apply]
  refine (extractStridedSlice_apply ![0, 6144] (G11 x0 (wT x1)) slices_S16384x16384_S16384x2048_0_6144 i
    (ix2 (i 0 : Fin 16384) (⟨6144 + (i 1).val, by omega⟩ : Fin 16384)) (fun a => match a with
    | ⟨0, _⟩ => by show (i 0).val = 0 + (i 0).val; omega
    | ⟨1, _⟩ => by show 6144 + (i 1).val = 6144 + (i 1).val; rfl)).trans ?_
  exact G11_eq x0 x1 _ _ (by rfl)
    (by show col (6144 + (i 1).val) = 5696 + (i 1).val; unfold col colStart; split <;> [omega; (split <;> omega)])

theorem meet19 (x0 : FVec Ideal S16384x4096 .bf16) (x1 : FVec Ideal S1x4096x15968 .f32) :
    extractStridedSlice S16384x32 ![0, 0] (G12 x0 (wT x1)) slices_S16384x128_S16384x32_0_0 = Cert.ReferenceIdeal.Read.val_main_v10 (F := Ideal) x0 x1 := by
  funext i
  have h1 : (i 1).val < 32 := (i 1).isLt
  rw [Cert.ReferenceIdeal.Read.val_main_v10_apply]
  refine (extractStridedSlice_apply ![0, 0] (G12 x0 (wT x1)) slices_S16384x128_S16384x32_0_0 i
    (ix2 (i 0 : Fin 16384) (⟨0 + (i 1).val, by omega⟩ : Fin 128)) (fun a => match a with
    | ⟨0, _⟩ => by show (i 0).val = 0 + (i 0).val; omega
    | ⟨1, _⟩ => by show 0 + (i 1).val = 0 + (i 1).val; rfl)).trans ?_
  exact G12_eq x0 x1 _ _ (by rfl)
    (by show 7744 + (0 + (i 1).val) = 7744 + (i 1).val; omega)

theorem meet20 (x0 : FVec Ideal S16384x4096 .bf16) (x1 : FVec Ideal S1x4096x15968 .f32) :
    extractStridedSlice S16384x8192 ![0, 8192] (G11 x0 (wT x1)) slices_S16384x16384_S16384x8192_0_8192 = Cert.ReferenceIdeal.Read.val_main_v11 (F := Ideal) x0 x1 := by
  funext i
  have h1 : (i 1).val < 8192 := (i 1).isLt
  rw [Cert.ReferenceIdeal.Read.val_main_v11_apply]
  refine (extractStridedSlice_apply ![0, 8192] (G11 x0 (wT x1)) slices_S16384x16384_S16384x8192_0_8192 i
    (ix2 (i 0 : Fin 16384) (⟨8192 + (i 1).val, by omega⟩ : Fin 16384)) (fun a => match a with
    | ⟨0, _⟩ => by show (i 0).val = 0 + (i 0).val; omega
    | ⟨1, _⟩ => by show 8192 + (i 1).val = 8192 + (i 1).val; rfl)).trans ?_
  exact G11_eq x0 x1 _ _ (by rfl)
    (by show col (8192 + (i 1).val) = 7776 + (i 1).val; unfold col colStart; split <;> [omega; (split <;> omega)])

theorem cast2 (x : FVec Ideal S1x2048x4096 .f32) :
    (shapeCast S2048x4096 x shapeCasts_S1x2048x4096_S2048x4096 : S2048x4096.Idx → Elt Ideal .f32) = Cert.ReferenceIdeal.Read.val_main_v20 (F := Ideal) x := by
  unfold Cert.ReferenceIdeal.Read.val_main_v20 Cert.ReferenceIdeal.Read.val_main_v12
  rfl

theorem cast3 (x : FVec Ideal S1x2048x4096 .f32) :
    (shapeCast S2048x4096 x shapeCasts_S1x2048x4096_S2048x4096 : S2048x4096.Idx → Elt Ideal .f32) = Cert.ReferenceIdeal.Read.val_main_v21 (F := Ideal) x := by
  unfold Cert.ReferenceIdeal.Read.val_main_v21 Cert.ReferenceIdeal.Read.val_main_v13
  rfl

theorem cast4 (x : FVec Ideal S1x4096x4096 .f32) :
    (shapeCast S4096x4096 x shapeCasts_S1x4096x4096_S4096x4096 : S4096x4096.Idx → Elt Ideal .f32) = Cert.ReferenceIdeal.Read.val_main_v22 (F := Ideal) x := by
  unfold Cert.ReferenceIdeal.Read.val_main_v22 Cert.ReferenceIdeal.Read.val_main_v14
  rfl

theorem cast5 (x : FVec Ideal S1x4096x4096 .f32) :
    (shapeCast S4096x4096 x shapeCasts_S1x4096x4096_S4096x4096 : S4096x4096.Idx → Elt Ideal .f32) = Cert.ReferenceIdeal.Read.val_main_v23 (F := Ideal) x := by
  unfold Cert.ReferenceIdeal.Read.val_main_v23 Cert.ReferenceIdeal.Read.val_main_v15
  rfl

theorem cast6 (x : FVec Ideal S1x4096x8192 .f32) :
    (shapeCast S4096x8192 x shapeCasts_S1x4096x8192_S4096x8192 : S4096x8192.Idx → Elt Ideal .f32) = Cert.ReferenceIdeal.Read.val_main_v24 (F := Ideal) x := by
  unfold Cert.ReferenceIdeal.Read.val_main_v24 Cert.ReferenceIdeal.Read.val_main_v16
  rfl

theorem cast7 (x : FVec Ideal S1x4096x4096 .f32) :
    (shapeCast S4096x4096 x shapeCasts_S1x4096x4096_S4096x4096 : S4096x4096.Idx → Elt Ideal .f32) = Cert.ReferenceIdeal.Read.val_main_v25 (F := Ideal) x := by
  unfold Cert.ReferenceIdeal.Read.val_main_v25 Cert.ReferenceIdeal.Read.val_main_v17
  rfl

theorem cast8 (x : FVec Ideal S1x4096x16384 .f32) :
    (shapeCast S4096x16384 x shapeCasts_S1x4096x16384_S4096x16384 : S4096x16384.Idx → Elt Ideal .f32) = Cert.ReferenceIdeal.Read.val_main_v26 (F := Ideal) x := by
  unfold Cert.ReferenceIdeal.Read.val_main_v26 Cert.ReferenceIdeal.Read.val_main_v18
  rfl

theorem cast9 (x : FVec Ideal S1x16384x4096 .f32) :
    (shapeCast S16384x4096 x shapeCasts_S1x16384x4096_S16384x4096 : S16384x4096.Idx → Elt Ideal .f32) = Cert.ReferenceIdeal.Read.val_main_v27 (F := Ideal) x := by
  unfold Cert.ReferenceIdeal.Read.val_main_v27 Cert.ReferenceIdeal.Read.val_main_v19
  rfl

end Cert.KernelIdeal.InProj

end
-- ==== Proof.InProjClaim.lean ====
/- The in_proj call's claims: the frames (one run, at both instances), and the seventeen results against the reference. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import proofs.«01_k».proof.Proof.InProjTail
public import proofs.«01_k».proof.Proof.InProjMeet
public import Idealize.ShloMosaic.Lib.Claim
public import Idealize.ShloMosaic.Lib.Quiescent

@[expose] public section

set_option maxRecDepth 16384

noncomputable section

namespace Cert.InProjClaim

open Idealize.ShloMosaic Idealize.ShloMosaic.TcCoe Idealize.SL.Sem Cert.KernelIdeal.InProj

/-- At every instance the run ends with the arguments as launched and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) ∧ r.2.sem = fun _ => 0) :=
  (θ_run Cert.KernelIdeal.defs _ _).mono (fun _ h => ⟨h.1, h.2.2⟩) (θ_run_and (run_args (F := F) m ρ) (run_main (F := F) m ρ))

theorem frame_kernelIdeal : Cert.quiescent_KernelIdeal := fun m ρ _ => frame_any (F := Ideal) m ρ

/-- The reference is host operations alone and has no semaphore. -/
theorem frame_reference : Cert.quiescent_ReferenceIdeal := fun m ρ _ =>
  (θ_run Cert.ReferenceIdeal.defs _ _).mono (fun r h => ⟨fun c => (h c).2.2.2.2.2.2.2.2.2.2.2.2.2.2.2.2.2, sem_eq_zero_of_no_sems (by decide) r.2⟩)
    (Cert.ReferenceIdeal.Value.run (F := Ideal) m ρ)

set_option maxHeartbeats 4000000 in
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v12) = Cert.ReferenceIdeal.Read.val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v13) = Cert.ReferenceIdeal.Read.val_main_v4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v14) = Cert.ReferenceIdeal.Read.val_main_v5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v15) = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v16) = Cert.ReferenceIdeal.Read.val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v17) = Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v18) = Cert.ReferenceIdeal.Read.val_main_v9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v19) = Cert.ReferenceIdeal.Read.val_main_v10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v20) = Cert.ReferenceIdeal.Read.val_main_v11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v11_2) = Cert.ReferenceIdeal.Read.val_main_v20 (F := Ideal) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v11_3) = Cert.ReferenceIdeal.Read.val_main_v21 (F := Ideal) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v11_4) = Cert.ReferenceIdeal.Read.val_main_v22 (F := Ideal) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_v11_5) = Cert.ReferenceIdeal.Read.val_main_v23 (F := Ideal) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v11_6) = Cert.ReferenceIdeal.Read.val_main_v24 (F := Ideal) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v11_7) = Cert.ReferenceIdeal.Read.val_main_v25 (F := Ideal) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v11_8) = Cert.ReferenceIdeal.Read.val_main_v26 (F := Ideal) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_v11_9) = Cert.ReferenceIdeal.Read.val_main_v27 (F := Ideal) (m ((c.tc : Thread Cert.KernelIdeal.nD Cert.KernelIdeal.τ).loc Cert.KernelIdeal.main_arg9))) := by
  refine (θ_run Cert.KernelIdeal.defs _ _).mono (fun r h c => ?_) (run_results (F := Ideal) m ρ)
  obtain ⟨h0, h1, h2, h3, h4, h5, h6, h7, h8, h9, h10, h11, h12, h13, h14, h15, h16⟩ := h c
  refine ⟨?_, ?_, ?_, ?_, ?_, ?_, ?_, ?_, ?_, ?_, ?_, ?_, ?_, ?_, ?_, ?_, ?_⟩
  · rw [h0, arr11, V_v2, Cert.KernelIdeal.Gen.V_main_arg0]; exact meet12 _ _
  · rw [h1, arr11, V_v2, Cert.KernelIdeal.Gen.V_main_arg0]; exact meet13 _ _
  · rw [h2, arr11, V_v2, Cert.KernelIdeal.Gen.V_main_arg0]; exact meet14 _ _
  · rw [h3, arr11, V_v2, Cert.KernelIdeal.Gen.V_main_arg0]; exact meet15 _ _
  · rw [h4, arr11, V_v2, Cert.KernelIdeal.Gen.V_main_arg0]; exact meet16 _ _
  · rw [h5, arr11, V_v2, Cert.KernelIdeal.Gen.V_main_arg0]; exact meet17 _ _
  · rw [h6, arr11, V_v2, Cert.KernelIdeal.Gen.V_main_arg0]; exact meet18 _ _
  · rw [h7, arr12, V_v2, Cert.KernelIdeal.Gen.V_main_arg0]; exact meet19 _ _
  · rw [h8, arr11, V_v2, Cert.KernelIdeal.Gen.V_main_arg0]; exact meet20 _ _
  · rw [h9, arr13]; exact (V_v3 m c).trans (cast2 _)
  · rw [h10, arr14]; exact (V_v4 m c).trans (cast3 _)
  · rw [h11, arr15]; exact (V_v5 m c).trans (cast4 _)
  · rw [h12, arr16]; exact (V_v6 m c).trans (cast5 _)
  · rw [h13, arr17]; exact (V_v7 m c).trans (cast6 _)
  · rw [h14, arr18]; exact (V_v8 m c).trans (cast7 _)
  · rw [h15, arr19]; exact (V_v9 m c).trans (cast8 _)
  · rw [h16, arr20]; exact (V_v10 m c).trans (cast9 _)

set_option maxHeartbeats 4000000 in
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v3) = Cert.ReferenceIdeal.Read.val_main_v3 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v4) = Cert.ReferenceIdeal.Read.val_main_v4 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v5) = Cert.ReferenceIdeal.Read.val_main_v5 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v6) = Cert.ReferenceIdeal.Read.val_main_v6 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v7) = Cert.ReferenceIdeal.Read.val_main_v7 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v8) = Cert.ReferenceIdeal.Read.val_main_v8 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v9) = Cert.ReferenceIdeal.Read.val_main_v9 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v10) = Cert.ReferenceIdeal.Read.val_main_v10 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v11) = Cert.ReferenceIdeal.Read.val_main_v11 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v20) = Cert.ReferenceIdeal.Read.val_main_v20 (F := Ideal) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v21) = Cert.ReferenceIdeal.Read.val_main_v21 (F := Ideal) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v22) = Cert.ReferenceIdeal.Read.val_main_v22 (F := Ideal) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v23) = Cert.ReferenceIdeal.Read.val_main_v23 (F := Ideal) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v24) = Cert.ReferenceIdeal.Read.val_main_v24 (F := Ideal) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v25) = Cert.ReferenceIdeal.Read.val_main_v25 (F := Ideal) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v26) = Cert.ReferenceIdeal.Read.val_main_v26 (F := Ideal) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_v27) = Cert.ReferenceIdeal.Read.val_main_v27 (F := Ideal) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) := by
  refine (θ_run Cert.ReferenceIdeal.defs _ _).mono (fun r h c => ?_) (Cert.ReferenceIdeal.Value.run (F := Ideal) m ρ)
  obtain ⟨h0, h1, h2, h3, h4, h5, h6, h7, h8, h9, h10, h11, h12, h13, h14, h15, h16, ha⟩ := h c
  refine ⟨?_, ?_, ?_, ?_, ?_, ?_, ?_, ?_, ?_, ?_, ?_, ?_, ?_, ?_, ?_, ?_, ?_, ha⟩
  · rw [h0]; exact Cert.ReferenceIdeal.Read.val_main_v3_eq _ _
  · rw [h1]; exact Cert.ReferenceIdeal.Read.val_main_v4_eq _ _
  · rw [h2]; exact Cert.ReferenceIdeal.Read.val_main_v5_eq _ _
  · rw [h3]; exact Cert.ReferenceIdeal.Read.val_main_v6_eq _ _
  · rw [h4]; exact Cert.ReferenceIdeal.Read.val_main_v7_eq _ _
  · rw [h5]; exact Cert.ReferenceIdeal.Read.val_main_v8_eq _ _
  · rw [h6]; exact Cert.ReferenceIdeal.Read.val_main_v9_eq _ _
  · rw [h7]; exact Cert.ReferenceIdeal.Read.val_main_v10_eq _ _
  · rw [h8]; exact Cert.ReferenceIdeal.Read.val_main_v11_eq _ _
  · rw [h9]; exact Cert.ReferenceIdeal.Read.val_main_v20_eq _
  · rw [h10]; exact Cert.ReferenceIdeal.Read.val_main_v21_eq _
  · rw [h11]; exact Cert.ReferenceIdeal.Read.val_main_v22_eq _
  · rw [h12]; exact Cert.ReferenceIdeal.Read.val_main_v23_eq _
  · rw [h13]; exact Cert.ReferenceIdeal.Read.val_main_v24_eq _
  · rw [h14]; exact Cert.ReferenceIdeal.Read.val_main_v25_eq _
  · rw [h15]; exact Cert.ReferenceIdeal.Read.val_main_v26_eq _
  · rw [h16]; exact Cert.ReferenceIdeal.Read.val_main_v27_eq _

set_option maxHeartbeats 4000000 in
theorem results : Cert.algebraic_KernelIdeal_ReferenceIdeal := by
  intro m ρ m' ρ' _ hagree
  refine ⟨fun c => Cert.ReferenceIdeal.Read.val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v20 (F := Ideal) (m ((c.tc : Thread Cert.KernelIdeal.nD Cert.KernelIdeal.τ).loc Cert.KernelIdeal.main_arg2)),
    fun c => Cert.ReferenceIdeal.Read.val_main_v21 (F := Ideal) (m ((c.tc : Thread Cert.KernelIdeal.nD Cert.KernelIdeal.τ).loc Cert.KernelIdeal.main_arg3)),
    fun c => Cert.ReferenceIdeal.Read.val_main_v22 (F := Ideal) (m ((c.tc : Thread Cert.KernelIdeal.nD Cert.KernelIdeal.τ).loc Cert.KernelIdeal.main_arg4)),
    fun c => Cert.ReferenceIdeal.Read.val_main_v23 (F := Ideal) (m ((c.tc : Thread Cert.KernelIdeal.nD Cert.KernelIdeal.τ).loc Cert.KernelIdeal.main_arg5)),
    fun c => Cert.ReferenceIdeal.Read.val_main_v24 (F := Ideal) (m ((c.tc : Thread Cert.KernelIdeal.nD Cert.KernelIdeal.τ).loc Cert.KernelIdeal.main_arg6)),
    fun c => Cert.ReferenceIdeal.Read.val_main_v25 (F := Ideal) (m ((c.tc : Thread Cert.KernelIdeal.nD Cert.KernelIdeal.τ).loc Cert.KernelIdeal.main_arg7)),
    fun c => Cert.ReferenceIdeal.Read.val_main_v26 (F := Ideal) (m ((c.tc : Thread Cert.KernelIdeal.nD Cert.KernelIdeal.τ).loc Cert.KernelIdeal.main_arg8)),
    fun c => Cert.ReferenceIdeal.Read.val_main_v27 (F := Ideal) (m ((c.tc : Thread Cert.KernelIdeal.nD Cert.KernelIdeal.τ).loc Cert.KernelIdeal.main_arg9)),
    (θ_run Cert.KernelIdeal.defs _ _).mono (fun r h c => ?_) (θ_run_and (kernel_run m ρ) (run_args (F := Ideal) m ρ)),
    (θ_run Cert.ReferenceIdeal.defs _ _).mono (fun r h c => ?_) (reference_run m' ρ')⟩
  · obtain ⟨h, ha⟩ := h
    obtain ⟨h0, h1, h2, h3, h4, h5, h6, h7, h8, h9, h10, h11, h12, h13, h14, h15, h16⟩ := h c
    exact ⟨h0, h1, h2, h3, h4, h5, h6, h7, h8, h9, h10, h11, h12, h13, h14, h15, h16, ha c⟩
  · obtain ⟨a0, a1, a2, a3, a4, a5, a6, a7, a8, a9⟩ := hagree c
    obtain ⟨h0, h1, h2, h3, h4, h5, h6, h7, h8, h9, h10, h11, h12, h13, h14, h15, h16, ha⟩ := h c
    exact ⟨h0.trans (congrArg₂ (Cert.ReferenceIdeal.Read.val_main_v3 (F := Ideal)) a0 a1),
      h1.trans (congrArg₂ (Cert.ReferenceIdeal.Read.val_main_v4 (F := Ideal)) a0 a1),
      h2.trans (congrArg₂ (Cert.ReferenceIdeal.Read.val_main_v5 (F := Ideal)) a0 a1),
      h3.trans (congrArg₂ (Cert.ReferenceIdeal.Read.val_main_v6 (F := Ideal)) a0 a1),
      h4.trans (congrArg₂ (Cert.ReferenceIdeal.Read.val_main_v7 (F := Ideal)) a0 a1),
      h5.trans (congrArg₂ (Cert.ReferenceIdeal.Read.val_main_v8 (F := Ideal)) a0 a1),
      h6.trans (congrArg₂ (Cert.ReferenceIdeal.Read.val_main_v9 (F := Ideal)) a0 a1),
      h7.trans (congrArg₂ (Cert.ReferenceIdeal.Read.val_main_v10 (F := Ideal)) a0 a1),
      h8.trans (congrArg₂ (Cert.ReferenceIdeal.Read.val_main_v11 (F := Ideal)) a0 a1),
      h9.trans (congrArg (Cert.ReferenceIdeal.Read.val_main_v20 (F := Ideal)) a2),
      h10.trans (congrArg (Cert.ReferenceIdeal.Read.val_main_v21 (F := Ideal)) a3),
      h11.trans (congrArg (Cert.ReferenceIdeal.Read.val_main_v22 (F := Ideal)) a4),
      h12.trans (congrArg (Cert.ReferenceIdeal.Read.val_main_v23 (F := Ideal)) a5),
      h13.trans (congrArg (Cert.ReferenceIdeal.Read.val_main_v24 (F := Ideal)) a6),
      h14.trans (congrArg (Cert.ReferenceIdeal.Read.val_main_v25 (F := Ideal)) a7),
      h15.trans (congrArg (Cert.ReferenceIdeal.Read.val_main_v26 (F := Ideal)) a8),
      h16.trans (congrArg (Cert.ReferenceIdeal.Read.val_main_v27 (F := Ideal)) a9), ha⟩

end Cert.InProjClaim

end
-- ==== Proof.InProjFrameBits.lean ====
/- The in_proj call's frame at the bit-exact instance: the program as printed has the text of the program the ideal pass
   left, so that its body table and its main are the same and the run serves for both. -/
module

public import proofs.«01_k».proof.Defs
public import proofs.«01_k».proof.Proof.Gen.Kernel
public import proofs.«01_k».proof.Proof.InProjClaim

@[expose] public section

set_option maxRecDepth 16384
set_option maxHeartbeats 2000000

noncomputable section

namespace Cert.InProjClaim

open Idealize.ShloMosaic Idealize.ShloMosaic.TcCoe Idealize.SL.Sem

theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

theorem main_eq : Cert.Kernel.main (F := Bits) = Cert.KernelIdeal.main (F := Bits) := rfl

/-- The kernel as printed ends, at the bit-exact instance, with its arguments as launched and every counter at zero. -/
theorem frame_kernel : Cert.quiescent_Kernel := fun m ρ _ => by
  rw [defs_eq, main_eq]
  exact frame_any (F := Bits) m ρ

end Cert.InProjClaim

end
-- ==== Proof.MlpDownValue.lean ====
/- The mlp_down call at the ideal instance: what the body leaves at the four points of a block of the result, the running
   sum in the scratch through them, and the result's array after the run as one function of the arrays the call finds. -/
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pointwise
public import Idealize.ShloMosaic.Lib.ValueIdxCore
public import Idealize.ShloMosaic.Init
public import Idealize.ShloMosaic.Lib.Pipeline.Value
public import Idealize.ShloMosaic.Lib.Pipeline.ValueKit

@[expose] public section

set_option maxRecDepth 16384

noncomputable section

namespace Cert.Kernel2Ideal.MlpDown

open Idealize.ShloMosaic Idealize.ShloMosaic.TcCoe Idealize.ShloMosaic.Tactic
open Idealize.SL.Sem
open Idealize.ShloMosaic.Pipeline (Dat Cfg Window)
open Cert.Kernel2Ideal.Gen

theorem hz : (![0, 0] : Fin 2 → Nat) = fun _ => 0 := funext fun a => by fin_cases a <;> rfl

section Cases

variable {F : FTy → Type} [FloatOps F]

/-! ## What the body leaves, case by case -/

theorem sout_A (c : Dev nD) (i : grid0.Coords) (a3 : Memref sig .tc .vmem S1024x4096 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i) (hc2 : ¬cond0_2 i)
    (x0 : Vec F S1024x4096 .bf16) (x1 : Vec F S4096x1024 .bf16) (x2 : Vec F S1024x1024 .f32) :
    sout0_A_0 c i a3 h3 a4 h4 a5 h5 a6 h6 a7 h7 hc0 hc1 hc2 x0 x1 x2 = k0_pay2 x0 x1 := by
  unfold sout0_A_0
  rw [View.read_writes_eq_canon _ _ _ (scover0_A_0 c i a3 h3 a4 h4 a5 h5 a6 h6 a7 h7 hc0 hc1 hc2 x0 x1 x2)]
  unfold kernelRun0_A; dsimp only
  rw [View.canon_unit_zero hz]
  simp only [View.readAt_eq_ld, h3.read_unread, h4.read_unread, View.ld_unit_zero (S := S1024x4096) hz, View.ld_unit_zero (S := S4096x1024) hz]

theorem sout_B (c : Dev nD) (i : grid0.Coords) (a3 : Memref sig .tc .vmem S1024x4096 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (hc2 : ¬cond0_2 i)
    (x0 : Vec F S1024x4096 .bf16) (x1 : Vec F S4096x1024 .bf16) (x2 : Vec F S1024x1024 .f32) (xs : Vec F S1024x1024 .f32) :
    sout0_B_0 c i a3 h3 a4 h4 a5 h5 a6 h6 a7 h7 hc0 hc1 hc2 x0 x1 x2 xs = k0_pay3 x0 x1 xs := by
  unfold sout0_B_0
  rw [View.read_writes_eq_canon _ _ _ (scover0_B_0 c i a3 h3 a4 h4 a5 h5 a6 h6 a7 h7 hc0 hc1 hc2 x0 x1 x2 xs)]
  unfold kernelRun0_B; dsimp only
  rw [View.canon_unit_zero hz]
  simp only [View.readAt_eq_ld, h3.read_unread, h4.read_unread, h7.read_unread, View.ld_unit_zero (S := S1024x4096) hz, View.ld_unit_zero (S := S4096x1024) hz, View.ld_unit_zero (S := S1024x1024) hz]

theorem out_C (c : Dev nD) (i : grid0.Coords) (a3 : Memref sig .tc .vmem S1024x4096 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i) (hc2 : cond0_2 i)
    (x0 : Vec F S1024x4096 .bf16) (x1 : Vec F S4096x1024 .bf16) (x2 : Vec F S1024x1024 .f32) (xs : Vec F S1024x1024 .f32) :
    out0_C_3 c i a3 h3 a4 h4 a5 h5 a6 h6 a7 h7 hc0 hc1 hc2 x0 x1 x2 xs = k0_pay4 x0 x1 xs x2 := by
  unfold out0_C_3
  rw [View.read_writes_eq_canon _ _ _ (cover0_C_3 c i a3 h3 a4 h4 a5 h5 a6 h6 a7 h7 hc0 hc1 hc2 x0 x1 x2 xs)]
  unfold kernelRun0_C; dsimp only
  rw [View.canon_unit_zero hz]
  simp only [View.readAt_eq_ld, h3.read_unread, h4.read_unread, h5.read_unread, h7.read_unread, View.ld_unit_zero (S := S1024x4096) hz, View.ld_unit_zero (S := S4096x1024) hz, View.ld_unit_zero (S := S1024x1024) hz]

end Cases

variable (m : (ℓ : Loc nD τ sig) → Buf (Elt Ideal) ℓ)

/-- The grid has 256 points. -/
theorem lt256 (t : Fin cfg0.N) : t.val < 256 := lt_of_lt_of_eq t.isLt N_0

/-! ## The running sum -/

/-- The product of the blocks at point `n`, and zero past the last point. -/
def part (c : Dev nD) (n : ℕ) : Vec Ideal S1024x1024 .f32 :=
  if h : n < cfg0.N then k0_pay1 (iblk m c 0 ⟨n, h⟩) (iblk m c 1 ⟨n, h⟩) else fun _ => (0 : EReal)

theorem part_of (c : Dev nD) (n : ℕ) (h : n < cfg0.N) : part m c n = k0_pay1 (iblk m c 0 ⟨n, h⟩) (iblk m c 1 ⟨n, h⟩) := dif_pos h

theorem scratch_A (c : Dev nD) (n : ℕ) (h : n < cfg0.N) (hn : n % 4 = 0) (y : S1024x1024.Idx) :
    ((outsAt0 m c n h).2 y : EReal) = part m c n y := by
  rw [outsAt0_A m c ⟨n, h⟩ hn (fun q => by have := q.1; dsimp only at this; omega) (fun q => by dsimp only at q; omega), part_of m c n h]
  dsimp only
  rw [sout_A]
  unfold k0_pay2
  rw [shapeCast_self]

theorem scratch_B (c : Dev nD) (n : ℕ) (h : n < cfg0.N) (h1 : 1 ≤ n % 4) (h2 : n % 4 ≤ 2) (y : S1024x1024.Idx) :
    ((outsAt0 m c n h).2 y : EReal) = (outsAt0 m c (n - 1) (Nat.lt_of_le_of_lt (Nat.sub_le _ _) h)).2 y + part m c n y := by
  rw [outsAt0_B m c ⟨n, h⟩ (fun q => by dsimp only at q; omega) ⟨h1, h2⟩ (fun q => by dsimp only at q; omega), part_of m c n h]
  dsimp only
  rw [sout_B]
  unfold k0_pay3
  rw [shapeCast_self]
  rfl

/-- The factor of the residual. -/
def alpha : EReal := FloatOps.ofBits (F := Ideal) .f32 0x3F9837F0#32

theorem out_at (c : Dev nD) (t : Fin cfg0.N) (ht : t.val % 4 = 3) (y : S1024x1024.Idx) :
    ((outsAt0 m c t.val t.isLt).1 y : EReal) = alpha * (iblk m c 2 t : Vec Ideal S1024x1024 .f32) y
      + (part m c (t.val - 3) y + part m c (t.val - 2) y + part m c (t.val - 1) y + part m c t.val y) := by
  obtain ⟨n, h⟩ := t
  dsimp only at ht ⊢
  have e1 : n - 1 - 1 = n - 2 := by omega
  have e2 : n - 2 - 1 = n - 3 := by omega
  have s0 := scratch_A m c (n - 3) (by omega) (by omega) y
  have s1 := scratch_B m c (n - 2) (by omega) (by omega) (by omega) y
  have s2 := scratch_B m c (n - 1) (by omega) (by omega) (by omega) y
  simp only [e1] at s2
  simp only [e2] at s1
  rw [outsAt0_C m c ⟨n, h⟩ (fun q => by dsimp only at q; omega) (fun q => by have := q.1; have := q.2; dsimp only at *; omega) ht]
  dsimp only
  rw [out_C, part_of m c n h]
  unfold k0_pay4
  rw [← s0, ← s1, ← s2]
  rfl

/-! ## The blocks as parts of the arrays -/

theorem idx0 : ∀ t : Fin cfg0.N, win0_0.index t (0 : Fin 2) = t.val / 16 ∧ win0_0.index t (1 : Fin 2) = t.val % 4 := (by decide +kernel : ∀ t : Fin grid0.N, _)
theorem idx1 : ∀ t : Fin cfg0.N, win0_1.index t (0 : Fin 2) = t.val % 4 ∧ win0_1.index t (1 : Fin 2) = t.val / 4 % 4 := (by decide +kernel : ∀ t : Fin grid0.N, _)
theorem idx2 : ∀ t : Fin cfg0.N, win0_2.index t (0 : Fin 2) = t.val / 16 ∧ win0_2.index t (1 : Fin 2) = t.val / 4 % 4 := (by decide +kernel : ∀ t : Fin grid0.N, _)
theorem idx3 : ∀ t : Fin cfg0.N, win0_3.index t (0 : Fin 2) = t.val / 16 ∧ win0_3.index t (1 : Fin 2) = t.val / 4 % 4 := (by decide +kernel : ∀ t : Fin grid0.N, _)

theorem emb0 (t : Fin cfg0.N) (y : S1024x4096.Idx) :
    ((cfg0.win 0).blk t).view.emb y = (ix2 (⟨t.val / 16 * 1024 + (y 0).val, by have := lt256 t; have : (y 0).val < 1024 := (y 0).isLt; omega⟩ : Fin 16384) (⟨t.val % 4 * 4096 + (y 1).val, by have : (y 1).val < 4096 := (y 1).isLt; omega⟩ : Fin 16384) : S16384x16384.Idx) := by
  obtain ⟨e0, e1⟩ := idx0 t
  funext a; apply Fin.ext
  match a with
  | ⟨0, _⟩ => show win0_0.index t (0 : Fin 2) * 1024 + 1 * (y 0).val = t.val / 16 * 1024 + (y 0).val; omega
  | ⟨1, _⟩ => show win0_0.index t (1 : Fin 2) * 4096 + 1 * (y 1).val = t.val % 4 * 4096 + (y 1).val; omega

theorem emb1 (t : Fin cfg0.N) (y : S4096x1024.Idx) :
    ((cfg0.win 1).blk t).view.emb y = (ix2 (⟨t.val % 4 * 4096 + (y 0).val, by have : (y 0).val < 4096 := (y 0).isLt; omega⟩ : Fin 16384) (⟨t.val / 4 % 4 * 1024 + (y 1).val, by have : (y 1).val < 1024 := (y 1).isLt; omega⟩ : Fin 4096) : S16384x4096.Idx) := by
  obtain ⟨e0, e1⟩ := idx1 t
  funext a; apply Fin.ext
  match a with
  | ⟨0, _⟩ => show win0_1.index t (0 : Fin 2) * 4096 + 1 * (y 0).val = t.val % 4 * 4096 + (y 0).val; omega
  | ⟨1, _⟩ => show win0_1.index t (1 : Fin 2) * 1024 + 1 * (y 1).val = t.val / 4 % 4 * 1024 + (y 1).val; omega

theorem emb2 (t : Fin cfg0.N) (y : S1024x1024.Idx) :
    ((cfg0.win 2).blk t).view.emb y = (ix2 (⟨t.val / 16 * 1024 + (y 0).val, by have := lt256 t; have : (y 0).val < 1024 := (y 0).isLt; omega⟩ : Fin 16384) (⟨t.val / 4 % 4 * 1024 + (y 1).val, by have : (y 1).val < 1024 := (y 1).isLt; omega⟩ : Fin 4096) : S16384x4096.Idx) := by
  obtain ⟨e0, e1⟩ := idx2 t
  funext a; apply Fin.ext
  match a with
  | ⟨0, _⟩ => show win0_2.index t (0 : Fin 2) * 1024 + 1 * (y 0).val = t.val / 16 * 1024 + (y 0).val; omega
  | ⟨1, _⟩ => show win0_2.index t (1 : Fin 2) * 1024 + 1 * (y 1).val = t.val / 4 % 4 * 1024 + (y 1).val; omega

theorem emb3 (t : Fin cfg0.N) (y : S1024x1024.Idx) :
    ((cfg0.win 3).blk t).view.emb y = (ix2 (⟨t.val / 16 * 1024 + (y 0).val, by have := lt256 t; have : (y 0).val < 1024 := (y 0).isLt; omega⟩ : Fin 16384) (⟨t.val / 4 % 4 * 1024 + (y 1).val, by have : (y 1).val < 1024 := (y 1).isLt; omega⟩ : Fin 4096) : S16384x4096.Idx) := by
  obtain ⟨e0, e1⟩ := idx3 t
  funext a; apply Fin.ext
  match a with
  | ⟨0, _⟩ => show win0_3.index t (0 : Fin 2) * 1024 + 1 * (y 0).val = t.val / 16 * 1024 + (y 0).val; omega
  | ⟨1, _⟩ => show win0_3.index t (1 : Fin 2) * 1024 + 1 * (y 1).val = t.val / 4 % 4 * 1024 + (y 1).val; omega

/-! ## A product's parts -/

theorem pay1_apply (x0 : Vec Ideal S1024x4096 .bf16) (x1 : Vec Ideal S4096x1024 .bf16) (y : S1024x1024.Idx) :
    k0_pay1 (F := Ideal) x0 x1 y = ∑ k : Fin 4096, x0 (ix2 (y 0) k) * x1 (ix2 k (y 1)) := by
  pointwise [k0_pay1]

/-- The `k`-th quarter of the product of row `r` and column `q`. -/
def quarter (a : FVec Ideal S16384x16384 .bf16) (b : FVec Ideal S16384x4096 .bf16) (r : Fin 16384) (q : Fin 4096) (k : ℕ) (hk : k < 4) : EReal :=
  ∑ x : Fin 4096, a (ix2 r (⟨k * 4096 + x.val, by have := x.isLt; omega⟩ : Fin 16384)) * b (ix2 (⟨k * 4096 + x.val, by have := x.isLt; omega⟩ : Fin 16384) q)

theorem part_apply (c : Dev nD) (n : ℕ) (h : n < cfg0.N) (y : S1024x1024.Idx) :
    (part m c n y : EReal) = quarter (V m c main_arg0) (V m c main_arg1) (⟨n / 16 * 1024 + (y 0).val, by have := lt256 ⟨n, h⟩; dsimp only at this; have : (y 0).val < 1024 := (y 0).isLt; omega⟩ : Fin 16384)
      (⟨n / 4 % 4 * 1024 + (y 1).val, by have : (y 1).val < 1024 := (y 1).isLt; omega⟩ : Fin 4096) (n % 4) (Nat.mod_lt _ (by decide)) := by
  rw [part_of m c n h, pay1_apply]
  refine Finset.sum_congr rfl fun x _ => ?_
  exact congrArg₂ (fun p q : EReal => p * q) (congrArg (V m c main_arg0) (emb0 ⟨n, h⟩ (ix2 (y 0) x))) (congrArg (V m c main_arg1) (emb1 ⟨n, h⟩ (ix2 x (y 1))))

/-- A sum over 16384 terms as the sum of its quarters. -/
theorem sum_quarters (f : ℕ → EReal) : ∑ k : Fin 16384, f k.val
    = ((∑ x : Fin 4096, f (0 * 4096 + x.val)) + ∑ x : Fin 4096, f (1 * 4096 + x.val)) + (∑ x : Fin 4096, f (2 * 4096 + x.val)) + ∑ x : Fin 4096, f (3 * 4096 + x.val) := by
  have h : ∀ (n : ℕ) (g : ℕ → EReal), ∑ k : Fin n, g k.val = ∑ k ∈ Finset.range n, g k := fun n g => Fin.sum_univ_eq_sum_range g n
  rw [h 16384 f, h 4096 fun x => f (0 * 4096 + x), h 4096 fun x => f (1 * 4096 + x), h 4096 fun x => f (2 * 4096 + x), h 4096 fun x => f (3 * 4096 + x)]
  rw [show (16384 : ℕ) = 4096 + 4096 + 4096 + 4096 from rfl, Finset.sum_range_add, Finset.sum_range_add, Finset.sum_range_add]
  simp only [Nat.zero_mul, Nat.zero_add, Nat.one_mul]

theorem quarters (a : FVec Ideal S16384x16384 .bf16) (b : FVec Ideal S16384x4096 .bf16) (r : Fin 16384) (q : Fin 4096) :
    quarter a b r q 0 (by decide) + quarter a b r q 1 (by decide) + quarter a b r q 2 (by decide) + quarter a b r q 3 (by decide)
      = ∑ k : Fin 16384, a (ix2 r k) * b (ix2 k q) := by
  have h := sum_quarters fun n => if h : n < 16384 then (a (ix2 r (⟨n, h⟩ : Fin 16384)) * b (ix2 (⟨n, h⟩ : Fin 16384) q) : EReal) else 0
  have hk : ∀ k : ℕ, (hk : k < 4) → (∑ x : Fin 4096, if h : k * 4096 + x.val < 16384 then (a (ix2 r (⟨k * 4096 + x.val, h⟩ : Fin 16384)) * b (ix2 (⟨k * 4096 + x.val, h⟩ : Fin 16384) q) : EReal) else 0) = quarter a b r q k hk :=
    fun k hk => Finset.sum_congr rfl fun x _ => dif_pos (by have := x.isLt; omega)
  rw [hk 0 (by decide), hk 1 (by decide), hk 2 (by decide), hk 3 (by decide)] at h
  rw [← h]
  exact Finset.sum_congr rfl fun x _ => dif_pos x.isLt

/-! ## The result's array after the run -/

/-- The result's array, of the activations `a`, the weight `b` and the residual `h`. -/
def G (a : FVec Ideal S16384x16384 .bf16) (b : FVec Ideal S16384x4096 .bf16) (h : FVec Ideal S16384x4096 .f32) : FVec Ideal S16384x4096 .f32 := fun i =>
  (alpha * h i + ∑ k : Fin 16384, a (ix2 (i 0 : Fin 16384) k) * b (ix2 k (i 1 : Fin 4096)) : EReal)

theorem arr (c : Dev nD) : (dats m 0 c).arrAt 3 cfg0.N = G (V m c main_arg0) (V m c main_arg1) (V m c main_arg2) := by
  refine (dats m 0 c).arrAt_eq_of_covers 3 _ (by decide +kernel) fun t hf y => ?_
  have ht : t.val % 4 = 3 := (flush0_3 t).mp hf
  have hN := lt256 t
  rw [emb3, after0_3]
  refine (out_at m c t ht y).trans ?_
  rw [part_apply m c (t.val - 3) (lt_of_le_of_lt (Nat.sub_le _ _) t.isLt), part_apply m c (t.val - 2) (lt_of_le_of_lt (Nat.sub_le _ _) t.isLt), part_apply m c (t.val - 1) (lt_of_le_of_lt (Nat.sub_le _ _) t.isLt), part_apply m c t.val t.isLt]
  have a3 : (t.val - 3) / 16 = t.val / 16 := by omega
  have a2 : (t.val - 2) / 16 = t.val / 16 := by omega
  have a1 : (t.val - 1) / 16 = t.val / 16 := by omega
  have b3 : (t.val - 3) / 4 % 4 = t.val / 4 % 4 := by omega
  have b2 : (t.val - 2) / 4 % 4 = t.val / 4 % 4 := by omega
  have b1 : (t.val - 1) / 4 % 4 = t.val / 4 % 4 := by omega
  have c3 : (t.val - 3) % 4 = 0 := by omega
  have c2 : (t.val - 2) % 4 = 1 := by omega
  have c1 : (t.val - 1) % 4 = 2 := by omega
  simp only [a3, a2, a1, b3, b2, b1, c3, c2, c1, ht]
  rw [quarters]
  exact congrArg (fun z : EReal => alpha * z + _) (congrArg (V m c main_arg2) (emb2 t y))

end Cert.Kernel2Ideal.MlpDown

end

end
-- ==== Proof.MlpDownClaim.lean ====
/- The claims of the mlp_down call: both frames, the reference's, and its result met with the reference's. -/
module

public import proofs.«01_k».proof.Defs
public import proofs.«01_k».proof.Proof.MlpDownValue
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import proofs.«01_k».proof.Proof.Gen.Reference2Ideal.Read
public import Idealize.ShloMosaic.Lib.Claim
public import Idealize.ShloMosaic.Lib.Quiescent

@[expose] public section

set_option maxRecDepth 16384

noncomputable section

namespace Cert.MlpDownClaim

open Idealize.ShloMosaic Idealize.ShloMosaic.TcCoe Idealize.ShloMosaic.Tactic
open Idealize.SL Idealize.SL.Sem
open Cert.Kernel2Ideal.MlpDown

theorem frame_kernel : Cert.quiescent_Kernel2 := fun m ρ _ => Cert.Kernel2.Gen.frame m ρ

theorem frame_kernelIdeal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The call's array is the reference's result. -/
theorem meet (a : FVec Ideal Cert.Kernel2Ideal.S16384x16384 .bf16) (b : FVec Ideal Cert.Kernel2Ideal.S16384x4096 .bf16) (h : FVec Ideal Cert.Kernel2Ideal.S16384x4096 .f32) :
    G a b h = Cert.Reference2Ideal.Read.val_main_v5 (F := Ideal) a b h := by
  funext i
  rw [Cert.Reference2Ideal.Read.val_main_v5_apply, Cert.Reference2Ideal.Read.val_main_v1_apply, Cert.Reference2Ideal.Read.val_main_v0_apply,
    Cert.Reference2Ideal.Read.val_main_cst_apply, Cert.Reference2Ideal.Read.val_main_v4_apply]
  refine congrArg₂ (fun p q : EReal => p + q) rfl (Finset.sum_congr rfl fun k _ => ?_)
  rw [Cert.Reference2Ideal.Read.val_main_v2_apply, Cert.Reference2Ideal.Read.val_main_v3_apply]
  refine congrArg₂ (fun p q : EReal => p * q) (congrArg a (funext fun x => ?_)) (congrArg b (funext fun x => ?_))
  · match x with
    | ⟨0, _⟩ => rfl
    | ⟨1, _⟩ => rfl
  · match x with
    | ⟨0, _⟩ => rfl
    | ⟨1, _⟩ => rfl

theorem results : Cert.algebraic_Kernel2Ideal_Reference2Ideal := by
  intro m ρ m' ρ' _ hagree
  refine ⟨fun c => Cert.Reference2Ideal.Read.val_main_v5 (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    (θ_run Cert.Kernel2Ideal.defs _ _).mono (fun r h c => ?_) (θ_run_and (Cert.Kernel2Ideal.Gen.run_main m ρ) (Cert.Kernel2Ideal.Gen.unchanged m ρ)),
    (θ_run Cert.Reference2Ideal.defs _ _).mono (fun r h c => ?_) (Cert.Reference2Ideal.Value.run (F := Ideal) m' ρ')⟩
  · refine ⟨((h.1 c).1 3).trans ((arr m c).trans ?_), h.2 c⟩
    exact meet _ _ _
  · obtain ⟨a0, a1, a2⟩ := hagree c
    refine ⟨?_, (h c).2⟩
    rw [(h c).1]
    refine (Cert.Reference2Ideal.Read.val_main_v5_eq _ _ _).trans ?_
    rw [a0, a1, a2]

end Cert.MlpDownClaim

end

end
-- ==== Proof.RowNorm.lean ====
/- A row's layer norm over the extended reals, as one function of the row: its mean, its variance about the mean, the
   difference scaled by the reciprocal root, then the gain and the bias. -/
module

public import Idealize.ShloMosaic.PureOps.Ideal
public import Idealize.ShloMosaic.Lib.Pointwise

@[expose] public section

noncomputable section

namespace Cert.RowNorm

open Idealize.ShloMosaic

/-- A row's mean: its sum over the row's length as a single-precision number. -/
def mean (x : Fin 4096 → EReal) : EReal := Ideal.div (∑ k, x k) (Ideal.ofBits .f32 0x45800000#32)

/-- The normed row at `d`. -/
def rowNorm (x : Fin 4096 → EReal) (g b : EReal) (d : Fin 4096) : EReal :=
  (x d - mean x) * Ideal.rsqrt (Ideal.div (∑ k, (x k - mean x) * (x k - mean x)) (Ideal.ofBits .f32 0x45800000#32)
    + Ideal.ofBits .f32 0x3727C5AC#32) * g + b

theorem rowNorm_congr {x x' : Fin 4096 → EReal} {g g' b b' : EReal} (hx : x = x') (hg : g = g') (hb : b = b') (d : Fin 4096) :
    rowNorm x g b d = rowNorm x' g' b' d := by
  rw [hx, hg, hb]

end Cert.RowNorm

end

end
-- ==== Proof.LnOutAValue.lean ====
/- The ln_out call over rows 0 to 8191 at the ideal instance: the result's array after the run as the rows' layer norm, the host's
   lines around it, and both met with the reference. -/
module

public import proofs.«01_k».proof.Proof.RowNorm
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Read
public import Idealize.ShloMosaic.Lib.Pointwise
public import Idealize.ShloMosaic.Lib.ValueIdxCore
public import Idealize.ShloMosaic.Init
public import Idealize.ShloMosaic.Lib.Pipeline.Value
public import Idealize.ShloMosaic.Lib.Pipeline.ValueKit

@[expose] public section

set_option maxRecDepth 16384

noncomputable section

namespace Cert.Kernel3Ideal.LnOut

open Idealize.ShloMosaic Idealize.ShloMosaic.TcCoe Idealize.ShloMosaic.Tactic
open Idealize.SL.Sem
open Idealize.ShloMosaic.Pipeline (Dat Cfg Window)
open Cert.Kernel3Ideal.Gen Cert.RowNorm

variable (m : (ℓ : Loc nD τ sig) → Buf (Elt Ideal) ℓ)

theorem hz : (![0, 0] : Fin 2 → Nat) = fun _ => 0 := funext fun a => by fin_cases a <;> rfl

theorem lt32 (t : Fin cfg0.N) : t.val < 32 := lt_of_lt_of_eq t.isLt N_0

/-! ## What the body leaves -/

theorem pay_apply (x0 : Vec Ideal S256x4096 .f32) (x1 x2 : Vec Ideal S1x4096 .f32) (y : S256x4096.Idx) :
    k0_pay1 (F := Ideal) x0 x1 x2 y = rowNorm (fun k => x0 (ix2 (y 0) k)) (x1 (ix2 0 (y 1))) (x2 (ix2 0 (y 1))) (y 1) := by
  unfold rowNorm mean
  pointwise [k0_pay1]

theorem out_eq (x0 : Vec Ideal S256x4096 .f32) (x1 x2 : Vec Ideal S1x4096 .f32) : out0_3 x0 x1 x2 = k0_pay1 (F := Ideal) x0 x1 x2 := by
  unfold out0_3
  rw [View.canon_unit_zero hz, View.ld_unit_zero (S := S256x4096) hz, View.ld_unit_zero (S := S1x4096) hz, View.ld_unit_zero (S := S1x4096) hz]

/-! ## The blocks as parts of the arrays -/

theorem idx0 : ∀ t : Fin cfg0.N, win0_0.index t (0 : Fin 2) = t.val + 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

theorem emb0 (t : Fin cfg0.N) (y : S256x4096.Idx) :
    ((cfg0.win 0).blk t).view.emb y = (ix2 (⟨0 + (t.val * 256 + (y 0).val), by have := lt32 t; have : (y 0).val < 256 := (y 0).isLt; omega⟩ : Fin 16384) ((y 1) : Fin 4096) : S16384x4096.Idx) := by
  obtain ⟨e0, e1⟩ := idx0 t
  funext a; apply Fin.ext
  match a with
  | ⟨0, _⟩ => show win0_0.index t (0 : Fin 2) * 256 + 1 * (y 0).val = 0 + (t.val * 256 + (y 0).val); omega
  | ⟨1, _⟩ => show win0_0.index t (1 : Fin 2) * 4096 + 1 * (y 1).val = (y 1).val; omega

theorem iblk0_apply (c : Dev nD) (t : Fin cfg0.N) (y : S256x4096.Idx) : (iblk m c 0 t : Vec Ideal S256x4096 .f32) y
    = (V m c main_arg0 : S16384x4096.Idx → Elt Ideal .f32) (ix2 (⟨0 + (t.val * 256 + (y 0).val), by have := lt32 t; have : (y 0).val < 256 := (y 0).isLt; omega⟩ : Fin 16384) ((y 1) : Fin 4096)) :=
  congrArg (V m c main_arg0) (emb0 t y)

theorem emb1 (t : Fin cfg0.N) (y : S1x4096.Idx) : ((cfg0.win 1).blk t).view.emb y = y := by
  obtain ⟨e0, e1⟩ := idx1 t
  funext a; apply Fin.ext
  match a with
  | ⟨0, _⟩ => show win0_1.index t (0 : Fin 2) * 1 + 1 * (y 0).val = (y 0).val; omega
  | ⟨1, _⟩ => show win0_1.index t (1 : Fin 2) * 4096 + 1 * (y 1).val = (y 1).val; omega

theorem iblk1_apply (c : Dev nD) (t : Fin cfg0.N) (y : S1x4096.Idx) : (iblk m c 1 t : Vec Ideal S1x4096 .f32) y
    = (V m c main_v2 : S1x4096.Idx → Elt Ideal .f32) y :=
  congrArg (V m c main_v2) (emb1 t y)

theorem emb2 (t : Fin cfg0.N) (y : S1x4096.Idx) : ((cfg0.win 2).blk t).view.emb y = y := by
  obtain ⟨e0, e1⟩ := idx2 t
  funext a; apply Fin.ext
  match a with
  | ⟨0, _⟩ => show win0_2.index t (0 : Fin 2) * 1 + 1 * (y 0).val = (y 0).val; omega
  | ⟨1, _⟩ => show win0_2.index t (1 : Fin 2) * 4096 + 1 * (y 1).val = (y 1).val; omega

theorem iblk2_apply (c : Dev nD) (t : Fin cfg0.N) (y : S1x4096.Idx) : (iblk m c 2 t : Vec Ideal S1x4096 .f32) y
    = (V m c main_v3 : S1x4096.Idx → Elt Ideal .f32) y :=
  congrArg (V m c main_v3) (emb2 t y)

theorem emb3 (t : Fin cfg0.N) (y : S256x4096.Idx) :
    ((cfg0.win 3).blk t).view.emb y = (ix2 (⟨t.val * 256 + (y 0).val, by have := lt32 t; have : (y 0).val < 256 := (y 0).isLt; omega⟩ : Fin 8192) ((y 1) : Fin 4096) : S8192x4096.Idx) := by
  obtain ⟨e0, e1⟩ := idx3 t
  funext a; apply Fin.ext
  match a with
  | ⟨0, _⟩ => show win0_3.index t (0 : Fin 2) * 256 + 1 * (y 0).val = t.val * 256 + (y 0).val; omega
  | ⟨1, _⟩ => show win0_3.index t (1 : Fin 2) * 4096 + 1 * (y 1).val = (y 1).val; omega

/-! ## The result's array after the run -/

/-- The rows' layer norm, of the array `x`, the gain `g` and the bias `b`. -/
def G (x : FVec Ideal S16384x4096 .f32) (g b : FVec Ideal S1x4096 .f32) : FVec Ideal S8192x4096 .f32 := fun i =>
  rowNorm (fun k => x (ix2 (⟨0 + (i 0).val, by have : (i 0).val < 8192 := (i 0).isLt; omega⟩ : Fin 16384) k)) (g (ix2 0 (i 1 : Fin 4096))) (b (ix2 0 (i 1 : Fin 4096))) (i 1 : Fin 4096)

theorem G_apply (x : FVec Ideal S16384x4096 .f32) (g b : FVec Ideal S1x4096 .f32) (r : Fin 8192) (d : Fin 4096) :
    G x g b (ix2 r d) = rowNorm (fun k => x (ix2 (⟨0 + r.val, by have := r.isLt; omega⟩ : Fin 16384) k)) (g (ix2 0 d)) (b (ix2 0 d)) d := rfl

theorem after_eq (c : Dev nD) (t : Fin cfg0.N) : (dats m 0 c).after 3 t = k0_pay1 (F := Ideal) (iblk m c 0 t) (iblk m c 1 t) (iblk m c 2 t) :=
  (after0_3 m c t).trans (out_eq _ _ _)

theorem after_apply (c : Dev nD) (t : Fin cfg0.N) (y : S256x4096.Idx) : ((dats m 0 c).after 3 t : Vec Ideal S256x4096 .f32) y
    = rowNorm (fun k => (iblk m c 0 t : Vec Ideal S256x4096 .f32) (ix2 (y 0) k)) ((iblk m c 1 t : Vec Ideal S1x4096 .f32) (ix2 0 (y 1))) ((iblk m c 2 t : Vec Ideal S1x4096 .f32) (ix2 0 (y 1))) (y 1) := by
  rw [after_eq]
  exact pay_apply _ _ _ y

theorem point (c : Dev nD) (t : Fin cfg0.N) (y : S256x4096.Idx) : ((dats m 0 c).after 3 t : Vec Ideal S256x4096 .f32) y
    = G (V m c main_arg0) (V m c main_v2) (V m c main_v3) (ix2 (⟨t.val * 256 + (y 0).val, by have := lt32 t; have : (y 0).val < 256 := (y 0).isLt; omega⟩ : Fin 8192) ((y 1) : Fin 4096)) := by
  refine (after_apply m c t y).trans (Eq.trans ?_ (G_apply _ _ _ _ _).symm)
  refine rowNorm_congr (funext fun k => ?_) ?_ ?_ _
  · exact iblk0_apply m c t (ix2 (y 0) k)
  · exact iblk1_apply m c t (ix2 0 (y 1))
  · exact iblk2_apply m c t (ix2 0 (y 1))

theorem arr (c : Dev nD) : (dats m 0 c).arrAt 3 cfg0.N = G (V m c main_arg0) (V m c main_v2) (V m c main_v3) := by
  refine (dats m 0 c).arrAt_eq_of_covers 3 _ (by decide +kernel) fun t hf y => ?_
  rw [emb3]
  exact point m c t y

/-! ## The host's lines -/

theorem V_v2 (c : Dev nD) : V m c main_v2 = shapeCast _ (shapeCast _ (m ((c.tc : Thread nD τ).loc main_arg1)) shapeCasts_S1x4096_S4096) shapeCasts_S4096_S1x4096 := by
  show StableHlo.after (List.flatten [hostOps0]) (fun b => m (c, b)) (Proc.devRef .tc main_v2) = _
  simp only [List.flatten_cons, List.flatten_nil, List.append_nil]
  after_results <;> rfl

theorem V_v3 (c : Dev nD) : V m c main_v3 = shapeCast _ (shapeCast _ (m ((c.tc : Thread nD τ).loc main_arg2)) shapeCasts_S1x4096_S4096) shapeCasts_S4096_S1x4096 := by
  show StableHlo.after (List.flatten [hostOps0]) (fun b => m (c, b)) (Proc.devRef .tc main_v3) = _
  simp only [List.flatten_cons, List.flatten_nil, List.append_nil]
  after_results <;> rfl

theorem exit_arr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c (V0 m c) (fun w => (dats m 0 c).arrAt w cfg0.N) w

theorem tail_v5 (c : Dev nD) : Pipeline.afterTail₀ cfgs (dats m) 0 (V0 m) [hostOps1] c main_v5
    = shapeCast _ ((dats m 0 c).arrAt 3 cfg0.N : S8192x4096.Idx → Elt Ideal .f32) shapeCasts_S8192x4096_S4x2048x4096 := by
  unfold Pipeline.afterTail₀
  simp only [List.flatten_cons, List.flatten_nil, List.append_nil]
  have h := exit_arr m c 3
  revert h
  generalize Pipeline.withArrays (cfgs 0).spec c (V0 m c) (fun w => (dats m 0 c).arrAt w (cfgs 0).N) = V'
  intro h
  rw [← h]
  after_results <;> rfl

/-! ## The reference -/

open Cert.Reference3Ideal.Read in
theorem ref_apply (x0 : FVec Ideal S16384x4096 .f32) (x1 x2 : FVec Ideal S1x4096 .f32) (a : Fin 4) (b : Fin 2048) (d : Fin 4096) :
    val_main_v27 (F := Ideal) x0 x1 x2 (ix3 a b d) = rowNorm (fun k => x0 (ix2 (⟨0 + (a.val * 2048 + b.val), by have := a.isLt; have := b.isLt; omega⟩ : Fin 16384) k)) (x1 (ix2 0 d)) (x2 (ix2 0 d)) d := by
  unfold rowNorm mean
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

theorem host_apply (x0 : FVec Ideal S16384x4096 .f32) (x1 x2 : FVec Ideal S1x4096 .f32) (a : Fin 4) (b : Fin 2048) (d : Fin 4096) :
    (shapeCast S4x2048x4096 (G x0 (shapeCast _ (shapeCast _ x1 shapeCasts_S1x4096_S4096) shapeCasts_S4096_S1x4096) (shapeCast _ (shapeCast _ x2 shapeCasts_S1x4096_S4096) shapeCasts_S4096_S1x4096)) shapeCasts_S8192x4096_S4x2048x4096 : FVec Ideal S4x2048x4096 .f32) (ix3 a b d)
      = rowNorm (fun k => x0 (ix2 (⟨0 + (a.val * 2048 + b.val), by have := a.isLt; have := b.isLt; omega⟩ : Fin 16384) k)) (x1 (ix2 0 d)) (x2 (ix2 0 d)) d := by
  pointwise [G]

theorem meet (x0 : FVec Ideal S16384x4096 .f32) (x1 x2 : FVec Ideal S1x4096 .f32) :
    (shapeCast S4x2048x4096 (G x0 (shapeCast _ (shapeCast _ x1 shapeCasts_S1x4096_S4096) shapeCasts_S4096_S1x4096) (shapeCast _ (shapeCast _ x2 shapeCasts_S1x4096_S4096) shapeCasts_S4096_S1x4096)) shapeCasts_S8192x4096_S4x2048x4096 : FVec Ideal S4x2048x4096 .f32)
      = Cert.Reference3Ideal.Read.val_main_v27 (F := Ideal) x0 x1 x2 := by
  funext i
  have e : i = ix3 (i 0 : Fin 4) (i 1 : Fin 2048) (i 2 : Fin 4096) := funext fun a => match a with
    | ⟨0, _⟩ => rfl
    | ⟨1, _⟩ => rfl
    | ⟨2, _⟩ => rfl
  rw [e]
  exact (host_apply x0 x1 x2 _ _ _).trans (ref_apply x0 x1 x2 _ _ _).symm

end Cert.Kernel3Ideal.LnOut

end

end
-- ==== Proof.LnOutAClaim.lean ====
/- The claims of the ln_out call over rows 0 to 8191: both frames, the reference's, and its result met with the reference's. -/
module

public import proofs.«01_k».proof.Defs
public import proofs.«01_k».proof.Proof.LnOutAValue
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import proofs.«01_k».proof.Proof.Gen.Reference3Ideal.Read
public import Idealize.ShloMosaic.Lib.Claim
public import Idealize.ShloMosaic.Lib.Quiescent

@[expose] public section

set_option maxRecDepth 16384

noncomputable section

namespace Cert.LnOutAClaim

open Idealize.ShloMosaic Idealize.ShloMosaic.TcCoe Idealize.ShloMosaic.Tactic
open Idealize.SL Idealize.SL.Sem
open Cert.Kernel3Ideal.LnOut

theorem frame_kernel : Cert.quiescent_Kernel3 := fun m ρ _ => Cert.Kernel3.Gen.frame m ρ

theorem frame_kernelIdeal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem results : Cert.algebraic_Kernel3Ideal_Reference3Ideal := by
  intro m ρ m' ρ' _ hagree
  refine ⟨fun c => Cert.Reference3Ideal.Read.val_main_v27 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    (θ_run Cert.Kernel3Ideal.defs _ _).mono (fun r h c => ?_) (θ_run_and (Cert.Kernel3Ideal.Gen.run_main m ρ) (Cert.Kernel3Ideal.Gen.unchanged m ρ)),
    (θ_run Cert.Reference3Ideal.defs _ _).mono (fun r h c => ?_) (Cert.Reference3Ideal.Value.run (F := Ideal) m' ρ')⟩
  · refine ⟨?_, h.2 c⟩
    refine ((h.1 c).2 Cert.Kernel3Ideal.main_v5 (Pipeline.mem_restRefs_of Cert.Kernel3Ideal.main_v5 (by decide) (by decide))).trans ((tail_v5 m c).trans ?_)
    rw [arr m c, V_v2 m c, V_v3 m c, Cert.Kernel3Ideal.Gen.V_main_arg0 m c]
    exact meet _ _ _
  · obtain ⟨a0, a1, a2⟩ := hagree c
    refine ⟨?_, (h c).2⟩
    rw [(h c).1]
    refine (Cert.Reference3Ideal.Read.val_main_v27_eq _ _ _).trans ?_
    rw [a0, a1, a2]

end Cert.LnOutAClaim

end

end
-- ==== Proof.LnOutBValue.lean ====
/- The ln_out call over rows 8192 to 16383 at the ideal instance: the result's array after the run as the rows' layer norm, the host's
   lines around it, and both met with the reference. -/
module

public import proofs.«01_k».proof.Proof.RowNorm
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Read
public import Idealize.ShloMosaic.Lib.Pointwise
public import Idealize.ShloMosaic.Lib.ValueIdxCore
public import Idealize.ShloMosaic.Init
public import Idealize.ShloMosaic.Lib.Pipeline.Value
public import Idealize.ShloMosaic.Lib.Pipeline.ValueKit

@[expose] public section

set_option maxRecDepth 16384

noncomputable section

namespace Cert.Kernel4Ideal.LnOut

open Idealize.ShloMosaic Idealize.ShloMosaic.TcCoe Idealize.ShloMosaic.Tactic
open Idealize.SL.Sem
open Idealize.ShloMosaic.Pipeline (Dat Cfg Window)
open Cert.Kernel4Ideal.Gen Cert.RowNorm

variable (m : (ℓ : Loc nD τ sig) → Buf (Elt Ideal) ℓ)

theorem hz : (![0, 0] : Fin 2 → Nat) = fun _ => 0 := funext fun a => by fin_cases a <;> rfl

theorem lt32 (t : Fin cfg0.N) : t.val < 32 := lt_of_lt_of_eq t.isLt N_0

/-! ## What the body leaves -/

theorem pay_apply (x0 : Vec Ideal S256x4096 .f32) (x1 x2 : Vec Ideal S1x4096 .f32) (y : S256x4096.Idx) :
    k0_pay1 (F := Ideal) x0 x1 x2 y = rowNorm (fun k => x0 (ix2 (y 0) k)) (x1 (ix2 0 (y 1))) (x2 (ix2 0 (y 1))) (y 1) := by
  unfold rowNorm mean
  pointwise [k0_pay1]

theorem out_eq (x0 : Vec Ideal S256x4096 .f32) (x1 x2 : Vec Ideal S1x4096 .f32) : out0_3 x0 x1 x2 = k0_pay1 (F := Ideal) x0 x1 x2 := by
  unfold out0_3
  rw [View.canon_unit_zero hz, View.ld_unit_zero (S := S256x4096) hz, View.ld_unit_zero (S := S1x4096) hz, View.ld_unit_zero (S := S1x4096) hz]

/-! ## The blocks as parts of the arrays -/

theorem idx0 : ∀ t : Fin cfg0.N, win0_0.index t (0 : Fin 2) = t.val + 32 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

theorem emb0 (t : Fin cfg0.N) (y : S256x4096.Idx) :
    ((cfg0.win 0).blk t).view.emb y = (ix2 (⟨8192 + (t.val * 256 + (y 0).val), by have := lt32 t; have : (y 0).val < 256 := (y 0).isLt; omega⟩ : Fin 16384) ((y 1) : Fin 4096) : S16384x4096.Idx) := by
  obtain ⟨e0, e1⟩ := idx0 t
  funext a; apply Fin.ext
  match a with
  | ⟨0, _⟩ => show win0_0.index t (0 : Fin 2) * 256 + 1 * (y 0).val = 8192 + (t.val * 256 + (y 0).val); omega
  | ⟨1, _⟩ => show win0_0.index t (1 : Fin 2) * 4096 + 1 * (y 1).val = (y 1).val; omega

theorem iblk0_apply (c : Dev nD) (t : Fin cfg0.N) (y : S256x4096.Idx) : (iblk m c 0 t : Vec Ideal S256x4096 .f32) y
    = (V m c main_arg0 : S16384x4096.Idx → Elt Ideal .f32) (ix2 (⟨8192 + (t.val * 256 + (y 0).val), by have := lt32 t; have : (y 0).val < 256 := (y 0).isLt; omega⟩ : Fin 16384) ((y 1) : Fin 4096)) :=
  congrArg (V m c main_arg0) (emb0 t y)

theorem emb1 (t : Fin cfg0.N) (y : S1x4096.Idx) : ((cfg0.win 1).blk t).view.emb y = y := by
  obtain ⟨e0, e1⟩ := idx1 t
  funext a; apply Fin.ext
  match a with
  | ⟨0, _⟩ => show win0_1.index t (0 : Fin 2) * 1 + 1 * (y 0).val = (y 0).val; omega
  | ⟨1, _⟩ => show win0_1.index t (1 : Fin 2) * 4096 + 1 * (y 1).val = (y 1).val; omega

theorem iblk1_apply (c : Dev nD) (t : Fin cfg0.N) (y : S1x4096.Idx) : (iblk m c 1 t : Vec Ideal S1x4096 .f32) y
    = (V m c main_v2 : S1x4096.Idx → Elt Ideal .f32) y :=
  congrArg (V m c main_v2) (emb1 t y)

theorem emb2 (t : Fin cfg0.N) (y : S1x4096.Idx) : ((cfg0.win 2).blk t).view.emb y = y := by
  obtain ⟨e0, e1⟩ := idx2 t
  funext a; apply Fin.ext
  match a with
  | ⟨0, _⟩ => show win0_2.index t (0 : Fin 2) * 1 + 1 * (y 0).val = (y 0).val; omega
  | ⟨1, _⟩ => show win0_2.index t (1 : Fin 2) * 4096 + 1 * (y 1).val = (y 1).val; omega

theorem iblk2_apply (c : Dev nD) (t : Fin cfg0.N) (y : S1x4096.Idx) : (iblk m c 2 t : Vec Ideal S1x4096 .f32) y
    = (V m c main_v3 : S1x4096.Idx → Elt Ideal .f32) y :=
  congrArg (V m c main_v3) (emb2 t y)

theorem emb3 (t : Fin cfg0.N) (y : S256x4096.Idx) :
    ((cfg0.win 3).blk t).view.emb y = (ix2 (⟨t.val * 256 + (y 0).val, by have := lt32 t; have : (y 0).val < 256 := (y 0).isLt; omega⟩ : Fin 8192) ((y 1) : Fin 4096) : S8192x4096.Idx) := by
  obtain ⟨e0, e1⟩ := idx3 t
  funext a; apply Fin.ext
  match a with
  | ⟨0, _⟩ => show win0_3.index t (0 : Fin 2) * 256 + 1 * (y 0).val = t.val * 256 + (y 0).val; omega
  | ⟨1, _⟩ => show win0_3.index t (1 : Fin 2) * 4096 + 1 * (y 1).val = (y 1).val; omega

/-! ## The result's array after the run -/

/-- The rows' layer norm, of the array `x`, the gain `g` and the bias `b`. -/
def G (x : FVec Ideal S16384x4096 .f32) (g b : FVec Ideal S1x4096 .f32) : FVec Ideal S8192x4096 .f32 := fun i =>
  rowNorm (fun k => x (ix2 (⟨8192 + (i 0).val, by have : (i 0).val < 8192 := (i 0).isLt; omega⟩ : Fin 16384) k)) (g (ix2 0 (i 1 : Fin 4096))) (b (ix2 0 (i 1 : Fin 4096))) (i 1 : Fin 4096)

theorem G_apply (x : FVec Ideal S16384x4096 .f32) (g b : FVec Ideal S1x4096 .f32) (r : Fin 8192) (d : Fin 4096) :
    G x g b (ix2 r d) = rowNorm (fun k => x (ix2 (⟨8192 + r.val, by have := r.isLt; omega⟩ : Fin 16384) k)) (g (ix2 0 d)) (b (ix2 0 d)) d := rfl

theorem after_eq (c : Dev nD) (t : Fin cfg0.N) : (dats m 0 c).after 3 t = k0_pay1 (F := Ideal) (iblk m c 0 t) (iblk m c 1 t) (iblk m c 2 t) :=
  (after0_3 m c t).trans (out_eq _ _ _)

theorem after_apply (c : Dev nD) (t : Fin cfg0.N) (y : S256x4096.Idx) : ((dats m 0 c).after 3 t : Vec Ideal S256x4096 .f32) y
    = rowNorm (fun k => (iblk m c 0 t : Vec Ideal S256x4096 .f32) (ix2 (y 0) k)) ((iblk m c 1 t : Vec Ideal S1x4096 .f32) (ix2 0 (y 1))) ((iblk m c 2 t : Vec Ideal S1x4096 .f32) (ix2 0 (y 1))) (y 1) := by
  rw [after_eq]
  exact pay_apply _ _ _ y

theorem point (c : Dev nD) (t : Fin cfg0.N) (y : S256x4096.Idx) : ((dats m 0 c).after 3 t : Vec Ideal S256x4096 .f32) y
    = G (V m c main_arg0) (V m c main_v2) (V m c main_v3) (ix2 (⟨t.val * 256 + (y 0).val, by have := lt32 t; have : (y 0).val < 256 := (y 0).isLt; omega⟩ : Fin 8192) ((y 1) : Fin 4096)) := by
  refine (after_apply m c t y).trans (Eq.trans ?_ (G_apply _ _ _ _ _).symm)
  refine rowNorm_congr (funext fun k => ?_) ?_ ?_ _
  · exact iblk0_apply m c t (ix2 (y 0) k)
  · exact iblk1_apply m c t (ix2 0 (y 1))
  · exact iblk2_apply m c t (ix2 0 (y 1))

theorem arr (c : Dev nD) : (dats m 0 c).arrAt 3 cfg0.N = G (V m c main_arg0) (V m c main_v2) (V m c main_v3) := by
  refine (dats m 0 c).arrAt_eq_of_covers 3 _ (by decide +kernel) fun t hf y => ?_
  rw [emb3]
  exact point m c t y

/-! ## The host's lines -/

theorem V_v2 (c : Dev nD) : V m c main_v2 = shapeCast _ (shapeCast _ (m ((c.tc : Thread nD τ).loc main_arg1)) shapeCasts_S1x4096_S4096) shapeCasts_S4096_S1x4096 := by
  show StableHlo.after (List.flatten [hostOps0]) (fun b => m (c, b)) (Proc.devRef .tc main_v2) = _
  simp only [List.flatten_cons, List.flatten_nil, List.append_nil]
  after_results <;> rfl

theorem V_v3 (c : Dev nD) : V m c main_v3 = shapeCast _ (shapeCast _ (m ((c.tc : Thread nD τ).loc main_arg2)) shapeCasts_S1x4096_S4096) shapeCasts_S4096_S1x4096 := by
  show StableHlo.after (List.flatten [hostOps0]) (fun b => m (c, b)) (Proc.devRef .tc main_v3) = _
  simp only [List.flatten_cons, List.flatten_nil, List.append_nil]
  after_results <;> rfl

theorem exit_arr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c (V0 m c) (fun w => (dats m 0 c).arrAt w cfg0.N) w

theorem tail_v5 (c : Dev nD) : Pipeline.afterTail₀ cfgs (dats m) 0 (V0 m) [hostOps1] c main_v5
    = shapeCast _ ((dats m 0 c).arrAt 3 cfg0.N : S8192x4096.Idx → Elt Ideal .f32) shapeCasts_S8192x4096_S2x4096x4096 := by
  unfold Pipeline.afterTail₀
  simp only [List.flatten_cons, List.flatten_nil, List.append_nil]
  have h := exit_arr m c 3
  revert h
  generalize Pipeline.withArrays (cfgs 0).spec c (V0 m c) (fun w => (dats m 0 c).arrAt w (cfgs 0).N) = V'
  intro h
  rw [← h]
  after_results <;> rfl

/-! ## The reference -/

open Cert.Reference4Ideal.Read in
theorem ref_apply (x0 : FVec Ideal S16384x4096 .f32) (x1 x2 : FVec Ideal S1x4096 .f32) (a : Fin 2) (b : Fin 4096) (d : Fin 4096) :
    val_main_v27 (F := Ideal) x0 x1 x2 (ix3 a b d) = rowNorm (fun k => x0 (ix2 (⟨8192 + (a.val * 4096 + b.val), by have := a.isLt; have := b.isLt; omega⟩ : Fin 16384) k)) (x1 (ix2 0 d)) (x2 (ix2 0 d)) d := by
  unfold rowNorm mean
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

theorem host_apply (x0 : FVec Ideal S16384x4096 .f32) (x1 x2 : FVec Ideal S1x4096 .f32) (a : Fin 2) (b : Fin 4096) (d : Fin 4096) :
    (shapeCast S2x4096x4096 (G x0 (shapeCast _ (shapeCast _ x1 shapeCasts_S1x4096_S4096) shapeCasts_S4096_S1x4096) (shapeCast _ (shapeCast _ x2 shapeCasts_S1x4096_S4096) shapeCasts_S4096_S1x4096)) shapeCasts_S8192x4096_S2x4096x4096 : FVec Ideal S2x4096x4096 .f32) (ix3 a b d)
      = rowNorm (fun k => x0 (ix2 (⟨8192 + (a.val * 4096 + b.val), by have := a.isLt; have := b.isLt; omega⟩ : Fin 16384) k)) (x1 (ix2 0 d)) (x2 (ix2 0 d)) d := by
  pointwise [G]

theorem meet (x0 : FVec Ideal S16384x4096 .f32) (x1 x2 : FVec Ideal S1x4096 .f32) :
    (shapeCast S2x4096x4096 (G x0 (shapeCast _ (shapeCast _ x1 shapeCasts_S1x4096_S4096) shapeCasts_S4096_S1x4096) (shapeCast _ (shapeCast _ x2 shapeCasts_S1x4096_S4096) shapeCasts_S4096_S1x4096)) shapeCasts_S8192x4096_S2x4096x4096 : FVec Ideal S2x4096x4096 .f32)
      = Cert.Reference4Ideal.Read.val_main_v27 (F := Ideal) x0 x1 x2 := by
  funext i
  have e : i = ix3 (i 0 : Fin 2) (i 1 : Fin 4096) (i 2 : Fin 4096) := funext fun a => match a with
    | ⟨0, _⟩ => rfl
    | ⟨1, _⟩ => rfl
    | ⟨2, _⟩ => rfl
  rw [e]
  exact (host_apply x0 x1 x2 _ _ _).trans (ref_apply x0 x1 x2 _ _ _).symm

end Cert.Kernel4Ideal.LnOut

end

end
-- ==== Proof.LnOutBClaim.lean ====
/- The claims of the ln_out call over rows 8192 to 16383: both frames, the reference's, and its result met with the reference's. -/
module

public import proofs.«01_k».proof.Defs
public import proofs.«01_k».proof.Proof.LnOutBValue
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Gen.Reference4Ideal.Read
public import Idealize.ShloMosaic.Lib.Claim
public import Idealize.ShloMosaic.Lib.Quiescent

@[expose] public section

set_option maxRecDepth 16384

noncomputable section

namespace Cert.LnOutBClaim

open Idealize.ShloMosaic Idealize.ShloMosaic.TcCoe Idealize.ShloMosaic.Tactic
open Idealize.SL Idealize.SL.Sem
open Cert.Kernel4Ideal.LnOut

theorem frame_kernel : Cert.quiescent_Kernel4 := fun m ρ _ => Cert.Kernel4.Gen.frame m ρ

theorem frame_kernelIdeal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem results : Cert.algebraic_Kernel4Ideal_Reference4Ideal := by
  intro m ρ m' ρ' _ hagree
  refine ⟨fun c => Cert.Reference4Ideal.Read.val_main_v27 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    (θ_run Cert.Kernel4Ideal.defs _ _).mono (fun r h c => ?_) (θ_run_and (Cert.Kernel4Ideal.Gen.run_main m ρ) (Cert.Kernel4Ideal.Gen.unchanged m ρ)),
    (θ_run Cert.Reference4Ideal.defs _ _).mono (fun r h c => ?_) (Cert.Reference4Ideal.Value.run (F := Ideal) m' ρ')⟩
  · refine ⟨?_, h.2 c⟩
    refine ((h.1 c).2 Cert.Kernel4Ideal.main_v5 (Pipeline.mem_restRefs_of Cert.Kernel4Ideal.main_v5 (by decide) (by decide))).trans ((tail_v5 m c).trans ?_)
    rw [arr m c, V_v2 m c, V_v3 m c, Cert.Kernel4Ideal.Gen.V_main_arg0 m c]
    exact meet _ _ _
  · obtain ⟨a0, a1, a2⟩ := hagree c
    refine ⟨?_, (h c).2⟩
    rw [(h c).1]
    refine (Cert.Reference4Ideal.Read.val_main_v27_eq _ _ _).trans ?_
    rw [a0, a1, a2]

end Cert.LnOutBClaim

end

end
-- ==== Proof.MatmulLnValue.lean ====
/- The product with the layer norm after it (mix_out_ln, xa_o_ln) at the ideal instance: both result arrays after the run as the
   norm of the scaled residual plus the product, the host's lines before it, and both met with the reference. -/
module

public import proofs.«01_k».proof.Proof.RowNorm
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Read
public import Idealize.ShloMosaic.Lib.Pointwise
public import Idealize.ShloMosaic.Lib.ValueIdxCore
public import Idealize.ShloMosaic.Init
public import Idealize.ShloMosaic.Lib.Pipeline.Value
public import Idealize.ShloMosaic.Lib.Pipeline.ValueKit

@[expose] public section

set_option maxRecDepth 16384

noncomputable section

namespace Cert.Kernel5Ideal.MatmulLn

open Idealize.ShloMosaic Idealize.ShloMosaic.TcCoe Idealize.ShloMosaic.Tactic
open Idealize.SL.Sem
open Idealize.ShloMosaic.Pipeline (Dat Cfg Window)
open Cert.Kernel5Ideal.Gen Cert.RowNorm

variable (m : (ℓ : Loc nD τ sig) → Buf (Elt Ideal) ℓ)

theorem hz : (![0, 0] : Fin 2 → Nat) = fun _ => 0 := funext fun a => by fin_cases a <;> rfl

theorem lt64 (t : Fin cfg0.N) : t.val < 64 := lt_of_lt_of_eq t.isLt N_0

/-- The factor on the residual. -/
def α : EReal := Ideal.ofBits .f32 0x3F9837F0#32

/-- A row before the norm: the scaled residual plus the row's product with the weight. -/
def mixed (a : Fin 4096 → EReal) (w : Fin 4096 → Fin 4096 → EReal) (h : Fin 4096 → EReal) : Fin 4096 → EReal :=
  fun k => α * h k + ∑ j, a j * w j k

theorem mixed_congr {a a' : Fin 4096 → EReal} {w w' : Fin 4096 → Fin 4096 → EReal} {h h' : Fin 4096 → EReal} (ha : a = a') (hw : w = w') (hh : h = h') :
    mixed a w h = mixed a' w' h' := by
  rw [ha, hw, hh]

/-! ## What the body leaves -/

theorem pay1_apply (x0 : Vec Ideal S128x4096 .bf16) (x1 : Vec Ideal S4096x4096 .bf16) (x2 : Vec Ideal S128x4096 .f32) (x3 x4 : Vec Ideal S1x4096 .f32) (r : Fin 128) (d : Fin 4096) :
    k0_pay1 (F := Ideal) x0 x1 x2 x3 x4 (ix2 r d) = rowNorm (mixed (fun j => x0 (ix2 r j)) (fun j k => x1 (ix2 j k)) (fun k => x2 (ix2 r k))) (x3 (ix2 0 d)) (x4 (ix2 0 d)) d := by
  unfold rowNorm mean mixed α
  pointwise [k0_pay1]

theorem pay3_apply (x0 : Vec Ideal S128x4096 .bf16) (x1 : Vec Ideal S4096x4096 .bf16) (x2 : Vec Ideal S128x4096 .f32) (x3 x4 : Vec Ideal S1x4096 .f32) (r : Fin 128) (d : Fin 4096) :
    k0_pay3 (F := Ideal) x0 x1 x2 x3 x4 (ix2 r d) = rowNorm (mixed (fun j => x0 (ix2 r j)) (fun j k => x1 (ix2 j k)) (fun k => x2 (ix2 r k))) (x3 (ix2 0 d)) (x4 (ix2 0 d)) d := by
  unfold rowNorm mean mixed α
  pointwise [k0_pay3]

/-- The block the body leaves. -/
def blkG (x0 : Vec Ideal S256x4096 .bf16) (x1 : Vec Ideal S4096x4096 .bf16) (x2 : Vec Ideal S256x4096 .f32) (x3 x4 : Vec Ideal S1x4096 .f32) : S256x4096.Idx → EReal := fun y =>
  rowNorm (mixed (fun j => x0 (ix2 (y 0) j)) (fun j k => x1 (ix2 j k)) (fun k => x2 (ix2 (y 0) k))) (x3 (ix2 0 (y 1))) (x4 (ix2 0 (y 1))) (y 1)

theorem idx_eta (x : S128x4096.Idx) : x = ix2 (x 0 : Fin 128) (x 1 : Fin 4096) := funext fun a => match a with
  | ⟨0, _⟩ => rfl
  | ⟨1, _⟩ => rfl

theorem half0 (x0 : Vec Ideal S256x4096 .bf16) (x1 : Vec Ideal S4096x4096 .bf16) (x2 : Vec Ideal S256x4096 .f32) (x3 x4 : Vec Ideal S1x4096 .f32) (x : S128x4096.Idx) :
    k0_pay3 (F := Ideal) (View.ld x0 r0_0) x1 (View.ld x2 r0_0) x3 x4 x = blkG x0 x1 x2 x3 x4 (r0_0.emb x) := by
  have e : ∀ j : Fin 4096, r0_0.emb (ix2 (x 0 : Fin 128) j : S128x4096.Idx) = (ix2 ((r0_0.emb x) 0) j : S256x4096.Idx) := fun j => funext fun a => Fin.ext (match a with
    | ⟨0, _⟩ => rfl
    | ⟨1, _⟩ => (by show 0 + 1 * j.val = j.val; omega))
  have e1 : (r0_0.emb x) 1 = (x 1 : Fin 4096) := Fin.ext (by show 0 + 1 * (x 1).val = (x 1).val; omega)
  refine (congrArg (k0_pay3 (F := Ideal) (View.ld x0 r0_0) x1 (View.ld x2 r0_0) x3 x4) (idx_eta x)).trans ((pay3_apply (View.ld x0 r0_0) x1 (View.ld x2 r0_0) x3 x4 (x 0) (x 1)).trans ?_)
  unfold blkG
  rw [e1]
  exact rowNorm_congr (mixed_congr (funext fun j => congrArg x0 (e j)) rfl (funext fun j => congrArg x2 (e j))) rfl rfl _

theorem half1 (x0 : Vec Ideal S256x4096 .bf16) (x1 : Vec Ideal S4096x4096 .bf16) (x2 : Vec Ideal S256x4096 .f32) (x3 x4 : Vec Ideal S1x4096 .f32) (x : S128x4096.Idx) :
    k0_pay1 (F := Ideal) (View.ld x0 r0_3) x1 (View.ld x2 r0_3) x3 x4 x = blkG x0 x1 x2 x3 x4 (r0_3.emb x) := by
  have e : ∀ j : Fin 4096, r0_3.emb (ix2 (x 0 : Fin 128) j : S128x4096.Idx) = (ix2 ((r0_3.emb x) 0) j : S256x4096.Idx) := fun j => funext fun a => Fin.ext (match a with
    | ⟨0, _⟩ => rfl
    | ⟨1, _⟩ => (by show 0 + 1 * j.val = j.val; omega))
  have e1 : (r0_3.emb x) 1 = (x 1 : Fin 4096) := Fin.ext (by show 0 + 1 * (x 1).val = (x 1).val; omega)
  refine (congrArg (k0_pay1 (F := Ideal) (View.ld x0 r0_3) x1 (View.ld x2 r0_3) x3 x4) (idx_eta x)).trans ((pay1_apply (View.ld x0 r0_3) x1 (View.ld x2 r0_3) x3 x4 (x 0) (x 1)).trans ?_)
  unfold blkG
  rw [e1]
  exact rowNorm_congr (mixed_congr (funext fun j => congrArg x0 (e j)) rfl (funext fun j => congrArg x2 (e j))) rfl rfl _

theorem out5_eq (x0 : Vec Ideal S256x4096 .bf16) (x1 : Vec Ideal S4096x4096 .bf16) (x2 : Vec Ideal S256x4096 .f32) (x3 x4 : Vec Ideal S1x4096 .f32) : out0_5 x0 x1 x2 x3 x4 = blkG x0 x1 x2 x3 x4 := by
  funext y
  unfold out0_5
  rw [View.ld_unit_zero (S := S4096x4096) hz, View.ld_unit_zero (S := S1x4096) hz, View.ld_unit_zero (S := S1x4096) hz]
  refine View.canon_apply_of_pieces (Val := Elt Ideal) (S := S256x4096) (blkG x0 x1 x2 x3 x4) _ (fun p hp x => ?_) y (cover0_5 _ _ y)
  rcases List.mem_cons.mp hp with rfl | hp
  · exact half1 x0 x1 x2 x3 x4 x
  · rcases List.mem_cons.mp hp with rfl | hp
    · exact half0 x0 x1 x2 x3 x4 x
    · exact absurd hp List.not_mem_nil

theorem out6_eq (x0 : Vec Ideal S256x4096 .bf16) (x1 : Vec Ideal S4096x4096 .bf16) (x2 : Vec Ideal S256x4096 .f32) (x3 x4 : Vec Ideal S1x4096 .f32) : out0_6 x0 x1 x2 x3 x4 = blkG x0 x1 x2 x3 x4 := by
  funext y
  unfold out0_6
  rw [View.ld_unit_zero (S := S4096x4096) hz, View.ld_unit_zero (S := S1x4096) hz, View.ld_unit_zero (S := S1x4096) hz]
  refine View.canon_apply_of_pieces (Val := Elt Ideal) (S := S256x4096) (blkG x0 x1 x2 x3 x4) _ (fun p hp x => ?_) y (cover0_6 _ _ y)
  rcases List.mem_cons.mp hp with rfl | hp
  · exact half1 x0 x1 x2 x3 x4 x
  · rcases List.mem_cons.mp hp with rfl | hp
    · exact half0 x0 x1 x2 x3 x4 x
    · exact absurd hp List.not_mem_nil

/-! ## The blocks as parts of the arrays -/

theorem idx0 : ∀ t : Fin cfg0.N, win0_0.index t (0 : Fin 2) = t.val ∧ win0_0.index t (1 : Fin 2) = 0 := (by decide +kernel : ∀ t : Fin grid0.N, _)

theorem emb0 (t : Fin cfg0.N) (y : S256x4096.Idx) : ((cfg0.win 0).blk t).view.emb y = (ix2 (⟨t.val * 256 + (y 0).val, by have := lt64 t; have : (y 0).val < 256 := (y 0).isLt; omega⟩ : Fin 16384) ((y 1) : Fin 4096) : S16384x4096.Idx) := by
  obtain ⟨e0, e1⟩ := idx0 t
  funext a; apply Fin.ext
  match a with
  | ⟨0, _⟩ => show win0_0.index t (0 : Fin 2) * 256 + 1 * (y 0).val = t.val * 256 + (y 0).val; omega
  | ⟨1, _⟩ => show win0_0.index t (1 : Fin 2) * 4096 + 1 * (y 1).val = (y 1).val; omega

theorem iblk0_apply (c : Dev nD) (t : Fin cfg0.N) (y : S256x4096.Idx) : (iblk m c 0 t : Vec Ideal S256x4096 .bf16) y
    = (V m c main_arg0 : S16384x4096.Idx → Elt Ideal .bf16) (ix2 (⟨t.val * 256 + (y 0).val, by have := lt64 t; have : (y 0).val < 256 := (y 0).isLt; omega⟩ : Fin 16384) ((y 1) : Fin 4096) : S16384x4096.Idx) :=
  congrArg (V m c main_arg0) (emb0 t y)

theorem idx1 : ∀ t : Fin cfg0.N, win0_1.index t (0 : Fin 2) = 0 ∧ win0_1.index t (1 : Fin 2) = 0 := (by decide +kernel : ∀ t : Fin grid0.N, _)

theorem emb1 (t : Fin cfg0.N) (y : S4096x4096.Idx) : ((cfg0.win 1).blk t).view.emb y = y := by
  obtain ⟨e0, e1⟩ := idx1 t
  funext a; apply Fin.ext
  match a with
  | ⟨0, _⟩ => show win0_1.index t (0 : Fin 2) * 4096 + 1 * (y 0).val = (y 0).val; omega
  | ⟨1, _⟩ => show win0_1.index t (1 : Fin 2) * 4096 + 1 * (y 1).val = (y 1).val; omega

theorem iblk1_apply (c : Dev nD) (t : Fin cfg0.N) (y : S4096x4096.Idx) : (iblk m c 1 t : Vec Ideal S4096x4096 .bf16) y
    = (V m c main_arg1 : S4096x4096.Idx → Elt Ideal .bf16) y :=
  congrArg (V m c main_arg1) (emb1 t y)

theorem idx2 : ∀ t : Fin cfg0.N, win0_2.index t (0 : Fin 2) = t.val ∧ win0_2.index t (1 : Fin 2) = 0 := (by decide +kernel : ∀ t : Fin grid0.N, _)

theorem emb2 (t : Fin cfg0.N) (y : S256x4096.Idx) : ((cfg0.win 2).blk t).view.emb y = (ix2 (⟨t.val * 256 + (y 0).val, by have := lt64 t; have : (y 0).val < 256 := (y 0).isLt; omega⟩ : Fin 16384) ((y 1) : Fin 4096) : S16384x4096.Idx) := by
  obtain ⟨e0, e1⟩ := idx2 t
  funext a; apply Fin.ext
  match a with
  | ⟨0, _⟩ => show win0_2.index t (0 : Fin 2) * 256 + 1 * (y 0).val = t.val * 256 + (y 0).val; omega
  | ⟨1, _⟩ => show win0_2.index t (1 : Fin 2) * 4096 + 1 * (y 1).val = (y 1).val; omega

theorem iblk2_apply (c : Dev nD) (t : Fin cfg0.N) (y : S256x4096.Idx) : (iblk m c 2 t : Vec Ideal S256x4096 .f32) y
    = (V m c main_arg2 : S16384x4096.Idx → Elt Ideal .f32) (ix2 (⟨t.val * 256 + (y 0).val, by have := lt64 t; have : (y 0).val < 256 := (y 0).isLt; omega⟩ : Fin 16384) ((y 1) : Fin 4096) : S16384x4096.Idx) :=
  congrArg (V m c main_arg2) (emb2 t y)

theorem idx3 : ∀ t : Fin cfg0.N, win0_3.index t (0 : Fin 2) = 0 ∧ win0_3.index t (1 : Fin 2) = 0 := (by decide +kernel : ∀ t : Fin grid0.N, _)

theorem emb3 (t : Fin cfg0.N) (y : S1x4096.Idx) : ((cfg0.win 3).blk t).view.emb y = y := by
  obtain ⟨e0, e1⟩ := idx3 t
  funext a; apply Fin.ext
  match a with
  | ⟨0, _⟩ => show win0_3.index t (0 : Fin 2) * 1 + 1 * (y 0).val = (y 0).val; omega
  | ⟨1, _⟩ => show win0_3.index t (1 : Fin 2) * 4096 + 1 * (y 1).val = (y 1).val; omega

theorem iblk3_apply (c : Dev nD) (t : Fin cfg0.N) (y : S1x4096.Idx) : (iblk m c 3 t : Vec Ideal S1x4096 .f32) y
    = (V m c main_v2 : S1x4096.Idx → Elt Ideal .f32) y :=
  congrArg (V m c main_v2) (emb3 t y)

theorem idx4 : ∀ t : Fin cfg0.N, win0_4.index t (0 : Fin 2) = 0 ∧ win0_4.index t (1 : Fin 2) = 0 := (by decide +kernel : ∀ t : Fin grid0.N, _)

theorem emb4 (t : Fin cfg0.N) (y : S1x4096.Idx) : ((cfg0.win 4).blk t).view.emb y = y := by
  obtain ⟨e0, e1⟩ := idx4 t
  funext a; apply Fin.ext
  match a with
  | ⟨0, _⟩ => show win0_4.index t (0 : Fin 2) * 1 + 1 * (y 0).val = (y 0).val; omega
  | ⟨1, _⟩ => show win0_4.index t (1 : Fin 2) * 4096 + 1 * (y 1).val = (y 1).val; omega

theorem iblk4_apply (c : Dev nD) (t : Fin cfg0.N) (y : S1x4096.Idx) : (iblk m c 4 t : Vec Ideal S1x4096 .f32) y
    = (V m c main_v3 : S1x4096.Idx → Elt Ideal .f32) y :=
  congrArg (V m c main_v3) (emb4 t y)

theorem idx5 : ∀ t : Fin cfg0.N, win0_5.index t (0 : Fin 2) = t.val ∧ win0_5.index t (1 : Fin 2) = 0 := (by decide +kernel : ∀ t : Fin grid0.N, _)

theorem emb5 (t : Fin cfg0.N) (y : S256x4096.Idx) : ((cfg0.win 5).blk t).view.emb y = (ix2 (⟨t.val * 256 + (y 0).val, by have := lt64 t; have : (y 0).val < 256 := (y 0).isLt; omega⟩ : Fin 16384) ((y 1) : Fin 4096) : S16384x4096.Idx) := by
  obtain ⟨e0, e1⟩ := idx5 t
  funext a; apply Fin.ext
  match a with
  | ⟨0, _⟩ => show win0_5.index t (0 : Fin 2) * 256 + 1 * (y 0).val = t.val * 256 + (y 0).val; omega
  | ⟨1, _⟩ => show win0_5.index t (1 : Fin 2) * 4096 + 1 * (y 1).val = (y 1).val; omega

theorem idx6 : ∀ t : Fin cfg0.N, win0_6.index t (0 : Fin 2) = t.val ∧ win0_6.index t (1 : Fin 2) = 0 := (by decide +kernel : ∀ t : Fin grid0.N, _)

theorem emb6 (t : Fin cfg0.N) (y : S256x4096.Idx) : ((cfg0.win 6).blk t).view.emb y = (ix2 (⟨t.val * 256 + (y 0).val, by have := lt64 t; have : (y 0).val < 256 := (y 0).isLt; omega⟩ : Fin 16384) ((y 1) : Fin 4096) : S16384x4096.Idx) := by
  obtain ⟨e0, e1⟩ := idx6 t
  funext a; apply Fin.ext
  match a with
  | ⟨0, _⟩ => show win0_6.index t (0 : Fin 2) * 256 + 1 * (y 0).val = t.val * 256 + (y 0).val; omega
  | ⟨1, _⟩ => show win0_6.index t (1 : Fin 2) * 4096 + 1 * (y 1).val = (y 1).val; omega

/-! ## The result arrays after the run -/

/-- The norm of the scaled residual plus the product. -/
def G (a : FVec Ideal S16384x4096 .bf16) (w : FVec Ideal S4096x4096 .bf16) (h : FVec Ideal S16384x4096 .f32) (g b : FVec Ideal S1x4096 .f32) : S16384x4096.Idx → EReal := fun i =>
  rowNorm (mixed (fun j => a (ix2 (i 0 : Fin 16384) j)) (fun j k => w (ix2 j k)) (fun k => h (ix2 (i 0 : Fin 16384) k))) (g (ix2 0 (i 1 : Fin 4096))) (b (ix2 0 (i 1 : Fin 4096))) (i 1 : Fin 4096)

theorem G_apply (a : FVec Ideal S16384x4096 .bf16) (w : FVec Ideal S4096x4096 .bf16) (h : FVec Ideal S16384x4096 .f32) (g b : FVec Ideal S1x4096 .f32) (r : Fin 16384) (d : Fin 4096) :
    G a w h g b (ix2 r d) = rowNorm (mixed (fun j => a (ix2 r j)) (fun j k => w (ix2 j k)) (fun k => h (ix2 r k))) (g (ix2 0 d)) (b (ix2 0 d)) d := rfl

theorem blk_point (c : Dev nD) (t : Fin cfg0.N) (y : S256x4096.Idx) : blkG (iblk m c 0 t) (iblk m c 1 t) (iblk m c 2 t) (iblk m c 3 t) (iblk m c 4 t) y
    = G (V m c main_arg0) (V m c main_arg1) (V m c main_arg2) (V m c main_v2) (V m c main_v3) (ix2 (⟨t.val * 256 + (y 0).val, by have := lt64 t; have : (y 0).val < 256 := (y 0).isLt; omega⟩ : Fin 16384) ((y 1) : Fin 4096) : S16384x4096.Idx) := by
  refine Eq.trans ?_ (G_apply _ _ _ _ _ _ _).symm
  unfold blkG
  refine rowNorm_congr (mixed_congr (funext fun j => ?_) (funext fun j => funext fun k => ?_) (funext fun k => ?_)) ?_ ?_ _
  · exact iblk0_apply m c t (ix2 (y 0) j)
  · exact iblk1_apply m c t (ix2 j k)
  · exact iblk2_apply m c t (ix2 (y 0) k)
  · exact iblk3_apply m c t (ix2 0 (y 1))
  · exact iblk4_apply m c t (ix2 0 (y 1))

theorem after5_eq (c : Dev nD) (t : Fin cfg0.N) : (dats m 0 c).after 5 t = blkG (iblk m c 0 t) (iblk m c 1 t) (iblk m c 2 t) (iblk m c 3 t) (iblk m c 4 t) :=
  (after0_5 m c t).trans (out5_eq _ _ _ _ _)

theorem after5_apply (c : Dev nD) (t : Fin cfg0.N) (y : S256x4096.Idx) : ((dats m 0 c).after 5 t : Vec Ideal S256x4096 .f32) y
    = G (V m c main_arg0) (V m c main_arg1) (V m c main_arg2) (V m c main_v2) (V m c main_v3) (ix2 (⟨t.val * 256 + (y 0).val, by have := lt64 t; have : (y 0).val < 256 := (y 0).isLt; omega⟩ : Fin 16384) ((y 1) : Fin 4096) : S16384x4096.Idx) := by
  rw [after5_eq]
  exact blk_point m c t y

theorem arr5 (c : Dev nD) : (dats m 0 c).arrAt 5 cfg0.N = (G (V m c main_arg0) (V m c main_arg1) (V m c main_arg2) (V m c main_v2) (V m c main_v3) : FVec Ideal S16384x4096 .f32) := by
  refine (dats m 0 c).arrAt_eq_of_covers 5 _ (by decide +kernel) fun t hf y => ?_
  rw [emb5]
  exact after5_apply m c t y

theorem after6_eq (c : Dev nD) (t : Fin cfg0.N) : (dats m 0 c).after 6 t = blkG (iblk m c 0 t) (iblk m c 1 t) (iblk m c 2 t) (iblk m c 3 t) (iblk m c 4 t) :=
  (after0_6 m c t).trans (out6_eq _ _ _ _ _)

theorem after6_apply (c : Dev nD) (t : Fin cfg0.N) (y : S256x4096.Idx) : ((dats m 0 c).after 6 t : Vec Ideal S256x4096 .bf16) y
    = G (V m c main_arg0) (V m c main_arg1) (V m c main_arg2) (V m c main_v2) (V m c main_v3) (ix2 (⟨t.val * 256 + (y 0).val, by have := lt64 t; have : (y 0).val < 256 := (y 0).isLt; omega⟩ : Fin 16384) ((y 1) : Fin 4096) : S16384x4096.Idx) := by
  rw [after6_eq]
  exact blk_point m c t y

theorem arr6 (c : Dev nD) : (dats m 0 c).arrAt 6 cfg0.N = (G (V m c main_arg0) (V m c main_arg1) (V m c main_arg2) (V m c main_v2) (V m c main_v3) : FVec Ideal S16384x4096 .bf16) := by
  refine (dats m 0 c).arrAt_eq_of_covers 6 _ (by decide +kernel) fun t hf y => ?_
  rw [emb6]
  exact after6_apply m c t y

/-! ## The host's lines -/

theorem V_v2 (c : Dev nD) : V m c main_v2 = shapeCast _ (shapeCast _ (m ((c.tc : Thread nD τ).loc main_arg3)) shapeCasts_S1x4096_S4096) shapeCasts_S4096_S1x4096 := by
  show StableHlo.after (List.flatten [hostOps0]) (fun b => m (c, b)) (Proc.devRef .tc main_v2) = _
  simp only [List.flatten_cons, List.flatten_nil, List.append_nil]
  after_results <;> rfl

theorem V_v3 (c : Dev nD) : V m c main_v3 = shapeCast _ (shapeCast _ (m ((c.tc : Thread nD τ).loc main_arg4)) shapeCasts_S1x4096_S4096) shapeCasts_S4096_S1x4096 := by
  show StableHlo.after (List.flatten [hostOps0]) (fun b => m (c, b)) (Proc.devRef .tc main_v3) = _
  simp only [List.flatten_cons, List.flatten_nil, List.append_nil]
  after_results <;> rfl

/-! ## The reference -/

theorem cast_apply (x : FVec Ideal S1x4096 .f32) (d : Fin 4096) : (shapeCast S1x4096 (shapeCast _ x shapeCasts_S1x4096_S4096) shapeCasts_S4096_S1x4096) (ix2 0 d) = x (ix2 0 d) := by
  pointwise

theorem host_apply (x0 : FVec Ideal S16384x4096 .bf16) (x1 : FVec Ideal S4096x4096 .bf16) (x2 : FVec Ideal S16384x4096 .f32) (x3 x4 : FVec Ideal S1x4096 .f32) (r : Fin 16384) (d : Fin 4096) : G x0 x1 x2 (shapeCast _ (shapeCast _ x3 shapeCasts_S1x4096_S4096) shapeCasts_S4096_S1x4096) (shapeCast _ (shapeCast _ x4 shapeCasts_S1x4096_S4096) shapeCasts_S4096_S1x4096) (ix2 r d) = rowNorm (mixed (fun j => x0 (ix2 r j)) (fun j k => x1 (ix2 j k)) (fun k => x2 (ix2 r k))) (x3 (ix2 0 d)) (x4 (ix2 0 d)) d :=
  (G_apply _ _ _ _ _ _ _).trans (rowNorm_congr rfl (cast_apply x3 d) (cast_apply x4 d) d)

open Cert.Reference5Ideal.Read in
theorem ref31_apply (x0 : FVec Ideal S16384x4096 .bf16) (x1 : FVec Ideal S4096x4096 .bf16) (x2 : FVec Ideal S16384x4096 .f32) (x3 x4 : FVec Ideal S1x4096 .f32) (r : Fin 16384) (d : Fin 4096) : val_main_v31 (F := Ideal) x0 x1 x2 x3 x4 (ix2 r d) = rowNorm (mixed (fun j => x0 (ix2 r j)) (fun j k => x1 (ix2 j k)) (fun k => x2 (ix2 r k))) (x3 (ix2 0 d)) (x4 (ix2 0 d)) d := by
  unfold rowNorm mean mixed α
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]

open Cert.Reference5Ideal.Read in
theorem ref32_apply (x0 : FVec Ideal S16384x4096 .bf16) (x1 : FVec Ideal S4096x4096 .bf16) (x2 : FVec Ideal S16384x4096 .f32) (x3 x4 : FVec Ideal S1x4096 .f32) (i : S16384x4096.Idx) : val_main_v32 (F := Ideal) x0 x1 x2 x3 x4 i = val_main_v31 (F := Ideal) x0 x1 x2 x3 x4 i := rfl

theorem meet31 (x0 : FVec Ideal S16384x4096 .bf16) (x1 : FVec Ideal S4096x4096 .bf16) (x2 : FVec Ideal S16384x4096 .f32) (x3 x4 : FVec Ideal S1x4096 .f32) : G x0 x1 x2 (shapeCast _ (shapeCast _ x3 shapeCasts_S1x4096_S4096) shapeCasts_S4096_S1x4096) (shapeCast _ (shapeCast _ x4 shapeCasts_S1x4096_S4096) shapeCasts_S4096_S1x4096) = (Cert.Reference5Ideal.Read.val_main_v31 (F := Ideal) x0 x1 x2 x3 x4 : S16384x4096.Idx → EReal) := by
  funext i
  have e : i = ix2 (i 0 : Fin 16384) (i 1 : Fin 4096) := funext fun a => match a with
    | ⟨0, _⟩ => rfl
    | ⟨1, _⟩ => rfl
  rw [e]
  exact (host_apply x0 x1 x2 x3 x4 _ _).trans (ref31_apply x0 x1 x2 x3 x4 _ _).symm

theorem meet32 (x0 : FVec Ideal S16384x4096 .bf16) (x1 : FVec Ideal S4096x4096 .bf16) (x2 : FVec Ideal S16384x4096 .f32) (x3 x4 : FVec Ideal S1x4096 .f32) : G x0 x1 x2 (shapeCast _ (shapeCast _ x3 shapeCasts_S1x4096_S4096) shapeCasts_S4096_S1x4096) (shapeCast _ (shapeCast _ x4 shapeCasts_S1x4096_S4096) shapeCasts_S4096_S1x4096) = (Cert.Reference5Ideal.Read.val_main_v32 (F := Ideal) x0 x1 x2 x3 x4 : S16384x4096.Idx → EReal) :=
  (meet31 x0 x1 x2 x3 x4).trans (funext fun i => (ref32_apply x0 x1 x2 x3 x4 i).symm)

end Cert.Kernel5Ideal.MatmulLn

end

end
-- ==== Proof.MatmulLnClaim.lean ====
/- The claims of the mix_out_ln and xa_o_ln calls: both frames, the reference's, and their two results met with the reference's. -/
module

public import proofs.«01_k».proof.Defs
public import proofs.«01_k».proof.Proof.MatmulLnValue
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import proofs.«01_k».proof.Proof.Gen.Reference5Ideal.Read
public import Idealize.ShloMosaic.Lib.Claim
public import Idealize.ShloMosaic.Lib.Quiescent

@[expose] public section

set_option maxRecDepth 16384

noncomputable section

namespace Cert.MatmulLnClaim

open Idealize.ShloMosaic Idealize.ShloMosaic.TcCoe Idealize.ShloMosaic.Tactic
open Idealize.SL Idealize.SL.Sem
open Cert.Kernel5Ideal.MatmulLn

theorem frame_kernel : Cert.quiescent_Kernel5 := fun m ρ _ => Cert.Kernel5.Gen.frame m ρ

theorem frame_kernelIdeal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem results : Cert.algebraic_Kernel5Ideal_Reference5Ideal := by
  intro m ρ m' ρ' _ hagree
  refine ⟨fun c => Cert.Reference5Ideal.Read.val_main_v31 (F := Ideal) (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)),
    fun c => Cert.Reference5Ideal.Read.val_main_v32 (F := Ideal) (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)),
    (θ_run Cert.Kernel5Ideal.defs _ _).mono (fun r h c => ?_) (θ_run_and (Cert.Kernel5Ideal.Gen.run_main m ρ) (Cert.Kernel5Ideal.Gen.unchanged m ρ)),
    (θ_run Cert.Reference5Ideal.defs _ _).mono (fun r h c => ?_) (Cert.Reference5Ideal.Value.run (F := Ideal) m' ρ')⟩
  · refine ⟨((h.1 c).1 5).trans ((arr5 m c).trans ?_), ((h.1 c).1 6).trans ((arr6 m c).trans ?_), h.2 c⟩
    · rw [V_v2 m c, V_v3 m c, Cert.Kernel5Ideal.Gen.V_main_arg0 m c, Cert.Kernel5Ideal.Gen.V_main_arg1 m c, Cert.Kernel5Ideal.Gen.V_main_arg2 m c]
      exact meet31 _ _ _ _ _
    · rw [V_v2 m c, V_v3 m c, Cert.Kernel5Ideal.Gen.V_main_arg0 m c, Cert.Kernel5Ideal.Gen.V_main_arg1 m c, Cert.Kernel5Ideal.Gen.V_main_arg2 m c]
      exact meet32 _ _ _ _ _
  · obtain ⟨a0, a1, a2, a3, a4⟩ := hagree c
    refine ⟨?_, ?_, (h c).2.2⟩
    · rw [(h c).1]
      refine (Cert.Reference5Ideal.Read.val_main_v31_eq _ _ _ _ _).trans ?_
      rw [a0, a1, a2, a3, a4]
    · rw [(h c).2.1]
      refine (Cert.Reference5Ideal.Read.val_main_v32_eq _ _ _ _ _).trans ?_
      rw [a0, a1, a2, a3, a4]

end Cert.MatmulLnClaim

end

end
-- ==== Proof.MlpUpWords.lean ====
/- The words that the pipelined product `mlp_up` keeps while it runs: what its loop carries before trip `k`, and
   what its conditions and its offsets come to at that trip. -/
module

public import proofs.«01_k».proof.Proof.Gen.Kernel6Ideal.Frame
public import proofs.«01_k».proof.Proof.Gen.Kernel6Ideal.Loops
public import Idealize.ShloMosaic.Lib.Ring.Trips

@[expose] public section

set_option maxRecDepth 16384

noncomputable section

namespace Cert.Kernel6Ideal.Up

open Idealize.ShloMosaic Idealize.ShloMosaic.TcCoe
open Cert.Kernel6Ideal Cert.Kernel6Ideal.Gen

/-! ## The carried words before trip `k` -/

/-- How many left blocks have been started. -/
def wA (k : ℕ) : BitVec 32 := BitVec.ofNat 32 (min (k / 16 + 1) 16)
/-- The left block in use. -/
def wa (k : ℕ) : BitVec 32 := BitVec.ofNat 32 (k / 16)
/-- How many right blocks have been started. -/
def wB (k : ℕ) : BitVec 32 := BitVec.ofNat 32 (min (k + 2) 256)
/-- The right block in use, and the result block in hand. -/
def wb (k : ℕ) : BitVec 32 := BitVec.ofNat 32 k
/-- How many result blocks have been waited for. -/
def wO (k : ℕ) : BitVec 32 := BitVec.ofNat 32 (k - 1)
/-- The row of blocks: back at zero after the last trip. -/
def wi (k : ℕ) : BitVec 32 := BitVec.ofNat 32 (k / 16 % 16)
/-- The column of blocks. -/
def wj (k : ℕ) : BitVec 32 := BitVec.ofNat 32 (k % 16)

/-! ## The blocks' and slots' offsets -/

abbrev aOff (i : Fin 16) : Fin 2 → ℕ := ![1024 * i.val, 0]
abbrev bOff (j : Fin 16) : Fin 2 → ℕ := ![0, 1024 * j.val]
abbrev oOff (p : Fin 256) : Fin 2 → ℕ := ![1024 * (p.val / 16), 1024 * (p.val % 16)]
abbrev slot2 (s : Fin 2) : Fin 3 → ℕ := ![s.val, 0, 0]
abbrev slot3 (s : Fin 3) : Fin 3 → ℕ := ![s.val, 0, 0]
abbrev cell2 (s : Fin 2) : Fin 1 → ℕ := ![s.val]
abbrev cell3 (s : Fin 3) : Fin 1 → ℕ := ![s.val]

theorem trips_eq : k0_t1_loop.trips = 256 := by decide +kernel

/-! ## The conditions -/

theorem cond1_true : k0_cond1 = 1#1 := by decide +kernel
theorem cond2_iff : ∀ k : Fin k0_t1_loop.trips, k0_cond2 k (wi k) (wj k) = 1#1 ↔ (k.val % 16 = 15 ∧ k.val < 255) := by decide +kernel
theorem cond3_iff : ∀ k : Fin k0_t1_loop.trips, k0_cond3 k (wj k) = 1#1 ↔ k.val < 254 := by decide +kernel
theorem cond4_iff : ∀ k : Fin k0_t1_loop.trips, k0_cond4 k (wi k) (wj k) = 1#1 ↔ k.val % 16 = 0 := by decide +kernel
theorem cond5_true : ∀ k : Fin k0_t1_loop.trips, k0_cond5 k (wj k) = 1#1 := by decide +kernel
theorem cond9_true : ∀ k : Fin k0_t1_loop.trips, k0_cond9 k (wi k) (wj k) = 1#1 := by decide +kernel
theorem cond12_iff : ∀ k : Fin k0_t1_loop.trips, k0_cond12 k (wi k) (wj k) = 1#1 ↔ 0 < k.val := by decide +kernel

/-! ## The offsets -/

theorem off1_eq : k0_off1 = cell2 0 := by decide +kernel
theorem off2_eq : k0_off2 = slot2 0 := by decide +kernel
theorem off3_eq : k0_off3 = cell3 0 := by decide +kernel
theorem off4_eq : k0_off4 = slot3 0 := by decide +kernel
theorem off5_eq : k0_off5 = cell3 1 := by decide +kernel
theorem off6_eq : k0_off6 = slot3 1 := by decide +kernel
theorem off7_eq : k0_off7 = bOff 1 := by decide +kernel
theorem off8_eq : ∀ k : Fin k0_t1_loop.trips, k.val < 240 → k0_off8 (wA k) = cell2 (Ring.sl 2 (k.val / 16 + 1)) := by decide +kernel
theorem off9_eq : ∀ k : Fin k0_t1_loop.trips, k.val < 240 → k0_off9 (wA k) = slot2 (Ring.sl 2 (k.val / 16 + 1)) := by decide +kernel
theorem off10_eq : ∀ k : Fin k0_t1_loop.trips, k.val % 16 = 15 → k.val < 255 → k0_off10 (wi k) (wj k) = aOff (Ring.bk 16 (k.val / 16 + 1)) := by decide +kernel
theorem off11_eq : ∀ k : Fin k0_t1_loop.trips, k.val < 254 → k0_off11 (wB k) = cell3 (Ring.sl 3 (k.val + 2)) := by decide +kernel
theorem off12_eq : ∀ k : Fin k0_t1_loop.trips, k.val < 254 → k0_off12 (wB k) = slot3 (Ring.sl 3 (k.val + 2)) := by decide +kernel
theorem off13_eq : ∀ k : Fin k0_t1_loop.trips, k.val < 254 → k0_off13 (wj k) = bOff (Ring.sl 16 (k.val + 2)) := by decide +kernel
theorem off14_eq : ∀ k : Fin k0_t1_loop.trips, k0_off14 (wa k) = cell2 (Ring.sl 2 (k.val / 16)) := by decide +kernel
theorem off15_eq : ∀ k : Fin k0_t1_loop.trips, k0_off15 (wa k) = slot2 (Ring.sl 2 (k.val / 16)) := by decide +kernel
theorem off16_eq : ∀ k : Fin k0_t1_loop.trips, k0_off16 (wi k) = aOff (Ring.bk 16 (k.val / 16)) := by decide +kernel
theorem off17_eq : ∀ k : Fin k0_t1_loop.trips, k0_off17 (wb k) = cell3 (Ring.sl 3 k.val) := by decide +kernel
theorem off18_eq : ∀ k : Fin k0_t1_loop.trips, k0_off18 (wb k) = slot3 (Ring.sl 3 k.val) := by decide +kernel
theorem off19_eq : ∀ k : Fin k0_t1_loop.trips, k0_off19 (wj k) = bOff (Ring.sl 16 k.val) := by decide +kernel
theorem off20_eq : ∀ k : Fin k0_t1_loop.trips, k0_off20 (wa k) = slot2 (Ring.sl 2 (k.val / 16)) := by decide +kernel
theorem off21_eq : ∀ k : Fin k0_t1_loop.trips, k0_off21 (wb k) = slot3 (Ring.sl 3 k.val) := by decide +kernel
theorem off22_eq : ∀ k : Fin k0_t1_loop.trips, k0_off22 (wb k) = slot2 (Ring.sl 2 k.val) := by decide +kernel
theorem off23_eq : ∀ k : Fin k0_t1_loop.trips, k0_off23 (wb k) = cell2 (Ring.sl 2 k.val) := by decide +kernel
theorem off24_eq : ∀ k : Fin k0_t1_loop.trips, k0_off24 (wi k) (wj k) = oOff (Ring.bk 256 k.val) := by decide +kernel
theorem off25_eq : ∀ k : Fin k0_t1_loop.trips, k0_off25 (wb k) = slot2 (Ring.sl 2 k.val) := by decide +kernel
theorem off26_eq : ∀ k : Fin k0_t1_loop.trips, 0 < k.val → k0_off26 (wO k) = cell2 (Ring.sl 2 (k.val - 1)) := by decide +kernel
theorem off27_eq : ∀ k : Fin k0_t1_loop.trips, 0 < k.val → k0_off27 (wi k) (wj k) = oOff (Ring.bk 256 (k.val - 1)) := by decide +kernel
theorem off28_eq : ∀ k : Fin k0_t1_loop.trips, 0 < k.val → k0_off28 (wO k) = slot2 (Ring.sl 2 (k.val - 1)) := by decide +kernel
theorem off29_eq : k0_off29 (wO 256) = cell2 1 := by decide +kernel
theorem off30_eq : k0_off30 (wj 256) (wi 256) = oOff 255 := by decide +kernel
theorem off31_eq : k0_off31 (wO 256) = slot2 1 := by decide +kernel

/-! ## The checks -/

theorem chk2_holds : ∀ k : Fin k0_t1_loop.trips, k0_chk2 (wa k) := by decide +kernel
theorem chk3_holds : ∀ k : Fin k0_t1_loop.trips, k0_chk3 (wb k) := by decide +kernel
theorem chk4_holds : ∀ k : Fin k0_t1_loop.trips, k0_chk4 (wb k) := by decide +kernel
theorem chk5_holds : k0_chk5 (wO 256) := by decide +kernel
theorem chk6_holds : k0_chk6 (wj 256) (wi 256) := by decide +kernel
theorem chk1_holds : ∀ k : Fin k0_t1_loop.trips, k0_chk1 k (wA k) (wa k) (wB k) (wb k) (wb k) (wO k) (wi k) (wj k) := by decide +kernel

end Cert.Kernel6Ideal.Up

end
-- ==== Proof.MlpUpNames.lean ====
/- The parts of the three arrays and of the three buffers that the pipelined product `mlp_up` moves, by name: the
   blocks of the arrays, the slots of the buffers and the slots' semaphores. -/
module

public import proofs.«01_k».proof.Proof.MlpUpWords
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra: the pipeline's own beside the counters of the kernel's transfers. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The arrays and the buffers -/

abbrev aM : Memref sig .tc .hbm S16384x4096 .bf16 := Memref.whole main_arg0
abbrev bM : Memref sig .tc .hbm S4096x16384 .bf16 := Memref.whole main_arg1
abbrev oM : Memref sig .tc .hbm S16384x16384 .bf16 := Memref.whole main_v0
abbrev sA : Memref sig .tc .vmem S2x1024x4096 .bf16 := Memref.whole cc0_scoped0
abbrev sB : Memref sig .tc .vmem S3x4096x1024 .bf16 := Memref.whole cc0_scoped2
abbrev sO : Memref sig .tc .vmem S2x1024x1024 .bf16 := Memref.whole cc0_scoped4

theorem aOff_inb (i : Fin 16) : ∀ a, aOff i a + S1024x4096.size a ≤ S16384x4096.size a := by
  have := i.isLt; intro a; fin_cases a
  · show 1024 * i.val + 1024 ≤ 16384; omega
  · show 0 + 4096 ≤ 4096; omega
theorem bOff_inb (j : Fin 16) : ∀ a, bOff j a + S4096x1024.size a ≤ S4096x16384.size a := by
  have := j.isLt; intro a; fin_cases a
  · show 0 + 4096 ≤ 4096; omega
  · show 1024 * j.val + 1024 ≤ 16384; omega
theorem oOff_inb (p : Fin 256) : ∀ a, oOff p a + S1024x1024.size a ≤ S16384x16384.size a := by
  have := p.isLt; intro a; fin_cases a
  · show 1024 * (p.val / 16) + 1024 ≤ 16384; omega
  · show 1024 * (p.val % 16) + 1024 ≤ 16384; omega
theorem slotA_inb (s : Fin 2) : ∀ a, slot2 s a + S1x1024x4096.size a ≤ S2x1024x4096.size a := by
  have := s.isLt; intro a; fin_cases a
  · show s.val + 1 ≤ 2; omega
  · show 0 + 1024 ≤ 1024; omega
  · show 0 + 4096 ≤ 4096; omega
theorem slotB_inb (s : Fin 3) : ∀ a, slot3 s a + S1x4096x1024.size a ≤ S3x4096x1024.size a := by
  have := s.isLt; intro a; fin_cases a
  · show s.val + 1 ≤ 3; omega
  · show 0 + 4096 ≤ 4096; omega
  · show 0 + 1024 ≤ 1024; omega
theorem slotO_inb (s : Fin 2) : ∀ a, slot2 s a + S1x1024x1024.size a ≤ S2x1024x1024.size a := by
  have := s.isLt; intro a; fin_cases a
  · show s.val + 1 ≤ 2; omega
  · show 0 + 1024 ≤ 1024; omega
  · show 0 + 1024 ≤ 1024; omega
theorem cell2_inb (s : Fin 2) : ∀ a, cell2 s a + S1.size a ≤ S2.size a := by
  have := s.isLt; intro a; fin_cases a; show s.val + 1 ≤ 2; omega
theorem cell3_inb (s : Fin 3) : ∀ a, cell3 s a + S1.size a ≤ S3.size a := by
  have := s.isLt; intro a; fin_cases a; show s.val + 1 ≤ 3; omega

/-- Rows `1024 i …` of the left array. -/
def ablk (i : Fin 16) : Memref sig .tc .hbm S1024x4096 .bf16 :=
  aM.slice (Rect.unit (s := S16384x4096) (aOff i) S1024x4096.size (aOff_inb i)) (fun _ => rfl)
/-- Columns `1024 j …` of the right array. -/
def bblk (j : Fin 16) : Memref sig .tc .hbm S4096x1024 .bf16 :=
  bM.slice (Rect.unit (s := S4096x16384) (bOff j) S4096x1024.size (bOff_inb j)) (fun _ => rfl)
/-- The result's block number `p`, by rows of blocks. -/
def oblk (p : Fin 256) : Memref sig .tc .hbm S1024x1024 .bf16 :=
  oM.slice (Rect.unit (s := S16384x16384) (oOff p) S1024x1024.size (oOff_inb p)) (fun _ => rfl)
/-- A slot of each buffer. -/
def aslot (s : Fin 2) : Memref sig .tc .vmem S1024x4096 .bf16 :=
  (sA.slice (Rect.unit (s := S2x1024x4096) (slot2 s) S1x1024x4096.size (slotA_inb s)) (fun _ => rfl)).squeeze S1024x4096 squeezes_S1x1024x4096_S1024x4096
def bslot (s : Fin 3) : Memref sig .tc .vmem S4096x1024 .bf16 :=
  (sB.slice (Rect.unit (s := S3x4096x1024) (slot3 s) S1x4096x1024.size (slotB_inb s)) (fun _ => rfl)).squeeze S4096x1024 squeezes_S1x4096x1024_S4096x1024
def oslot (s : Fin 2) : Memref sig .tc .vmem S1024x1024 .bf16 :=
  (sO.slice (Rect.unit (s := S2x1024x1024) (slot2 s) S1x1024x1024.size (slotO_inb s)) (fun _ => rfl)).squeeze S1024x1024 squeezes_S1x1024x1024_S1024x1024
/-- A slot's semaphore. -/
def acs (s : Fin 2) : DmaSems sig S_ := (cc0_scoped1.slice (Rect.unit (s := S2) (cell2 s) S1.size (cell2_inb s))).squeeze S_ squeezes_S1_S_
def bcs (s : Fin 3) : DmaSems sig S_ := (cc0_scoped3.slice (Rect.unit (s := S3) (cell3 s) S1.size (cell3_inb s))).squeeze S_ squeezes_S1_S_
def ocs (s : Fin 2) : DmaSems sig S_ := (cc0_scoped5.slice (Rect.unit (s := S2) (cell2 s) S1.size (cell2_inb s))).squeeze S_ squeezes_S1_S_

instance (s : Fin 2) : ClosedOff (slot2 s) := ⟨slot2 s, rfl⟩
instance (s : Fin 3) : ClosedOff (slot3 s) := ⟨slot3 s, rfl⟩
instance (i : Fin 16) : ClosedOff (aOff i) := ⟨aOff i, rfl⟩
instance (i : Fin 16) : ClosedOff (bOff i) := ⟨bOff i, rfl⟩
instance (p : Fin 256) : ClosedOff (oOff p) := ⟨oOff p, rfl⟩
instance (k : Fin k0_t1_loop.trips) : ClosedOff (k0_off20 (wa k.val)) := ⟨slot2 (Ring.sl 2 (k.val / 16)), off20_eq k⟩
instance (k : Fin k0_t1_loop.trips) : ClosedOff (k0_off21 (wb k.val)) := ⟨slot3 (Ring.sl 3 k.val), off21_eq k⟩
instance (k : Fin k0_t1_loop.trips) : ClosedOff (k0_off22 (wb k.val)) := ⟨slot2 (Ring.sl 2 k.val), off22_eq k⟩

/-! ## The body's slices are those parts -/

private theorem acs_congr {off : Fin 1 → ℕ} {s : Fin 2} (e : off = cell2 s) (hh) :
    (cc0_scoped1.slice (Rect.unit (s := S2) off S1.size hh)).squeeze S_ squeezes_S1_S_ = acs s :=
  congrArg (fun A : DmaSems sig S1 => A.squeeze S_ squeezes_S1_S_) (SemArray.slice_unit_congr _ e _ _)
private theorem bcs_congr {off : Fin 1 → ℕ} {s : Fin 3} (e : off = cell3 s) (hh) :
    (cc0_scoped3.slice (Rect.unit (s := S3) off S1.size hh)).squeeze S_ squeezes_S1_S_ = bcs s :=
  congrArg (fun A : DmaSems sig S1 => A.squeeze S_ squeezes_S1_S_) (SemArray.slice_unit_congr _ e _ _)
private theorem ocs_congr {off : Fin 1 → ℕ} {s : Fin 2} (e : off = cell2 s) (hh) :
    (cc0_scoped5.slice (Rect.unit (s := S2) off S1.size hh)).squeeze S_ squeezes_S1_S_ = ocs s :=
  congrArg (fun A : DmaSems sig S1 => A.squeeze S_ squeezes_S1_S_) (SemArray.slice_unit_congr _ e _ _)
private theorem aslot_congr {off : Fin 3 → ℕ} {s : Fin 2} (e : off = slot2 s) (hh hs) :
    (sA.slice (Rect.unit (s := S2x1024x4096) off S1x1024x4096.size hh) hs).squeeze S1024x4096 squeezes_S1x1024x4096_S1024x4096 = aslot s :=
  congrArg (fun M : Memref sig .tc .vmem S1x1024x4096 .bf16 => M.squeeze S1024x4096 squeezes_S1x1024x4096_S1024x4096) (Memref.slice_unit_congr _ e _ _ _ _)
private theorem bslot_congr {off : Fin 3 → ℕ} {s : Fin 3} (e : off = slot3 s) (hh hs) :
    (sB.slice (Rect.unit (s := S3x4096x1024) off S1x4096x1024.size hh) hs).squeeze S4096x1024 squeezes_S1x4096x1024_S4096x1024 = bslot s :=
  congrArg (fun M : Memref sig .tc .vmem S1x4096x1024 .bf16 => M.squeeze S4096x1024 squeezes_S1x4096x1024_S4096x1024) (Memref.slice_unit_congr _ e _ _ _ _)
private theorem oslot_congr {off : Fin 3 → ℕ} {s : Fin 2} (e : off = slot2 s) (hh hs) :
    (sO.slice (Rect.unit (s := S2x1024x1024) off S1x1024x1024.size hh) hs).squeeze S1024x1024 squeezes_S1x1024x1024_S1024x1024 = oslot s :=
  congrArg (fun M : Memref sig .tc .vmem S1x1024x1024 .bf16 => M.squeeze S1024x1024 squeezes_S1x1024x1024_S1024x1024) (Memref.slice_unit_congr _ e _ _ _ _)
private theorem ablk_congr {off : Fin 2 → ℕ} {i : Fin 16} (e : off = aOff i) (hh hs) :
    aM.slice (Rect.unit (s := S16384x4096) off S1024x4096.size hh) hs = ablk i := Memref.slice_unit_congr _ e _ _ _ (fun _ => rfl)
private theorem bblk_congr {off : Fin 2 → ℕ} {j : Fin 16} (e : off = bOff j) (hh hs) :
    bM.slice (Rect.unit (s := S4096x16384) off S4096x1024.size hh) hs = bblk j := Memref.slice_unit_congr _ e _ _ _ (fun _ => rfl)
private theorem oblk_congr {off : Fin 2 → ℕ} {p : Fin 256} (e : off = oOff p) (hh hs) :
    oM.slice (Rect.unit (s := S16384x16384) off S1024x1024.size hh) hs = oblk p := Memref.slice_unit_congr _ e _ _ _ (fun _ => rfl)

/-- The prologue's. -/
@[sl_canon] theorem semP1 (hh) : (cc0_scoped1.slice (Rect.unit (s := S2) k0_off1 S1.size hh)).squeeze S_ squeezes_S1_S_ = acs 0 := acs_congr off1_eq _
@[sl_canon] theorem slotP2 (hh hs) : (sA.slice (Rect.unit (s := S2x1024x4096) k0_off2 S1x1024x4096.size hh) hs).squeeze S1024x4096 squeezes_S1x1024x4096_S1024x4096 = aslot 0 := aslot_congr off2_eq _ _
@[sl_canon] theorem blkPA (hh hs) : aM.slice (Rect.unit (s := S16384x4096) ![0, 0] S1024x4096.size hh) hs = ablk 0 := ablk_congr (by decide) _ _
@[sl_canon] theorem semP3 (hh) : (cc0_scoped3.slice (Rect.unit (s := S3) k0_off3 S1.size hh)).squeeze S_ squeezes_S1_S_ = bcs 0 := bcs_congr off3_eq _
@[sl_canon] theorem slotP4 (hh hs) : (sB.slice (Rect.unit (s := S3x4096x1024) k0_off4 S1x4096x1024.size hh) hs).squeeze S4096x1024 squeezes_S1x4096x1024_S4096x1024 = bslot 0 := bslot_congr off4_eq _ _
@[sl_canon] theorem blkPB (hh hs) : bM.slice (Rect.unit (s := S4096x16384) ![0, 0] S4096x1024.size hh) hs = bblk 0 := bblk_congr (by decide) _ _
@[sl_canon] theorem semP5 (hh) : (cc0_scoped3.slice (Rect.unit (s := S3) k0_off5 S1.size hh)).squeeze S_ squeezes_S1_S_ = bcs 1 := bcs_congr off5_eq _
@[sl_canon] theorem slotP6 (hh hs) : (sB.slice (Rect.unit (s := S3x4096x1024) k0_off6 S1x4096x1024.size hh) hs).squeeze S4096x1024 squeezes_S1x4096x1024_S4096x1024 = bslot 1 := bslot_congr off6_eq _ _
@[sl_canon] theorem blkP7 (hh hs) : bM.slice (Rect.unit (s := S4096x16384) k0_off7 S4096x1024.size hh) hs = bblk 1 := bblk_congr off7_eq _ _

section Trip
variable (k : Fin k0_t1_loop.trips)

/-- Trip `k`'s: the next left block started. -/
@[sl_canon] theorem semK8 (h : k.val < 240) (hh) : (cc0_scoped1.slice (Rect.unit (s := S2) (k0_off8 (wA k.val)) S1.size hh)).squeeze S_ squeezes_S1_S_ = acs (Ring.sl 2 (k.val / 16 + 1)) := acs_congr (off8_eq k h) _
@[sl_canon] theorem slotK9 (h : k.val < 240) (hh hs) : (sA.slice (Rect.unit (s := S2x1024x4096) (k0_off9 (wA k.val)) S1x1024x4096.size hh) hs).squeeze S1024x4096 squeezes_S1x1024x4096_S1024x4096 = aslot (Ring.sl 2 (k.val / 16 + 1)) := aslot_congr (off9_eq k h) _ _
@[sl_canon] theorem blkK10 (h : k.val % 16 = 15) (h' : k.val < 255) (hh hs) : aM.slice (Rect.unit (s := S16384x4096) (k0_off10 (wi k.val) (wj k.val)) S1024x4096.size hh) hs = ablk (Ring.bk 16 (k.val / 16 + 1)) := ablk_congr (off10_eq k h h') _ _
/-- The right block two trips ahead started. -/
@[sl_canon] theorem semK11 (h : k.val < 254) (hh) : (cc0_scoped3.slice (Rect.unit (s := S3) (k0_off11 (wB k.val)) S1.size hh)).squeeze S_ squeezes_S1_S_ = bcs (Ring.sl 3 (k.val + 2)) := bcs_congr (off11_eq k h) _
@[sl_canon] theorem slotK12 (h : k.val < 254) (hh hs) : (sB.slice (Rect.unit (s := S3x4096x1024) (k0_off12 (wB k.val)) S1x4096x1024.size hh) hs).squeeze S4096x1024 squeezes_S1x4096x1024_S4096x1024 = bslot (Ring.sl 3 (k.val + 2)) := bslot_congr (off12_eq k h) _ _
@[sl_canon] theorem blkK13 (h : k.val < 254) (hh hs) : bM.slice (Rect.unit (s := S4096x16384) (k0_off13 (wj k.val)) S4096x1024.size hh) hs = bblk (Ring.sl 16 (k.val + 2)) := bblk_congr (off13_eq k h) _ _
/-- The waits for the left and the right block. -/
@[sl_canon] theorem semK14 (hh) : (cc0_scoped1.slice (Rect.unit (s := S2) (k0_off14 (wa k.val)) S1.size hh)).squeeze S_ squeezes_S1_S_ = acs (Ring.sl 2 (k.val / 16)) := acs_congr (off14_eq k) _
@[sl_canon] theorem slotK15 (hh hs) : (sA.slice (Rect.unit (s := S2x1024x4096) (k0_off15 (wa k.val)) S1x1024x4096.size hh) hs).squeeze S1024x4096 squeezes_S1x1024x4096_S1024x4096 = aslot (Ring.sl 2 (k.val / 16)) := aslot_congr (off15_eq k) _ _
@[sl_canon] theorem blkK16 (hh hs) : aM.slice (Rect.unit (s := S16384x4096) (k0_off16 (wi k.val)) S1024x4096.size hh) hs = ablk (Ring.bk 16 (k.val / 16)) := ablk_congr (off16_eq k) _ _
@[sl_canon] theorem semK17 (hh) : (cc0_scoped3.slice (Rect.unit (s := S3) (k0_off17 (wb k.val)) S1.size hh)).squeeze S_ squeezes_S1_S_ = bcs (Ring.sl 3 k.val) := bcs_congr (off17_eq k) _
@[sl_canon] theorem slotK18 (hh hs) : (sB.slice (Rect.unit (s := S3x4096x1024) (k0_off18 (wb k.val)) S1x4096x1024.size hh) hs).squeeze S4096x1024 squeezes_S1x4096x1024_S4096x1024 = bslot (Ring.sl 3 k.val) := bslot_congr (off18_eq k) _ _
@[sl_canon] theorem blkK19 (hh hs) : bM.slice (Rect.unit (s := S4096x16384) (k0_off19 (wj k.val)) S4096x1024.size hh) hs = bblk (Ring.sl 16 k.val) := bblk_congr (off19_eq k) _ _
/-- The result block started, and the wait for the one before. -/
@[sl_canon] theorem semK23 (hh) : (cc0_scoped5.slice (Rect.unit (s := S2) (k0_off23 (wb k.val)) S1.size hh)).squeeze S_ squeezes_S1_S_ = ocs (Ring.sl 2 k.val) := ocs_congr (off23_eq k) _
@[sl_canon] theorem blkK24 (hh hs) : oM.slice (Rect.unit (s := S16384x16384) (k0_off24 (wi k.val) (wj k.val)) S1024x1024.size hh) hs = oblk (Ring.bk 256 k.val) := oblk_congr (off24_eq k) _ _
@[sl_canon] theorem slotK25 (hh hs) : (sO.slice (Rect.unit (s := S2x1024x1024) (k0_off25 (wb k.val)) S1x1024x1024.size hh) hs).squeeze S1024x1024 squeezes_S1x1024x1024_S1024x1024 = oslot (Ring.sl 2 k.val) := oslot_congr (off25_eq k) _ _
@[sl_canon] theorem semK26 (h : 0 < k.val) (hh) : (cc0_scoped5.slice (Rect.unit (s := S2) (k0_off26 (wO k.val)) S1.size hh)).squeeze S_ squeezes_S1_S_ = ocs (Ring.sl 2 (k.val - 1)) := ocs_congr (off26_eq k h) _
@[sl_canon] theorem blkK27 (h : 0 < k.val) (hh hs) : oM.slice (Rect.unit (s := S16384x16384) (k0_off27 (wi k.val) (wj k.val)) S1024x1024.size hh) hs = oblk (Ring.bk 256 (k.val - 1)) := oblk_congr (off27_eq k h) _ _
@[sl_canon] theorem slotK28 (h : 0 < k.val) (hh hs) : (sO.slice (Rect.unit (s := S2x1024x1024) (k0_off28 (wO k.val)) S1x1024x1024.size hh) hs).squeeze S1024x1024 squeezes_S1x1024x1024_S1024x1024 = oslot (Ring.sl 2 (k.val - 1)) := oslot_congr (off28_eq k h) _ _

end Trip

/-- The epilogue's. -/
@[sl_canon] theorem semE29 (hh) : (cc0_scoped5.slice (Rect.unit (s := S2) (k0_off29 (wO 256)) S1.size hh)).squeeze S_ squeezes_S1_S_ = ocs 1 := ocs_congr off29_eq _
@[sl_canon] theorem blkE30 (hh hs) : oM.slice (Rect.unit (s := S16384x16384) (k0_off30 (wj 256) (wi 256)) S1024x1024.size hh) hs = oblk 255 := oblk_congr off30_eq _ _
@[sl_canon] theorem slotE31 (hh hs) : (sO.slice (Rect.unit (s := S2x1024x1024) (k0_off31 (wO 256)) S1x1024x1024.size hh) hs).squeeze S1024x1024 squeezes_S1x1024x1024_S1024x1024 = oslot 1 := oslot_congr off31_eq _ _

/-! ## A part held, and a part in flight -/

section Pieces
variable (c : Dev nD)
variable (XA : Buf (Elt F) (aM.view.loc (c : Thread nD τ))) (XB : Buf (Elt F) (bM.view.loc (c : Thread nD τ)))
  (XO : Buf (Elt F) (oM.view.loc (c : Thread nD τ)))

abbrev cellA (s : Fin 2) : sProp 𝕄 := semVal ((c : Thread nD τ), SemLoc.dma (acs s).sem) 0
abbrev cellB (s : Fin 3) : sProp 𝕄 := semVal ((c : Thread nD τ), SemLoc.dma (bcs s).sem) 0
abbrev cellO (s : Fin 2) : sProp 𝕄 := semVal ((c : Thread nD τ), SemLoc.dma (ocs s).sem) 0
abbrev slotA (s : Fin 2) (f : Buf (Elt F) ((aslot s).view.loc (c : Thread nD τ))) : sProp 𝕄 :=
  (aslot s).view.loc (c : Thread nD τ) ↦[(aslot s).view.set]{fullShare} f
abbrev slotB (s : Fin 3) (f : Buf (Elt F) ((bslot s).view.loc (c : Thread nD τ))) : sProp 𝕄 :=
  (bslot s).view.loc (c : Thread nD τ) ↦[(bslot s).view.set]{fullShare} f
abbrev slotO (s : Fin 2) (f : Buf (Elt F) ((oslot s).view.loc (c : Thread nD τ))) : sProp 𝕄 :=
  (oslot s).view.loc (c : Thread nD τ) ↦[(oslot s).view.set]{fullShare} f
abbrev homeA (i : Fin 16) : sProp 𝕄 := (ablk i).view.loc (c : Thread nD τ) ↦[(ablk i).view.set]{fullShare} XA
abbrev homeB (j : Fin 16) : sProp 𝕄 := (bblk j).view.loc (c : Thread nD τ) ↦[(bblk j).view.set]{fullShare} XB
/-- A block of the result, at contents `f`. -/
abbrev homeO (p : Fin 256) (f : Buf (Elt F) ((oblk p).view.loc (c : Thread nD τ))) : sProp 𝕄 :=
  (oblk p).view.loc (c : Thread nD τ) ↦[(oblk p).view.set]{fullShare} f

/-- A block's words. -/
abbrev wordsA (i : Fin 16) : S1024x4096.Idx → Elt F .bf16 := ReadAs.same.apply ((ablk i).view.read (Elt F) XA)
abbrev wordsB (j : Fin 16) : S4096x1024.Idx → Elt F .bf16 := ReadAs.same.apply ((bblk j).view.read (Elt F) XB)
/-- A slot with a block landed in it, over what it held. -/
abbrev landedA (s : Fin 2) (i : Fin 16) (f : Buf (Elt F) ((aslot s).view.loc (c : Thread nD τ))) : Buf (Elt F) ((aslot s).view.loc (c : Thread nD τ)) :=
  (aslot s).view.writes (Elt F) f [⟨Rect.whole S1024x4096, wordsA c XA i⟩]
abbrev landedB (s : Fin 3) (j : Fin 16) (f : Buf (Elt F) ((bslot s).view.loc (c : Thread nD τ))) : Buf (Elt F) ((bslot s).view.loc (c : Thread nD τ)) :=
  (bslot s).view.writes (Elt F) f [⟨Rect.whole S4096x1024, wordsB c XB j⟩]
/-- A block of the result with `w` written to it. -/
abbrev landedO (p : Fin 256) (w : S1024x1024.Idx → Elt F .bf16) : Buf (Elt F) ((oblk p).view.loc (c : Thread nD τ)) :=
  (oblk p).view.writes (Elt F) XO [⟨Rect.whole S1024x1024, w⟩]
abbrev flightA (s : Fin 2) (i : Fin 16) (f : Buf (Elt F) ((aslot s).view.loc (c : Thread nD τ))) : sProp 𝕄 :=
  Transfers.Flight countersEmb (c : Thread nD τ) (SemLoc.dma (acs s).sem) () 262144 iprop(slotA c s (landedA c XA s i f) ∗ homeA c XA i)
abbrev flightB (s : Fin 3) (j : Fin 16) (f : Buf (Elt F) ((bslot s).view.loc (c : Thread nD τ))) : sProp 𝕄 :=
  Transfers.Flight countersEmb (c : Thread nD τ) (SemLoc.dma (bcs s).sem) () 262144 iprop(slotB c s (landedB c XB s j f) ∗ homeB c XB j)
abbrev flightO (s : Fin 2) (p : Fin 256) (w : S1024x1024.Idx → Elt F .bf16) (g : Buf (Elt F) ((oslot s).view.loc (c : Thread nD τ))) : sProp 𝕄 :=
  Transfers.Flight countersEmb (c : Thread nD τ) (SemLoc.dma (ocs s).sem) () 65536 iprop(homeO c p (landedO c XO p w) ∗ slotO c s g)

end Pieces

end Cert.Kernel6Ideal.Up

end
-- ==== Proof.MlpUpBag.lean ====
/- How the parts of the pipelined product's invariant change hands over one trip. -/
module

public import proofs.«01_k».proof.Proof.MlpUpNames

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The left blocks: a block at work stays through its row of blocks -/

section Left

/-- Block `i` on its way. -/
def leftFly (fly free : ℕ → sProp 𝕄) (home : Fin 16 → sProp 𝕄) (i : ℕ) : sProp 𝕄 := iprop(fly i ∗ bigSep (Finset.univ.erase (Ring.bk 16 i)) home ∗ free (i + 1))
/-- Block `i` at work. -/
def leftHeld (held cell free : ℕ → sProp 𝕄) (home : Fin 16 → sProp 𝕄) (i : ℕ) : sProp 𝕄 := iprop(bigSep Finset.univ home ∗ cell i ∗ held i ∗ free (i + 1))
/-- Before trip `k`. -/
def bagL (fly held cell free : ℕ → sProp 𝕄) (home : Fin 16 → sProp 𝕄) (k : ℕ) : sProp 𝕄 :=
  if k % 16 = 0 ∧ k < 256 then leftFly fly free home (k / 16) else leftHeld held cell free home ((k - 1) / 16)

theorem home_out (home : Fin 16 → sProp 𝕄) (i : Fin 16) : bigSep Finset.univ home = iprop(home i ∗ bigSep (Finset.univ.erase i) home) := by
  conv_lhs => rw [← Finset.insert_erase (Finset.mem_univ i), bigSep_insert (Finset.notMem_erase _ _)]
  rfl

theorem left_wait (fly held cell free : ℕ → sProp 𝕄) (home : Fin 16 → sProp 𝕄) (k : ℕ) (h : k % 16 = 0) (hk : k < 256) :
    bagL fly held cell free home k = iprop(fly (k / 16) ∗ bigSep (Finset.univ.erase (Ring.bk 16 (k / 16))) home ∗ free (k / 16 + 1)) := by
  unfold bagL; rw [if_pos ⟨h, hk⟩]; rfl
theorem left_held (fly held cell free : ℕ → sProp 𝕄) (home : Fin 16 → sProp 𝕄) (k : ℕ) (h : k % 16 ≠ 0) :
    bagL fly held cell free home k = iprop(bigSep Finset.univ home ∗ cell (k / 16) ∗ held (k / 16) ∗ free (k / 16 + 1)) := by
  unfold bagL; rw [if_neg (fun hh => h hh.1), show (k - 1) / 16 = k / 16 by omega]; rfl
theorem left_next (fly held cell free : ℕ → sProp 𝕄) (home : Fin 16 → sProp 𝕄) (k : ℕ) (h : k % 16 ≠ 15 ∨ 255 ≤ k) :
    bagL fly held cell free home (k + 1) = iprop(bigSep Finset.univ home ∗ cell (k / 16) ∗ held (k / 16) ∗ free (k / 16 + 1)) := by
  unfold bagL; rw [if_neg (by omega), show (k + 1 - 1) / 16 = k / 16 by omega]; rfl
theorem left_turn (fly held cell free : ℕ → sProp 𝕄) (home : Fin 16 → sProp 𝕄) (k : ℕ) (h : k % 16 = 15) (hk : k < 255) :
    bagL fly held cell free home (k + 1) = iprop(fly (k / 16 + 1) ∗ bigSep (Finset.univ.erase (Ring.bk 16 (k / 16 + 1))) home ∗ free (k / 16 + 2)) := by
  unfold bagL; rw [if_pos (by omega), show (k + 1) / 16 = k / 16 + 1 by omega]; rfl

end Left

/-! ## The right blocks: two on their way -/

section Right

/-- Before trip `k`. -/
def bagR (fly free : ℕ → sProp 𝕄) (home : Fin 16 → sProp 𝕄) (k : ℕ) : sProp 𝕄 :=
  if k < 255 then iprop(fly k ∗ fly (k + 1) ∗ bigSep ((Finset.univ.erase (Ring.sl 16 k)).erase (Ring.sl 16 (k + 1))) home ∗ free (k + 2))
  else if k = 255 then iprop(fly 255 ∗ bigSep (Finset.univ.erase (Ring.sl 16 255)) home ∗ free 256 ∗ free 257)
  else iprop(bigSep Finset.univ home ∗ free 256 ∗ free 257 ∗ free 258)

/-- The blocks that stay home over trip `k`. -/
def stay (k : ℕ) : Finset (Fin 16) := ((Finset.univ.erase (Ring.sl 16 k)).erase (Ring.sl 16 (k + 1))).erase (Ring.sl 16 (k + 2))

omit [FloatOps F] in
theorem sl16_val (k : ℕ) : (Ring.sl 16 k).val = k % 16 := rfl

theorem right_pre (fly free : ℕ → sProp 𝕄) (home : Fin 16 → sProp 𝕄) (k : ℕ) (h : k < 254) :
    bagR fly free home k = iprop(fly k ∗ fly (k + 1) ∗ (home (Ring.sl 16 (k + 2)) ∗ bigSep (stay k) home) ∗ free (k + 2)) := by
  have hm : Ring.sl 16 (k + 2) ∈ ((Finset.univ.erase (Ring.sl 16 k)).erase (Ring.sl 16 (k + 1))) := by
    simp only [Finset.mem_erase, Finset.mem_univ, and_true, ne_eq, Fin.ext_iff, sl16_val]; omega
  unfold bagR; rw [if_pos (by omega)]
  conv_lhs => rw [← Finset.insert_erase hm, bigSep_insert (Finset.notMem_erase _ _)]
  rfl
theorem right_post (fly free : ℕ → sProp 𝕄) (home : Fin 16 → sProp 𝕄) (k : ℕ) (h : k < 254) :
    bagR fly free home (k + 1) = iprop(fly (k + 1) ∗ fly (k + 2) ∗ (home (Ring.sl 16 k) ∗ bigSep (stay k) home) ∗ free (k + 3)) := by
  have e : (Finset.univ.erase (Ring.sl 16 (k + 1))).erase (Ring.sl 16 (k + 1 + 1)) = insert (Ring.sl 16 k) (stay k) := by
    ext b
    simp only [stay, Finset.mem_insert, Finset.mem_erase, Finset.mem_univ, and_true, ne_eq, Fin.ext_iff, sl16_val]; omega
  have hn : Ring.sl 16 k ∉ stay k := by simp [stay]
  unfold bagR; rw [if_pos (by omega), e, bigSep_insert hn]; rfl
theorem right_254 (fly free : ℕ → sProp 𝕄) (home : Fin 16 → sProp 𝕄) : bagR fly free home 254 = iprop(fly 254 ∗ fly 255 ∗ bigSep ((Finset.univ.erase (Ring.sl 16 255)).erase (Ring.sl 16 254)) home ∗ free 256) := by
  unfold bagR; rw [if_pos (by omega), Finset.erase_right_comm]
theorem right_255 (fly free : ℕ → sProp 𝕄) (home : Fin 16 → sProp 𝕄) : bagR fly free home 255
    = iprop(fly 255 ∗ (home (Ring.sl 16 254) ∗ bigSep ((Finset.univ.erase (Ring.sl 16 255)).erase (Ring.sl 16 254)) home) ∗ free 256 ∗ free 257) := by
  have hm : Ring.sl 16 254 ∈ (Finset.univ.erase (Ring.sl 16 255)) := by decide
  unfold bagR; rw [if_neg (by omega), if_pos rfl]
  conv_lhs => rw [← Finset.insert_erase hm, bigSep_insert (Finset.notMem_erase _ _)]
  rfl
theorem right_255' (fly free : ℕ → sProp 𝕄) (home : Fin 16 → sProp 𝕄) : bagR fly free home 255 = iprop(fly 255 ∗ bigSep (Finset.univ.erase (Ring.sl 16 255)) home ∗ free 256 ∗ free 257) := by
  unfold bagR; rw [if_neg (by omega), if_pos rfl]
theorem right_256 (fly free : ℕ → sProp 𝕄) (home : Fin 16 → sProp 𝕄) : bagR fly free home 256 = iprop((home (Ring.sl 16 255) ∗ bigSep (Finset.univ.erase (Ring.sl 16 255)) home) ∗ free 256 ∗ free 257 ∗ free 258) := by
  unfold bagR; rw [if_neg (by omega), if_neg (by omega), home_out home (Ring.sl 16 255)]

theorem right_254k (fly free : ℕ → sProp 𝕄) (home : Fin 16 → sProp 𝕄) (k : ℕ) (h : k = 254) :
    bagR fly free home k = iprop(fly k ∗ fly (k + 1) ∗ bigSep ((Finset.univ.erase (Ring.sl 16 (k + 1))).erase (Ring.sl 16 k)) home ∗ free (k + 2)) := by
  subst h; exact right_254 fly free home
theorem right_255k (fly free : ℕ → sProp 𝕄) (home : Fin 16 → sProp 𝕄) (k : ℕ) (h : k = 254) :
    bagR fly free home (k + 1)
      = iprop(fly (k + 1) ∗ (home (Ring.sl 16 k) ∗ bigSep ((Finset.univ.erase (Ring.sl 16 (k + 1))).erase (Ring.sl 16 k)) home) ∗ free (k + 2) ∗ free (k + 3)) := by
  subst h; exact right_255 fly free home
theorem right_255k' (fly free : ℕ → sProp 𝕄) (home : Fin 16 → sProp 𝕄) (k : ℕ) (h : k = 255) :
    bagR fly free home k = iprop(fly k ∗ bigSep (Finset.univ.erase (Ring.sl 16 k)) home ∗ free (k + 1) ∗ free (k + 2)) := by
  subst h; exact right_255' fly free home
theorem right_256k (fly free : ℕ → sProp 𝕄) (home : Fin 16 → sProp 𝕄) (k : ℕ) (h : k = 255) :
    bagR fly free home (k + 1)
      = iprop((home (Ring.sl 16 k) ∗ bigSep (Finset.univ.erase (Ring.sl 16 k)) home) ∗ free (k + 1) ∗ free (k + 2) ∗ free (k + 3)) := by
  subst h; exact right_256 fly free home

end Right

/-! ## The result's blocks: one on its way -/

section Result

/-- Before trip `k`. -/
def bagO (fly free : ℕ → sProp 𝕄) (todo done : Fin 256 → sProp 𝕄) (k : ℕ) : sProp 𝕄 :=
  if k = 0 then iprop(bigSep (Ring.rangeSet 256 0 256) todo ∗ free 0 ∗ free 1)
  else iprop(fly (k - 1) ∗ bigSep (Ring.rangeSet 256 0 (k - 1)) done ∗ bigSep (Ring.rangeSet 256 k 256) todo ∗ free k)

omit [FloatOps F] in
theorem bk256 (k : ℕ) (h : k < 256) : Ring.bk 256 k = ⟨k, h⟩ := Fin.ext (Ring.bk_val h)

theorem result_zero (fly free : ℕ → sProp 𝕄) (todo done : Fin 256 → sProp 𝕄) : bagO fly free todo done 0 = iprop((todo (Ring.bk 256 0) ∗ bigSep (Ring.rangeSet 256 1 256) todo) ∗ free 0 ∗ free 1) := by
  unfold bagO; rw [if_pos rfl, Ring.bigSep_rangeSet_head (by omega) (by omega), bk256 0 (by omega)]
theorem result_one (fly free : ℕ → sProp 𝕄) (todo done : Fin 256 → sProp 𝕄) : bagO fly free todo done 1 = iprop(fly 0 ∗ emp ∗ bigSep (Ring.rangeSet 256 1 256) todo ∗ free 1) := by
  unfold bagO; rw [if_neg (by omega), Ring.bigSep_rangeSet_empty (by omega)]
theorem result_pre (fly free : ℕ → sProp 𝕄) (todo done : Fin 256 → sProp 𝕄) (k : ℕ) (h0 : 0 < k) (h : k < 256) :
    bagO fly free todo done k = iprop(fly (k - 1) ∗ bigSep (Ring.rangeSet 256 0 (k - 1)) done ∗ (todo (Ring.bk 256 k) ∗ bigSep (Ring.rangeSet 256 (k + 1) 256) todo) ∗ free k) := by
  unfold bagO; rw [if_neg (by omega), bk256 k h]
  conv_lhs => rw [Ring.bigSep_rangeSet_head (lo := k) (hi := 256) h h]
theorem result_post (fly free : ℕ → sProp 𝕄) (todo done : Fin 256 → sProp 𝕄) (k : ℕ) (h0 : 0 < k) (h : k < 256) :
    bagO fly free todo done (k + 1) = iprop(fly k ∗ (done (Ring.bk 256 (k - 1)) ∗ bigSep (Ring.rangeSet 256 0 (k - 1)) done) ∗ bigSep (Ring.rangeSet 256 (k + 1) 256) todo ∗ free (k + 1)) := by
  unfold bagO; rw [if_neg (by omega), bk256 (k - 1) (by omega), show k + 1 - 1 = k by omega]
  conv_lhs => rw [Ring.bigSep_rangeSet_last (lo := 0) (hi := k) h0 (by omega)]
theorem result_end (fly free : ℕ → sProp 𝕄) (todo done : Fin 256 → sProp 𝕄) :
    bagO fly free todo done 256 = iprop(fly 255 ∗ bigSep (Ring.rangeSet 256 0 255) done ∗ emp ∗ free 256) := by
  unfold bagO; rw [if_neg (by omega), Ring.bigSep_rangeSet_empty (lo := 256) (by omega)]
theorem result_all (done : Fin 256 → sProp 𝕄) : iprop(done (Ring.bk 256 255) ∗ bigSep (Ring.rangeSet 256 0 255) done) = bigSep Finset.univ done := by
  rw [← Ring.rangeSet_univ, bk256 255 (by omega)]
  conv_rhs => rw [Ring.bigSep_rangeSet_last (lo := 0) (hi := 256) (by omega) (by omega)]

end Result

end Cert.Kernel6Ideal.Up

end
-- ==== Proof.MlpUpTrip.lean ====
/- What one trip of the pipelined product's loop computes, and the parts of the loop's invariant. -/
module

public import proofs.«01_k».proof.Proof.MlpUpNames
public import Idealize.ShloMosaic.Lib.Pipeline.Value

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD)
variable (XA : Buf (Elt F) (aM.view.loc (c : Thread nD τ))) (XB : Buf (Elt F) (bM.view.loc (c : Thread nD τ)))
  (XO : Buf (Elt F) (oM.view.loc (c : Thread nD τ)))

/-- What the loop carries before trip `k`. -/
def car (k : ℕ) : BitVec 32 × BitVec 32 × BitVec 32 × BitVec 32 × BitVec 32 × BitVec 32 × BitVec 32 × BitVec 32 :=
  (wA k, wa k, wB k, wb k, wb k, wO k, wi k, wj k)

theorem car_of {k : ℕ} {a b d e f g h i : BitVec 32} (h1 : a = wA k) (h2 : b = wa k) (h3 : d = wB k) (h4 : e = wb k) (h5 : f = wb k)
    (h6 : g = wO k) (h7 : h = wi k) (h8 : i = wj k) : (a, b, d, e, f, g, h, i) = car k := by
  subst h1 h2 h3 h4 h5 h6 h7 h8; rfl

/-! ## What a trip computes -/

/-- The block of the product, before it is rounded. -/
def prodV (i j : Fin 16) : FVec F S1024x1024 .f32 :=
  matmul dot_S1024x4096_S4096x1024_S1024x1024_1_0_0_1_n_n none (wordsA c XA i) (wordsB c XB j) (constant S1024x1024 .f32 0x00000000#32)
/-- The block of the result. -/
def outV (i j : Fin 16) : S1024x1024.Idx → Elt F .bf16 :=
  truncf .bf16 (mulf (maximumf (prodV c XA XB i j) k0_pay2) (maximumf (prodV c XA XB i j) k0_pay2)) bitsLt_bf16_f32
/-- Trip `p`'s. -/
def outP (p : ℕ) : S1024x1024.Idx → Elt F .bf16 := outV c XA XB (Ring.bk 16 (p / 16)) (Ring.sl 16 p)

/-- A slot read through its buffer and reshaped is the slot read. -/
theorem load_aslot {off : Fin 3 → ℕ} {s : Fin 2} (e : off = slot2 s) (hh) (f : Buf (Elt F) ((aslot s).view.loc (c : Thread nD τ))) :
    shapeCast S1024x4096 (sA.view.readAt (Elt F) (Rect.unit (s := S2x1024x4096) off S1x1024x4096.size hh).toLoadRect f) shapeCasts_S1x1024x4096_S1024x4096
      = (aslot s).view.read (Elt F) f := by
  subst e; rfl
theorem load_bslot {off : Fin 3 → ℕ} {s : Fin 3} (e : off = slot3 s) (hh) (f : Buf (Elt F) ((bslot s).view.loc (c : Thread nD τ))) :
    shapeCast S4096x1024 (sB.view.readAt (Elt F) (Rect.unit (s := S3x4096x1024) off S1x4096x1024.size hh).toLoadRect f) shapeCasts_S1x4096x1024_S4096x1024
      = (bslot s).view.read (Elt F) f := by
  subst e; rfl
/-- A slot written through its buffer, reshaped, reads back. -/
theorem read_oslot {off : Fin 3 → ℕ} {s : Fin 2} (e : off = slot2 s) (hh) (g : Buf (Elt F) ((oslot s).view.loc (c : Thread nD τ)))
    (x : FVec F S1024x1024 .bf16) :
    (oslot s).view.read (Elt F) (View.write (Elt F) (sO.access (Rect.unit (s := S2x1024x1024) off S1x1024x1024.size hh)) g
        (shapeCast S1x1024x1024 x shapeCasts_S1024x1024_S1x1024x1024) Finset.univ) = x := by
  subst e
  have h := View.read_write_univ (Val := Elt F) (v := sO.access (Rect.unit (s := S2x1024x1024) (slot2 s) S1x1024x1024.size hh)) g
    (shapeCast S1x1024x1024 x shapeCasts_S1024x1024_S1x1024x1024)
  have h2 := congrArg (fun y : S1x1024x1024.Idx → Elt F .bf16 => shapeCast S1024x1024 y (by decide)) h
  refine Eq.trans ?_ (h2.trans ?_)
  · rfl
  · exact shapeCast_shapeCast _ _ _

theorem dma_eq (k : Fin k0_t1_loop.trips) (hA hB hO) (g : Buf (Elt F) ((oslot (Ring.sl 2 k.val)).view.loc (c : Thread nD τ)))
    (fa : Buf (Elt F) ((aslot (Ring.sl 2 (k.val / 16))).view.loc (c : Thread nD τ))) (fb : Buf (Elt F) ((bslot (Ring.sl 3 k.val)).view.loc (c : Thread nD τ))) :
    (ReadAs.same.apply ((oslot (Ring.sl 2 k.val)).view.read (Elt F)
      (View.write (Elt F) (sO.access (Rect.unit (s := S2x1024x1024) (k0_off22 (wb k.val)) S1x1024x1024.size hO)) g
        (k0_pay3 (k0_pay1
          (sA.view.readAt (Elt F) (Rect.unit (s := S2x1024x4096) (k0_off20 (wa k.val)) S1x1024x4096.size hA).toLoadRect (landedA c XA (Ring.sl 2 (k.val / 16)) (Ring.bk 16 (k.val / 16)) fa))
          (sB.view.readAt (Elt F) (Rect.unit (s := S3x4096x1024) (k0_off21 (wb k.val)) S1x4096x1024.size hB).toLoadRect (landedB c XB (Ring.sl 3 k.val) (Ring.sl 16 k.val) fb))) k0_pay2) Finset.univ))
        : S1024x1024.Idx → Elt F .bf16)
      = outP c XA XB k.val := by
  have ea := (load_aslot c (off20_eq k) hA (landedA c XA (Ring.sl 2 (k.val / 16)) (Ring.bk 16 (k.val / 16)) fa)).trans (View.read_writes_whole _ _ _)
  have eb := (load_bslot c (off21_eq k) hB (landedB c XB (Ring.sl 3 k.val) (Ring.sl 16 k.val) fb)).trans (View.read_writes_whole _ _ _)
  refine (read_oslot c (off22_eq k) hO g _).trans ?_
  unfold k0_pay1 outP outV prodV
  dsimp only
  rw [ea, eb]

/-! ## The parts of the invariant -/

abbrev heldA (i : ℕ) : sProp 𝕄 := iprop(∃ f, slotA c (Ring.sl 2 i) (landedA c XA (Ring.sl 2 i) (Ring.bk 16 i) f))
abbrev flyA (i : ℕ) : sProp 𝕄 := iprop(∃ f, flightA c XA (Ring.sl 2 i) (Ring.bk 16 i) f)
abbrev freeA (i : ℕ) : sProp 𝕄 := iprop(cellA (F := F) c (Ring.sl 2 i) ∗ ∃ f, slotA (F := F) c (Ring.sl 2 i) f)
abbrev flyB (j : ℕ) : sProp 𝕄 := iprop(∃ f, flightB c XB (Ring.sl 3 j) (Ring.sl 16 j) f)
abbrev freeB (j : ℕ) : sProp 𝕄 := iprop(cellB (F := F) c (Ring.sl 3 j) ∗ ∃ f, slotB (F := F) c (Ring.sl 3 j) f)
abbrev flyO (p : ℕ) : sProp 𝕄 := iprop(∃ g, flightO c XO (Ring.sl 2 p) (Ring.bk 256 p) (outP c XA XB p) g)
abbrev freeO (p : ℕ) : sProp 𝕄 := iprop(cellO (F := F) c (Ring.sl 2 p) ∗ ∃ f, slotO (F := F) c (Ring.sl 2 p) f)
abbrev todoO (p : Fin 256) : sProp 𝕄 := homeO c p XO
abbrev doneO (p : Fin 256) : sProp 𝕄 := homeO c p (landedO c XO p (outP c XA XB p.val))
abbrev owesP : sProp 𝕄 := iprop(∃ W, owes (c : Thread nD τ) 0 W)

/-! ## A trip, by what it starts and what it waits for -/

variable (v45 v52 : BitVec 32) (v54 : BitVec 1) (v58 : BitVec 32)

abbrev tripG (k : Fin k0_t1_loop.trips) :=
  k0_t1_body (F := F) aM (Memref.isWhole_whole _) bM (Memref.isWhole_whole _) oM (Memref.isWhole_whole _) sA (Memref.isWhole_whole _) cc0_scoped1 sB (Memref.isWhole_whole _) cc0_scoped3 sO (Memref.isWhole_whole _) cc0_scoped5 v45 v52 v54 v58 k (car k.val)

end Cert.Kernel6Ideal.Up

end
-- ==== Proof.MlpUpFirst.lean ====
/- The pipelined product's loop: the first trip. -/
module

public import proofs.«01_k».proof.Proof.MlpUpTrip

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD)
variable (XA : Buf (Elt F) (aM.view.loc (c : Thread nD τ))) (XB : Buf (Elt F) (bM.view.loc (c : Thread nD τ)))
  (XO : Buf (Elt F) (oM.view.loc (c : Thread nD τ)))

variable (v45 v52 : BitVec 32) (v54 : BitVec 1) (v58 : BitVec 32)

set_option backward.proofsInPublic true in
theorem tripFirst (k : Fin k0_t1_loop.trips) (h : k.val = 0) :
    iprop(owesP c ∗ flyA c XA (k.val / 16) ∗ flyB c XB k.val ∗ freeO c k.val ∗ todoO c XO (Ring.bk 256 k.val) ∗ homeB c XB (Ring.sl 16 (k.val + 2)) ∗ freeB c (k.val + 2))
    ⊢ wp frame (wpE (defs₀ (F := F)) 𝒱₀ (c : Thread nD τ) none) Set.univ (tripG v45 v52 v54 v58 k)
        (fun acc => iprop(⌜acc = car (k.val + 1)⌝ ∗ owesP c ∗ heldA c XA (k.val / 16) ∗ homeB c XB (Ring.sl 16 k.val) ∗ freeB c k.val ∗ flyO c XA XB XO k.val ∗ homeA c XA (Ring.bk 16 (k.val / 16)) ∗ cellA (F := F) c (Ring.sl 2 (k.val / 16)) ∗ flyB c XB (k.val + 2))) := by
  have hl : k.val < 256 := trips_eq ▸ k.isLt
  have h254 : k.val < 254 := by omega
  have c2 : ¬ k0_cond2 k (wi k.val) (wj k.val) = 1#1 := fun h => by have := (cond2_iff k).1 h; omega
  have c3 : k0_cond3 k (wj k.val) = 1#1 := (cond3_iff k).2 (by omega)
  have c4 : k0_cond4 k (wi k.val) (wj k.val) = 1#1 := (cond4_iff k).2 (by omega)
  have c12 : ¬ k0_cond12 k (wi k.val) (wj k.val) = 1#1 := fun h => by have := (cond12_iff k).1 h; omega
  have c5 := cond5_true k
  have c9 := cond9_true k
  have k1 := chk1_holds k
  have k2 := chk2_holds k
  have k3 := chk3_holds k
  have k4 := chk4_holds k
  iintro ⟨⟨%W, HW⟩, ⟨%fA, HA⟩, ⟨%fB, HB⟩, ⟨HOc, ⟨%g, HOs⟩⟩, HOh, HBh, ⟨HBc, ⟨%fB2, HBs⟩⟩⟩
  dsimp only [tripG]
  sl_unfold [k0_t1_body]
  sl_exec
  sl_step
  isplitr
  · ipureintro
    clear * -
    refine car_of ?_ ?_ ?_ ?_ ?_ ?_ ?_ ?_ <;> (revert k; decide +kernel)
  isplitl [HW]; · iexists _; iexact HW
  isplitl [HA_dst]; · iexists _; iexact HA_dst
  isplitl [HB_src]; · iexact HB_src
  isplitl [HB HB_dst]
  · isplitl [HB]; · iexact HB
    iexists _; iexact HB_dst
  isplitl [HOc]
  · iexists _
    have DMA : tripFirst.sl.dma4 c XA XB k k2 k3 k4 g = outP c XA XB k.val := by
      unfold tripFirst.sl.dma4 tripFirst.sl.HOs_w1 tripFirst.sl.r tripFirst.sl.v214_r0 tripFirst.sl.v217_r0
      exact dma_eq c XA XB k _ _ _ g (aslot (Ring.sl 2 (k.val / 16))).view.junk (bslot (Ring.sl 3 k.val)).view.junk
    rw [← DMA]
    iexact HOc
  isplitl [HA_src]; · iexact HA_src
  isplitl [HA]; · iexact HA
  iexists fB2; iexact HBc

end Cert.Kernel6Ideal.Up

end
-- ==== Proof.MlpUpRow.lean ====
/- The pipelined product's loop: the first trip of a row of blocks. -/
module

public import proofs.«01_k».proof.Proof.MlpUpTrip

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD)
variable (XA : Buf (Elt F) (aM.view.loc (c : Thread nD τ))) (XB : Buf (Elt F) (bM.view.loc (c : Thread nD τ)))
  (XO : Buf (Elt F) (oM.view.loc (c : Thread nD τ)))

variable (v45 v52 : BitVec 32) (v54 : BitVec 1) (v58 : BitVec 32)

set_option backward.proofsInPublic true in
theorem tripRow (k : Fin k0_t1_loop.trips) (h : k.val % 16 = 0) (hk : 0 < k.val) :
    iprop(owesP c ∗ flyA c XA (k.val / 16) ∗ flyB c XB k.val ∗ freeO c k.val ∗ todoO c XO (Ring.bk 256 k.val) ∗ homeB c XB (Ring.sl 16 (k.val + 2)) ∗ freeB c (k.val + 2) ∗ flyO c XA XB XO (k.val - 1))
    ⊢ wp frame (wpE (defs₀ (F := F)) 𝒱₀ (c : Thread nD τ) none) Set.univ (tripG v45 v52 v54 v58 k)
        (fun acc => iprop(⌜acc = car (k.val + 1)⌝ ∗ owesP c ∗ heldA c XA (k.val / 16) ∗ homeB c XB (Ring.sl 16 k.val) ∗ freeB c k.val ∗ flyO c XA XB XO k.val ∗ homeA c XA (Ring.bk 16 (k.val / 16)) ∗ cellA (F := F) c (Ring.sl 2 (k.val / 16)) ∗ flyB c XB (k.val + 2) ∗ homeO c (Ring.bk 256 (k.val - 1)) (landedO c XO (Ring.bk 256 (k.val - 1)) (outP c XA XB (k.val - 1))) ∗ freeO c (k.val - 1))) := by
  have hl : k.val < 256 := trips_eq ▸ k.isLt
  have h254 : k.val < 254 := by omega
  have c2 : ¬ k0_cond2 k (wi k.val) (wj k.val) = 1#1 := fun h => by have := (cond2_iff k).1 h; omega
  have c3 : k0_cond3 k (wj k.val) = 1#1 := (cond3_iff k).2 (by omega)
  have c4 : k0_cond4 k (wi k.val) (wj k.val) = 1#1 := (cond4_iff k).2 (by omega)
  have c12 : k0_cond12 k (wi k.val) (wj k.val) = 1#1 := (cond12_iff k).2 hk
  have c5 := cond5_true k
  have c9 := cond9_true k
  have k1 := chk1_holds k
  have k2 := chk2_holds k
  have k3 := chk3_holds k
  have k4 := chk4_holds k
  iintro ⟨⟨%W, HW⟩, ⟨%fA, HA⟩, ⟨%fB, HB⟩, ⟨HOc, ⟨%g, HOs⟩⟩, HOh, HBh, ⟨HBc, ⟨%fB2, HBs⟩⟩, ⟨%g2, HOf⟩⟩
  dsimp only [tripG]
  sl_unfold [k0_t1_body]
  sl_exec
  sl_step
  isplitr
  · ipureintro
    clear * -
    refine car_of ?_ ?_ ?_ ?_ ?_ ?_ ?_ ?_ <;> (revert k; decide +kernel)
  isplitl [HW]; · iexists _; iexact HW
  isplitl [HA_dst]; · iexists _; iexact HA_dst
  isplitl [HB_src]; · iexact HB_src
  isplitl [HB HB_dst]
  · isplitl [HB]; · iexact HB
    iexists _; iexact HB_dst
  isplitl [HOc]
  · iexists _
    have DMA : tripRow.sl.dma4 c XA XB k k2 k3 k4 g = outP c XA XB k.val := by
      unfold tripRow.sl.dma4 tripRow.sl.HOs_w1 tripRow.sl.r tripRow.sl.v214_r0 tripRow.sl.v217_r0
      exact dma_eq c XA XB k _ _ _ g (aslot (Ring.sl 2 (k.val / 16))).view.junk (bslot (Ring.sl 3 k.val)).view.junk
    rw [← DMA]
    iexact HOc
  isplitl [HA_src]; · iexact HA_src
  isplitl [HA]; · iexact HA
  isplitl [HBc]; · iexists fB2; iexact HBc
  isplitl [HOf_dst]; · iexact HOf_dst
  isplitl [HOf]; · iexact HOf
  iexists _; iexact HOf_src

end Cert.Kernel6Ideal.Up

end
-- ==== Proof.MlpUpMid.lean ====
/- The pipelined product's loop: a trip inside a row of blocks. -/
module

public import proofs.«01_k».proof.Proof.MlpUpTrip

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD)
variable (XA : Buf (Elt F) (aM.view.loc (c : Thread nD τ))) (XB : Buf (Elt F) (bM.view.loc (c : Thread nD τ)))
  (XO : Buf (Elt F) (oM.view.loc (c : Thread nD τ)))

variable (v45 v52 : BitVec 32) (v54 : BitVec 1) (v58 : BitVec 32)

set_option backward.proofsInPublic true in
theorem tripMid (k : Fin k0_t1_loop.trips) (h0 : k.val % 16 ≠ 0) (h15 : k.val % 16 ≠ 15) (h254 : k.val < 254) :
    iprop(owesP c ∗ heldA c XA (k.val / 16) ∗ flyB c XB k.val ∗ freeO c k.val ∗ todoO c XO (Ring.bk 256 k.val) ∗ homeB c XB (Ring.sl 16 (k.val + 2)) ∗ freeB c (k.val + 2) ∗ flyO c XA XB XO (k.val - 1))
    ⊢ wp frame (wpE (defs₀ (F := F)) 𝒱₀ (c : Thread nD τ) none) Set.univ (tripG v45 v52 v54 v58 k)
        (fun acc => iprop(⌜acc = car (k.val + 1)⌝ ∗ owesP c ∗ heldA c XA (k.val / 16) ∗ homeB c XB (Ring.sl 16 k.val) ∗ freeB c k.val ∗ flyO c XA XB XO k.val ∗ flyB c XB (k.val + 2) ∗ homeO c (Ring.bk 256 (k.val - 1)) (landedO c XO (Ring.bk 256 (k.val - 1)) (outP c XA XB (k.val - 1))) ∗ freeO c (k.val - 1))) := by
  have hk : 0 < k.val := by omega
  have c2 : ¬ k0_cond2 k (wi k.val) (wj k.val) = 1#1 := fun h => by have := (cond2_iff k).1 h; omega
  have c3 : k0_cond3 k (wj k.val) = 1#1 := (cond3_iff k).2 (by omega)
  have c4 : ¬ k0_cond4 k (wi k.val) (wj k.val) = 1#1 := fun h => by have := (cond4_iff k).1 h; omega
  have c12 : k0_cond12 k (wi k.val) (wj k.val) = 1#1 := (cond12_iff k).2 hk
  have c5 := cond5_true k
  have c9 := cond9_true k
  have k1 := chk1_holds k
  have k2 := chk2_holds k
  have k3 := chk3_holds k
  have k4 := chk4_holds k
  iintro ⟨⟨%W, HW⟩, ⟨%fA, HA⟩, ⟨%fB, HB⟩, ⟨HOc, ⟨%g, HOs⟩⟩, HOh, HBh, ⟨HBc, ⟨%fB2, HBs⟩⟩, ⟨%g2, HOf⟩⟩
  dsimp only [tripG]
  sl_unfold [k0_t1_body]
  sl_exec
  sl_step
  isplitr
  · ipureintro
    clear * -
    refine car_of ?_ ?_ ?_ ?_ ?_ ?_ ?_ ?_ <;> (revert k; decide +kernel)
  isplitl [HW]; · iexists _; iexact HW
  isplitl [HA]; · iexists _; iexact HA
  isplitl [HB_src]; · iexact HB_src
  isplitl [HB HB_dst]
  · isplitl [HB]; · iexact HB
    iexists _; iexact HB_dst
  isplitl [HOc]
  · iexists _
    have DMA : tripMid.sl.dma4 c XA XB k k2 k3 k4 g = outP c XA XB k.val := by
      unfold tripMid.sl.dma4 tripMid.sl.HOs_w1 tripMid.sl.r tripMid.sl.v214_r0 tripMid.sl.v217_r0
      exact dma_eq c XA XB k _ _ _ g (aslot (Ring.sl 2 (k.val / 16))).view.junk (bslot (Ring.sl 3 k.val)).view.junk
    rw [← DMA]
    iexact HOc
  isplitl [HBc]; · iexists fB2; iexact HBc
  isplitl [HOf_dst]; · iexact HOf_dst
  isplitl [HOf]; · iexact HOf
  iexists _; iexact HOf_src

end Cert.Kernel6Ideal.Up

end
-- ==== Proof.MlpUpTurn.lean ====
/- The pipelined product's loop: the last trip of a row of blocks. -/
module

public import proofs.«01_k».proof.Proof.MlpUpTrip

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD)
variable (XA : Buf (Elt F) (aM.view.loc (c : Thread nD τ))) (XB : Buf (Elt F) (bM.view.loc (c : Thread nD τ)))
  (XO : Buf (Elt F) (oM.view.loc (c : Thread nD τ)))

variable (v45 v52 : BitVec 32) (v54 : BitVec 1) (v58 : BitVec 32)

set_option backward.proofsInPublic true in
theorem tripTurn (k : Fin k0_t1_loop.trips) (h : k.val % 16 = 15) (h255 : k.val < 255) :
    iprop(owesP c ∗ heldA c XA (k.val / 16) ∗ flyB c XB k.val ∗ freeO c k.val ∗ todoO c XO (Ring.bk 256 k.val) ∗ homeA c XA (Ring.bk 16 (k.val / 16 + 1)) ∗ freeA c (k.val / 16 + 1) ∗ homeB c XB (Ring.sl 16 (k.val + 2)) ∗ freeB c (k.val + 2) ∗ flyO c XA XB XO (k.val - 1))
    ⊢ wp frame (wpE (defs₀ (F := F)) 𝒱₀ (c : Thread nD τ) none) Set.univ (tripG v45 v52 v54 v58 k)
        (fun acc => iprop(⌜acc = car (k.val + 1)⌝ ∗ owesP c ∗ heldA c XA (k.val / 16) ∗ homeB c XB (Ring.sl 16 k.val) ∗ freeB c k.val ∗ flyO c XA XB XO k.val ∗ flyA c XA (k.val / 16 + 1) ∗ flyB c XB (k.val + 2) ∗ homeO c (Ring.bk 256 (k.val - 1)) (landedO c XO (Ring.bk 256 (k.val - 1)) (outP c XA XB (k.val - 1))) ∗ freeO c (k.val - 1))) := by
  have h254 : k.val < 254 := by omega
  have h240 : k.val < 240 := by omega
  have hk : 0 < k.val := by omega
  have c2 : k0_cond2 k (wi k.val) (wj k.val) = 1#1 := (cond2_iff k).2 (by omega)
  have c3 : k0_cond3 k (wj k.val) = 1#1 := (cond3_iff k).2 (by omega)
  have c4 : ¬ k0_cond4 k (wi k.val) (wj k.val) = 1#1 := fun h => by have := (cond4_iff k).1 h; omega
  have c12 : k0_cond12 k (wi k.val) (wj k.val) = 1#1 := (cond12_iff k).2 hk
  have c5 := cond5_true k
  have c9 := cond9_true k
  have k1 := chk1_holds k
  have k2 := chk2_holds k
  have k3 := chk3_holds k
  have k4 := chk4_holds k
  iintro ⟨⟨%W, HW⟩, ⟨%fA, HA⟩, ⟨%fB, HB⟩, ⟨HOc, ⟨%g, HOs⟩⟩, HOh, HAh, ⟨HAc, ⟨%fA2, HAs⟩⟩, HBh, ⟨HBc, ⟨%fB2, HBs⟩⟩, ⟨%g2, HOf⟩⟩
  dsimp only [tripG]
  sl_unfold [k0_t1_body]
  sl_exec
  sl_step
  isplitr
  · ipureintro
    clear * -
    refine car_of ?_ ?_ ?_ ?_ ?_ ?_ ?_ ?_ <;> (revert k; decide +kernel)
  isplitl [HW]; · iexists _; iexact HW
  isplitl [HA]; · iexists _; iexact HA
  isplitl [HB_src]; · iexact HB_src
  isplitl [HB HB_dst]
  · isplitl [HB]; · iexact HB
    iexists _; iexact HB_dst
  isplitl [HOc]
  · iexists _
    have DMA : tripTurn.sl.dma4 c XA XB k k2 k3 k4 g = outP c XA XB k.val := by
      unfold tripTurn.sl.dma4 tripTurn.sl.HOs_w1 tripTurn.sl.r tripTurn.sl.v214_r0 tripTurn.sl.v217_r0
      exact dma_eq c XA XB k _ _ _ g (aslot (Ring.sl 2 (k.val / 16))).view.junk (bslot (Ring.sl 3 k.val)).view.junk
    rw [← DMA]
    iexact HOc
  isplitl [HAc]; · iexists fA2; iexact HAc
  isplitl [HBc]; · iexists fB2; iexact HBc
  isplitl [HOf_dst]; · iexact HOf_dst
  isplitl [HOf]; · iexact HOf
  iexists _; iexact HOf_src

end Cert.Kernel6Ideal.Up

end
-- ==== Proof.MlpUpTail.lean ====
/- The pipelined product's loop: the last two trips. -/
module

public import proofs.«01_k».proof.Proof.MlpUpTrip

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD)
variable (XA : Buf (Elt F) (aM.view.loc (c : Thread nD τ))) (XB : Buf (Elt F) (bM.view.loc (c : Thread nD τ)))
  (XO : Buf (Elt F) (oM.view.loc (c : Thread nD τ)))

variable (v45 v52 : BitVec 32) (v54 : BitVec 1) (v58 : BitVec 32)

set_option backward.proofsInPublic true in
theorem tripTail (k : Fin k0_t1_loop.trips) (h : 254 ≤ k.val) :
    iprop(owesP c ∗ heldA c XA (k.val / 16) ∗ flyB c XB k.val ∗ freeO c k.val ∗ todoO c XO (Ring.bk 256 k.val) ∗ flyO c XA XB XO (k.val - 1))
    ⊢ wp frame (wpE (defs₀ (F := F)) 𝒱₀ (c : Thread nD τ) none) Set.univ (tripG v45 v52 v54 v58 k)
        (fun acc => iprop(⌜acc = car (k.val + 1)⌝ ∗ owesP c ∗ heldA c XA (k.val / 16) ∗ homeB c XB (Ring.sl 16 k.val) ∗ freeB c k.val ∗ flyO c XA XB XO k.val ∗ homeO c (Ring.bk 256 (k.val - 1)) (landedO c XO (Ring.bk 256 (k.val - 1)) (outP c XA XB (k.val - 1))) ∗ freeO c (k.val - 1))) := by
  have hl : k.val < 256 := trips_eq ▸ k.isLt
  have hk : 0 < k.val := by omega
  have c2 : ¬ k0_cond2 k (wi k.val) (wj k.val) = 1#1 := fun h => by have := (cond2_iff k).1 h; omega
  have c3 : ¬ k0_cond3 k (wj k.val) = 1#1 := fun h => by have := (cond3_iff k).1 h; omega
  have c4 : ¬ k0_cond4 k (wi k.val) (wj k.val) = 1#1 := fun h => by have := (cond4_iff k).1 h; omega
  have c12 : k0_cond12 k (wi k.val) (wj k.val) = 1#1 := (cond12_iff k).2 hk
  have c5 := cond5_true k
  have c9 := cond9_true k
  have k1 := chk1_holds k
  have k2 := chk2_holds k
  have k3 := chk3_holds k
  have k4 := chk4_holds k
  iintro ⟨⟨%W, HW⟩, ⟨%fA, HA⟩, ⟨%fB, HB⟩, ⟨HOc, ⟨%g, HOs⟩⟩, HOh, ⟨%g2, HOf⟩⟩
  dsimp only [tripG]
  sl_unfold [k0_t1_body]
  sl_exec
  sl_step
  isplitr
  · ipureintro
    clear * -
    refine car_of ?_ ?_ ?_ ?_ ?_ ?_ ?_ ?_ <;> (revert k; decide +kernel)
  isplitl [HW]; · iexists _; iexact HW
  isplitl [HA]; · iexists _; iexact HA
  isplitl [HB_src]; · iexact HB_src
  isplitl [HB HB_dst]
  · isplitl [HB]; · iexact HB
    iexists _; iexact HB_dst
  isplitl [HOc]
  · iexists _
    have DMA : tripTail.sl.dma4 c XA XB k k2 k3 k4 g = outP c XA XB k.val := by
      unfold tripTail.sl.dma4 tripTail.sl.HOs_w1 tripTail.sl.r tripTail.sl.v214_r0 tripTail.sl.v217_r0
      exact dma_eq c XA XB k _ _ _ g (aslot (Ring.sl 2 (k.val / 16))).view.junk (bslot (Ring.sl 3 k.val)).view.junk
    rw [← DMA]
    iexact HOc
  isplitl [HOf_dst]; · iexact HOf_dst
  isplitl [HOf]; · iexact HOf
  iexists _; iexact HOf_src

end Cert.Kernel6Ideal.Up

end
-- ==== Proof.MlpUpLoop.lean ====
/- The pipelined product's loop, all trips. -/
module

public import proofs.«01_k».proof.Proof.MlpUpBag
public import proofs.«01_k».proof.Proof.MlpUpFirst
public import proofs.«01_k».proof.Proof.MlpUpRow
public import proofs.«01_k».proof.Proof.MlpUpMid
public import proofs.«01_k».proof.Proof.MlpUpTurn
public import proofs.«01_k».proof.Proof.MlpUpTail

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD)
variable (XA : Buf (Elt F) (aM.view.loc (c : Thread nD τ))) (XB : Buf (Elt F) (bM.view.loc (c : Thread nD τ)))
  (XO : Buf (Elt F) (oM.view.loc (c : Thread nD τ)))

/-- The left blocks before trip `k`, the right blocks, the result's. -/
abbrev leftAt (k : ℕ) : sProp 𝕄 := bagL (flyA c XA) (heldA c XA) (fun i => cellA (F := F) c (Ring.sl 2 i)) (freeA (F := F) c) (homeA c XA) k
abbrev rightAt (k : ℕ) : sProp 𝕄 := bagR (flyB c XB) (freeB (F := F) c) (homeB c XB) k
abbrev resultAt (k : ℕ) : sProp 𝕄 := bagO (flyO c XA XB XO) (freeO (F := F) c) (todoO c XO) (doneO c XA XB XO) k
/-- All the loop holds before trip `k`. -/
abbrev holds (k : ℕ) : sProp 𝕄 := iprop(owesP (F := F) c ∗ leftAt c XA k ∗ rightAt c XB k ∗ resultAt c XA XB XO k)

theorem freeB_add (k : ℕ) : freeB (F := F) c (k + 3) = freeB c k :=
  congrArg (fun s : Fin 3 => iprop(cellB (F := F) c s ∗ ∃ f, slotB (F := F) c s f)) (Ring.sl_add 3 k)
theorem freeO_add (k : ℕ) (h : 0 < k) : freeO (F := F) c (k + 1) = freeO c (k - 1) :=
  congrArg (fun s : Fin 2 => iprop(cellO (F := F) c s ∗ ∃ f, slotO (F := F) c s f))
    ((congrArg (Ring.sl 2) (show k + 1 = k - 1 + 2 by omega)).trans (Ring.sl_add 2 (k - 1)))
theorem freeA_add (i : ℕ) : freeA (F := F) c (i + 2) = freeA c i :=
  congrArg (fun s : Fin 2 => iprop(cellA (F := F) c s ∗ ∃ f, slotA (F := F) c s f)) (Ring.sl_add 2 i)
theorem doneO_pred (k : ℕ) (h : k < 256 + 1) (h0 : 0 < k) : doneO c XA XB XO (Ring.bk 256 (k - 1))
    = homeO c (Ring.bk 256 (k - 1)) (landedO c XO (Ring.bk 256 (k - 1)) (outP c XA XB (k - 1))) := by
  unfold doneO; rw [Ring.bk_val (show k - 1 < 256 by omega)]

variable (v45 v52 : BitVec 32) (v54 : BitVec 1) (v58 : BitVec 32)

/-- A trip inside a row of blocks. -/
theorem stepMid (k : Fin k0_t1_loop.trips) (h0 : k.val % 16 ≠ 0) (h15 : k.val % 16 ≠ 15) (h254 : k.val < 254) :
    holds c XA XB XO k.val
    ⊢ wp frame (wpE (defs₀ (F := F)) 𝒱₀ (c : Thread nD τ) none) Set.univ (tripG v45 v52 v54 v58 k)
        (fun acc => iprop(⌜acc = car (k.val + 1)⌝ ∗ holds c XA XB XO (k.val + 1))) := by
  have hl : k.val < 256 := trips_eq ▸ k.isLt
  have hk : 0 < k.val := by omega
  unfold holds leftAt rightAt resultAt
  rw [left_held (flyA c XA) (heldA c XA) (fun i => cellA (F := F) c (Ring.sl 2 i)) (freeA (F := F) c) (homeA c XA) k.val (by omega)]
  rw [left_next (flyA c XA) (heldA c XA) (fun i => cellA (F := F) c (Ring.sl 2 i)) (freeA (F := F) c) (homeA c XA) k.val (by omega)]
  rw [right_pre (flyB c XB) (freeB (F := F) c) (homeB c XB) k.val (by omega)]
  rw [right_post (flyB c XB) (freeB (F := F) c) (homeB c XB) k.val (by omega)]
  rw [freeB_add]
  rw [result_pre (flyO c XA XB XO) (freeO (F := F) c) (todoO c XO) (doneO c XA XB XO) k.val hk hl]
  rw [result_post (flyO c XA XB XO) (freeO (F := F) c) (todoO c XO) (doneO c XA XB XO) k.val hk hl]
  rw [freeO_add c k.val hk]
  rw [doneO_pred c XA XB XO k.val (by omega) hk]
  iintro ⟨HW, ⟨HhA, HcA, HA, HfA⟩, ⟨HB, HB1, ⟨HBh, HBs⟩, HBf⟩, ⟨HOf, HOd, ⟨HOt, HOr⟩, HOc⟩⟩
  iapply (wp_wand_r Idealize.ShloMosaic.frame (wpE (defs₀ (F := F)) 𝒱₀ (c : Thread nD τ) none) Set.univ)
  isplitl [HW HA HB HOc HOt HBh HBf HOf]
  · iapply (tripMid c XA XB XO v45 v52 v54 v58 k h0 h15 h254)
    isplitl [HW]; · iexact HW
    isplitl [HA]; · iexact HA
    isplitl [HB]; · iexact HB
    isplitl [HOc]; · iexact HOc
    isplitl [HOt]; · iexact HOt
    isplitl [HBh]; · iexact HBh
    isplitl [HBf]; · iexact HBf
    iexact HOf
  · iintro %acc ⟨%e, HW, HA, HBk, HBn, HO, HB2, HOd1, HOn⟩
    isplitr; · ipureintro; exact e
    isplitl [HW]; · iexact HW
    isplitl [HhA HcA HA HfA]
    · isplitl [HhA]; · iexact HhA
      isplitl [HcA]; · iexact HcA
      isplitl [HA]; · iexact HA
      iexact HfA
    isplitl [HB1 HB2 HBk HBs HBn]
    · isplitl [HB1]; · iexact HB1
      isplitl [HB2]; · iexact HB2
      isplitl [HBk HBs]
      · isplitl [HBk]; · iexact HBk
        iexact HBs
      iexact HBn
    isplitl [HO]; · iexact HO
    isplitl [HOd1 HOd]
    · isplitl [HOd1]; · iexact HOd1
      iexact HOd
    isplitl [HOr]; · iexact HOr
    iexact HOn

/-- The first trip of a row. -/
theorem stepRow (k : Fin k0_t1_loop.trips) (h : k.val % 16 = 0) (hk : 0 < k.val) :
    holds c XA XB XO k.val
    ⊢ wp frame (wpE (defs₀ (F := F)) 𝒱₀ (c : Thread nD τ) none) Set.univ (tripG v45 v52 v54 v58 k)
        (fun acc => iprop(⌜acc = car (k.val + 1)⌝ ∗ holds c XA XB XO (k.val + 1))) := by
  have hl : k.val < 256 := trips_eq ▸ k.isLt
  unfold holds leftAt rightAt resultAt
  rw [left_wait (flyA c XA) (heldA c XA) (fun i => cellA (F := F) c (Ring.sl 2 i)) (freeA (F := F) c) (homeA c XA) k.val h hl]
  rw [left_next (flyA c XA) (heldA c XA) (fun i => cellA (F := F) c (Ring.sl 2 i)) (freeA (F := F) c) (homeA c XA) k.val (by omega)]
  rw [right_pre (flyB c XB) (freeB (F := F) c) (homeB c XB) k.val (by omega)]
  rw [right_post (flyB c XB) (freeB (F := F) c) (homeB c XB) k.val (by omega)]
  rw [freeB_add]
  rw [result_pre (flyO c XA XB XO) (freeO (F := F) c) (todoO c XO) (doneO c XA XB XO) k.val hk hl]
  rw [result_post (flyO c XA XB XO) (freeO (F := F) c) (todoO c XO) (doneO c XA XB XO) k.val hk hl]
  rw [freeO_add c k.val hk]
  rw [doneO_pred c XA XB XO k.val (by omega) hk]
  iintro ⟨HW, ⟨HA, HhA, HfA⟩, ⟨HB, HB1, ⟨HBh, HBs⟩, HBf⟩, ⟨HOf, HOd, ⟨HOt, HOr⟩, HOc⟩⟩
  iapply (wp_wand_r Idealize.ShloMosaic.frame (wpE (defs₀ (F := F)) 𝒱₀ (c : Thread nD τ) none) Set.univ)
  isplitl [HW HA HB HOc HOt HBh HBf HOf]
  · iapply (tripRow c XA XB XO v45 v52 v54 v58 k h hk)
    isplitl [HW]; · iexact HW
    isplitl [HA]; · iexact HA
    isplitl [HB]; · iexact HB
    isplitl [HOc]; · iexact HOc
    isplitl [HOt]; · iexact HOt
    isplitl [HBh]; · iexact HBh
    isplitl [HBf]; · iexact HBf
    iexact HOf
  · iintro %acc ⟨%e, HW, HA, HBk, HBn, HO, HhA1, HcA, HB2, HOd1, HOn⟩
    isplitr; · ipureintro; exact e
    isplitl [HW]; · iexact HW
    isplitl [HhA1 HhA HcA HA HfA]
    · isplitl [HhA1 HhA]
      · rw [home_out (homeA c XA) (Ring.bk 16 (k.val / 16))]
        isplitl [HhA1]; · iexact HhA1
        iexact HhA
      isplitl [HcA]; · iexact HcA
      isplitl [HA]; · iexact HA
      iexact HfA
    isplitl [HB1 HB2 HBk HBs HBn]
    · isplitl [HB1]; · iexact HB1
      isplitl [HB2]; · iexact HB2
      isplitl [HBk HBs]
      · isplitl [HBk]; · iexact HBk
        iexact HBs
      iexact HBn
    isplitl [HO]; · iexact HO
    isplitl [HOd1 HOd]
    · isplitl [HOd1]; · iexact HOd1
      iexact HOd
    isplitl [HOr]; · iexact HOr
    iexact HOn

/-- The last trip of a row. -/
theorem stepTurn (k : Fin k0_t1_loop.trips) (h : k.val % 16 = 15) (h255 : k.val < 255) :
    holds c XA XB XO k.val
    ⊢ wp frame (wpE (defs₀ (F := F)) 𝒱₀ (c : Thread nD τ) none) Set.univ (tripG v45 v52 v54 v58 k)
        (fun acc => iprop(⌜acc = car (k.val + 1)⌝ ∗ holds c XA XB XO (k.val + 1))) := by
  have hl : k.val < 256 := trips_eq ▸ k.isLt
  have hk : 0 < k.val := by omega
  unfold holds leftAt rightAt resultAt
  rw [left_held (flyA c XA) (heldA c XA) (fun i => cellA (F := F) c (Ring.sl 2 i)) (freeA (F := F) c) (homeA c XA) k.val (by omega)]
  rw [left_turn (flyA c XA) (heldA c XA) (fun i => cellA (F := F) c (Ring.sl 2 i)) (freeA (F := F) c) (homeA c XA) k.val h h255]
  rw [home_out (homeA c XA) (Ring.bk 16 (k.val / 16 + 1))]
  rw [freeA_add]
  rw [right_pre (flyB c XB) (freeB (F := F) c) (homeB c XB) k.val (by omega)]
  rw [right_post (flyB c XB) (freeB (F := F) c) (homeB c XB) k.val (by omega)]
  rw [freeB_add]
  rw [result_pre (flyO c XA XB XO) (freeO (F := F) c) (todoO c XO) (doneO c XA XB XO) k.val hk hl]
  rw [result_post (flyO c XA XB XO) (freeO (F := F) c) (todoO c XO) (doneO c XA XB XO) k.val hk hl]
  rw [freeO_add c k.val hk]
  rw [doneO_pred c XA XB XO k.val (by omega) hk]
  iintro ⟨HW, ⟨⟨HhA1, HhA⟩, HcA, HA, HfA⟩, ⟨HB, HB1, ⟨HBh, HBs⟩, HBf⟩, ⟨HOf, HOd, ⟨HOt, HOr⟩, HOc⟩⟩
  iapply (wp_wand_r Idealize.ShloMosaic.frame (wpE (defs₀ (F := F)) 𝒱₀ (c : Thread nD τ) none) Set.univ)
  isplitl [HW HA HB HOc HOt HhA1 HfA HBh HBf HOf]
  · iapply (tripTurn c XA XB XO v45 v52 v54 v58 k h h255)
    isplitl [HW]; · iexact HW
    isplitl [HA]; · iexact HA
    isplitl [HB]; · iexact HB
    isplitl [HOc]; · iexact HOc
    isplitl [HOt]; · iexact HOt
    isplitl [HhA1]; · iexact HhA1
    isplitl [HfA]; · iexact HfA
    isplitl [HBh]; · iexact HBh
    isplitl [HBf]; · iexact HBf
    iexact HOf
  · iintro %acc ⟨%e, HW, HA, HBk, HBn, HO, HA1, HB2, HOd1, HOn⟩
    isplitr; · ipureintro; exact e
    isplitl [HW]; · iexact HW
    isplitl [HA1 HhA HcA HA]
    · isplitl [HA1]; · iexact HA1
      isplitl [HhA]; · iexact HhA
      isplitl [HcA]; · iexact HcA
      icases HA with ⟨%f, HA⟩
      iexists _; iexact HA
    isplitl [HB1 HB2 HBk HBs HBn]
    · isplitl [HB1]; · iexact HB1
      isplitl [HB2]; · iexact HB2
      isplitl [HBk HBs]
      · isplitl [HBk]; · iexact HBk
        iexact HBs
      iexact HBn
    isplitl [HO]; · iexact HO
    isplitl [HOd1 HOd]
    · isplitl [HOd1]; · iexact HOd1
      iexact HOd
    isplitl [HOr]; · iexact HOr
    iexact HOn

/-- The last trip but one. -/
theorem stepTail (k : Fin k0_t1_loop.trips) (hB : k.val = 254) :
    holds c XA XB XO k.val
    ⊢ wp frame (wpE (defs₀ (F := F)) 𝒱₀ (c : Thread nD τ) none) Set.univ (tripG v45 v52 v54 v58 k)
        (fun acc => iprop(⌜acc = car (k.val + 1)⌝ ∗ holds c XA XB XO (k.val + 1))) := by
  have hl : k.val < 256 := trips_eq ▸ k.isLt
  have hk : 0 < k.val := by omega
  unfold holds leftAt rightAt resultAt
  rw [left_held (flyA c XA) (heldA c XA) (fun i => cellA (F := F) c (Ring.sl 2 i)) (freeA (F := F) c) (homeA c XA) k.val (by omega)]
  rw [left_next (flyA c XA) (heldA c XA) (fun i => cellA (F := F) c (Ring.sl 2 i)) (freeA (F := F) c) (homeA c XA) k.val (by omega)]
  rw [right_254k (flyB c XB) (freeB (F := F) c) (homeB c XB) k.val hB]
  rw [right_255k (flyB c XB) (freeB (F := F) c) (homeB c XB) k.val hB]
  rw [freeB_add]
  rw [result_pre (flyO c XA XB XO) (freeO (F := F) c) (todoO c XO) (doneO c XA XB XO) k.val hk hl]
  rw [result_post (flyO c XA XB XO) (freeO (F := F) c) (todoO c XO) (doneO c XA XB XO) k.val hk hl]
  rw [freeO_add c k.val hk]
  rw [doneO_pred c XA XB XO k.val (by omega) hk]
  iintro ⟨HW, ⟨HhA, HcA, HA, HfA⟩, ⟨HB, HB1, HBs, HBf⟩, ⟨HOf, HOd, ⟨HOt, HOr⟩, HOc⟩⟩
  iapply (wp_wand_r Idealize.ShloMosaic.frame (wpE (defs₀ (F := F)) 𝒱₀ (c : Thread nD τ) none) Set.univ)
  isplitl [HW HA HB HOc HOt HOf]
  · iapply (tripTail c XA XB XO v45 v52 v54 v58 k (by omega))
    isplitl [HW]; · iexact HW
    isplitl [HA]; · iexact HA
    isplitl [HB]; · iexact HB
    isplitl [HOc]; · iexact HOc
    isplitl [HOt]; · iexact HOt
    iexact HOf
  · iintro %acc ⟨%e, HW, HA, HBk, HBn, HO, HOd1, HOn⟩
    isplitr; · ipureintro; exact e
    isplitl [HW]; · iexact HW
    isplitl [HhA HcA HA HfA]
    · isplitl [HhA]; · iexact HhA
      isplitl [HcA]; · iexact HcA
      isplitl [HA]; · iexact HA
      iexact HfA
    isplitl [HB1 HBk HBs HBf HBn]
    · isplitl [HB1]; · iexact HB1
      isplitl [HBk HBs]
      · isplitl [HBk]; · iexact HBk
        iexact HBs
      isplitl [HBf]; · iexact HBf
      iexact HBn
    isplitl [HO]; · iexact HO
    isplitl [HOd1 HOd]
    · isplitl [HOd1]; · iexact HOd1
      iexact HOd
    isplitl [HOr]; · iexact HOr
    iexact HOn

/-- The last trip. -/
theorem stepLast (k : Fin k0_t1_loop.trips) (hB : k.val = 255) :
    holds c XA XB XO k.val
    ⊢ wp frame (wpE (defs₀ (F := F)) 𝒱₀ (c : Thread nD τ) none) Set.univ (tripG v45 v52 v54 v58 k)
        (fun acc => iprop(⌜acc = car (k.val + 1)⌝ ∗ holds c XA XB XO (k.val + 1))) := by
  have hl : k.val < 256 := trips_eq ▸ k.isLt
  have hk : 0 < k.val := by omega
  unfold holds leftAt rightAt resultAt
  rw [left_held (flyA c XA) (heldA c XA) (fun i => cellA (F := F) c (Ring.sl 2 i)) (freeA (F := F) c) (homeA c XA) k.val (by omega)]
  rw [left_next (flyA c XA) (heldA c XA) (fun i => cellA (F := F) c (Ring.sl 2 i)) (freeA (F := F) c) (homeA c XA) k.val (by omega)]
  rw [right_255k' (flyB c XB) (freeB (F := F) c) (homeB c XB) k.val hB]
  rw [right_256k (flyB c XB) (freeB (F := F) c) (homeB c XB) k.val hB]
  rw [freeB_add]
  rw [result_pre (flyO c XA XB XO) (freeO (F := F) c) (todoO c XO) (doneO c XA XB XO) k.val hk hl]
  rw [result_post (flyO c XA XB XO) (freeO (F := F) c) (todoO c XO) (doneO c XA XB XO) k.val hk hl]
  rw [freeO_add c k.val hk]
  rw [doneO_pred c XA XB XO k.val (by omega) hk]
  iintro ⟨HW, ⟨HhA, HcA, HA, HfA⟩, ⟨HB, HBs, HBf, HBg⟩, ⟨HOf, HOd, ⟨HOt, HOr⟩, HOc⟩⟩
  iapply (wp_wand_r Idealize.ShloMosaic.frame (wpE (defs₀ (F := F)) 𝒱₀ (c : Thread nD τ) none) Set.univ)
  isplitl [HW HA HB HOc HOt HOf]
  · iapply (tripTail c XA XB XO v45 v52 v54 v58 k (by omega))
    isplitl [HW]; · iexact HW
    isplitl [HA]; · iexact HA
    isplitl [HB]; · iexact HB
    isplitl [HOc]; · iexact HOc
    isplitl [HOt]; · iexact HOt
    iexact HOf
  · iintro %acc ⟨%e, HW, HA, HBk, HBn, HO, HOd1, HOn⟩
    isplitr; · ipureintro; exact e
    isplitl [HW]; · iexact HW
    isplitl [HhA HcA HA HfA]
    · isplitl [HhA]; · iexact HhA
      isplitl [HcA]; · iexact HcA
      isplitl [HA]; · iexact HA
      iexact HfA
    isplitl [HBk HBs HBf HBg HBn]
    · isplitl [HBk HBs]
      · isplitl [HBk]; · iexact HBk
        iexact HBs
      isplitl [HBf]; · iexact HBf
      isplitl [HBg]; · iexact HBg
      iexact HBn
    isplitl [HO]; · iexact HO
    isplitl [HOd1 HOd]
    · isplitl [HOd1]; · iexact HOd1
      iexact HOd
    isplitl [HOr]; · iexact HOr
    iexact HOn

/-- The first trip. -/
theorem stepFirst (k : Fin k0_t1_loop.trips) (hz : k.val = 0) :
    holds c XA XB XO k.val
    ⊢ wp frame (wpE (defs₀ (F := F)) 𝒱₀ (c : Thread nD τ) none) Set.univ (tripG v45 v52 v54 v58 k)
        (fun acc => iprop(⌜acc = car (k.val + 1)⌝ ∗ holds c XA XB XO (k.val + 1))) := by
  have hl : k.val < 256 := trips_eq ▸ k.isLt
  have h : k.val % 16 = 0 := by omega
  unfold holds leftAt rightAt resultAt
  rw [left_wait (flyA c XA) (heldA c XA) (fun i => cellA (F := F) c (Ring.sl 2 i)) (freeA (F := F) c) (homeA c XA) k.val h hl]
  rw [left_next (flyA c XA) (heldA c XA) (fun i => cellA (F := F) c (Ring.sl 2 i)) (freeA (F := F) c) (homeA c XA) k.val (by omega)]
  rw [right_pre (flyB c XB) (freeB (F := F) c) (homeB c XB) k.val (by omega)]
  rw [right_post (flyB c XB) (freeB (F := F) c) (homeB c XB) k.val (by omega)]
  rw [freeB_add]
  rw [show bagO (flyO c XA XB XO) (freeO (F := F) c) (todoO c XO) (doneO c XA XB XO) k.val = _ from (congrArg (bagO (flyO c XA XB XO) (freeO (F := F) c) (todoO c XO) (doneO c XA XB XO)) hz).trans (result_zero (flyO c XA XB XO) (freeO (F := F) c) (todoO c XO) (doneO c XA XB XO)), show bagO (flyO c XA XB XO) (freeO (F := F) c) (todoO c XO) (doneO c XA XB XO) (k.val + 1) = _ from (congrArg (bagO (flyO c XA XB XO) (freeO (F := F) c) (todoO c XO) (doneO c XA XB XO)) (congrArg (· + 1) hz)).trans (result_one (flyO c XA XB XO) (freeO (F := F) c) (todoO c XO) (doneO c XA XB XO))]
  iintro ⟨HW, ⟨HA, HhA, HfA⟩, ⟨HB, HB1, ⟨HBh, HBs⟩, HBf⟩, ⟨⟨HOt, HOr⟩, HOc, HO1⟩⟩
  iapply (wp_wand_r Idealize.ShloMosaic.frame (wpE (defs₀ (F := F)) 𝒱₀ (c : Thread nD τ) none) Set.univ)
  isplitl [HW HA HB HOc HOt HBh HBf]
  · iapply (tripFirst c XA XB XO v45 v52 v54 v58 k hz)
    isplitl [HW]; · iexact HW
    isplitl [HA]; · iexact HA
    isplitl [HB]; · iexact HB
    isplitl [HOc]; · rw [hz]; iexact HOc
    isplitl [HOt]; · rw [hz]; iexact HOt
    isplitl [HBh]; · iexact HBh
    iexact HBf
  · iintro %acc ⟨%e, HW, HA, HBk, HBn, HO, HhA1, HcA, HB2⟩
    isplitr; · ipureintro; exact e
    isplitl [HW]; · iexact HW
    isplitl [HhA1 HhA HcA HA HfA]
    · isplitl [HhA1 HhA]
      · rw [home_out (homeA c XA) (Ring.bk 16 (k.val / 16))]
        isplitl [HhA1]; · iexact HhA1
        iexact HhA
      isplitl [HcA]; · iexact HcA
      isplitl [HA]; · iexact HA
      iexact HfA
    isplitl [HB1 HB2 HBk HBs HBn]
    · isplitl [HB1]; · iexact HB1
      isplitl [HB2]; · iexact HB2
      isplitl [HBk HBs]
      · isplitl [HBk]; · iexact HBk
        iexact HBs
      iexact HBn
    isplitl [HO]; · rw [← hz]; iexact HO
    isplitr; · iempintro
    isplitl [HOr]; · iexact HOr
    iexact HO1

/-- One trip. -/
theorem step (k : Fin k0_t1_loop.trips) :
    holds c XA XB XO k.val
    ⊢ wp frame (wpE (defs₀ (F := F)) 𝒱₀ (c : Thread nD τ) none) Set.univ (tripG v45 v52 v54 v58 k)
        (fun acc => iprop(⌜acc = car (k.val + 1)⌝ ∗ holds c XA XB XO (k.val + 1))) := by
  have hl : k.val < 256 := trips_eq ▸ k.isLt
  by_cases h0 : k.val = 0
  · exact stepFirst c XA XB XO v45 v52 v54 v58 k h0
  by_cases h1 : k.val % 16 = 0
  · exact stepRow c XA XB XO v45 v52 v54 v58 k h1 (by omega)
  by_cases h2 : k.val = 255
  · exact stepLast c XA XB XO v45 v52 v54 v58 k h2
  by_cases h3 : k.val % 16 = 15
  · exact stepTurn c XA XB XO v45 v52 v54 v58 k h3 (by omega)
  by_cases h4 : k.val = 254
  · exact stepTail c XA XB XO v45 v52 v54 v58 k h4
  exact stepMid c XA XB XO v45 v52 v54 v58 k h1 h3 (by omega)

/-- The loop's invariant before trip `k`. -/
@[irreducible] def invAt (k : ℕ) (acc : BitVec 32 × BitVec 32 × BitVec 32 × BitVec 32 × BitVec 32 × BitVec 32 × BitVec 32 × BitVec 32) : sProp 𝕄 :=
  iprop(⌜acc = car k⌝ ∗ holds c XA XB XO k)

theorem invAt_eq (k : ℕ) (acc) : invAt c XA XB XO k acc = iprop(⌜acc = car k⌝ ∗ holds c XA XB XO k) := by unfold invAt; rfl

set_option warn.classDefReducibility false in
/-- The loop by its invariant. -/
@[sl_loop] def loopInv1 (init) :
    LoopInvTy_k0_t1 (F := F) Unit ℕ (UU nD τ) ℕ 𝒱₀ c none Set.univ aM (Memref.isWhole_whole _) bM (Memref.isWhole_whole _) oM (Memref.isWhole_whole _) sA (Memref.isWhole_whole _) cc0_scoped1 sB (Memref.isWhole_whole _) cc0_scoped3 sO (Memref.isWhole_whole _) cc0_scoped5 v45 v52 v54 v58 init where
  inv k acc := invAt c XA XB XO k acc
  step k acc := by
    simp only [invAt_eq]
    iintro ⟨%e, H⟩
    subst e
    iapply (step c XA XB XO v45 v52 v54 v58 k); iexact H

end Cert.Kernel6Ideal.Up

end
-- ==== Proof.MlpUpBody.lean ====
/- The pipelined product's kernel, from the first transfers to the last wait. -/
module

public import proofs.«01_k».proof.Proof.MlpUpLoop

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD)
variable (XA : Buf (Elt F) (aM.view.loc (c : Thread nD τ))) (XB : Buf (Elt F) (bM.view.loc (c : Thread nD τ)))
  (XO : Buf (Elt F) (oM.view.loc (c : Thread nD τ)))

/-- The kernel on its arrays and buffers. -/
abbrev bodyG : Prog (TpuEff nD τ sig (Elt F) Λ₀ .tc) PUnit :=
  cc0_mlp_up aM (Memref.isWhole_whole _) bM (Memref.isWhole_whole _) oM (Memref.isWhole_whole _) sA (Memref.isWhole_whole _) cc0_scoped1 sB (Memref.isWhole_whole _) cc0_scoped3 sO (Memref.isWhole_whole _) cc0_scoped5

/-- The buffers' slots and the semaphores' cells, free. -/
abbrev idle : sProp 𝕄 :=
  iprop((cellA (F := F) c 0 ∗ ∃ f, slotA (F := F) c 0 f) ∗ (cellA (F := F) c 1 ∗ ∃ f, slotA (F := F) c 1 f)
    ∗ (cellB (F := F) c 0 ∗ ∃ f, slotB (F := F) c 0 f) ∗ (cellB (F := F) c 1 ∗ ∃ f, slotB (F := F) c 1 f) ∗ (cellB (F := F) c 2 ∗ ∃ f, slotB (F := F) c 2 f)
    ∗ (cellO (F := F) c 0 ∗ ∃ f, slotO (F := F) c 0 f) ∗ (cellO (F := F) c 1 ∗ ∃ f, slotO (F := F) c 1 f))
abbrev PRE (W : Waits sig Unit) : sProp 𝕄 :=
  iprop(bigSep Finset.univ (homeA c XA) ∗ bigSep Finset.univ (homeB c XB) ∗ bigSep Finset.univ (todoO c XO) ∗ idle (F := F) c ∗ owes (c : Thread nD τ) 0 W)
abbrev POST : sProp 𝕄 :=
  iprop(bigSep Finset.univ (homeA c XA) ∗ bigSep Finset.univ (homeB c XB) ∗ bigSep Finset.univ (doneO c XA XB XO) ∗ idle (F := F) c ∗ owesP (F := F) c)

/-- The first transfers' blocks apart. -/
theorem apart (Φ : Fin 16 → sProp 𝕄) :
    bigSep Finset.univ Φ = iprop(Φ 0 ∗ Φ 1 ∗ bigSep ((Finset.univ.erase 0).erase 1) Φ) := by
  rw [home_out Φ 0]
  conv_lhs => rw [← Finset.insert_erase (show (1 : Fin 16) ∈ Finset.univ.erase 0 by decide), bigSep_insert (Finset.notMem_erase _ _)]
  rfl

theorem sl2_0 : Ring.sl 2 (0 / 16) = 0 := rfl
theorem sl2_1 : Ring.sl 2 (0 / 16 + 1) = 1 := rfl
theorem bk16_0 : Ring.bk 16 (0 / 16) = 0 := rfl
theorem sl3_0 : Ring.sl 3 0 = 0 := rfl
theorem sl3_1 : Ring.sl 3 (0 + 1) = 1 := rfl
theorem sl3_2 : Ring.sl 3 (0 + 2) = 2 := rfl
theorem sl16_0 : Ring.sl 16 0 = 0 := rfl
theorem sl16_1 : Ring.sl 16 (0 + 1) = 1 := rfl
theorem sl2_00 : Ring.sl 2 0 = 0 := rfl
theorem sl2_01 : Ring.sl 2 1 = 1 := rfl

/-- What the loop finds. -/
theorem enter (W : Waits sig Unit) (fa fb0 fb1) :
    iprop(owes (c : Thread nD τ) 0 W
      ∗ (flightA c XA 0 0 fa ∗ bigSep (Finset.univ.erase 0) (homeA c XA) ∗ (cellA (F := F) c 1 ∗ ∃ f, slotA (F := F) c 1 f))
      ∗ (flightB c XB 0 0 fb0 ∗ flightB c XB 1 1 fb1 ∗ bigSep ((Finset.univ.erase 0).erase 1) (homeB c XB) ∗ (cellB (F := F) c 2 ∗ ∃ f, slotB (F := F) c 2 f))
      ∗ (bigSep Finset.univ (todoO c XO) ∗ (cellO (F := F) c 0 ∗ ∃ f, slotO (F := F) c 0 f) ∗ (cellO (F := F) c 1 ∗ ∃ f, slotO (F := F) c 1 f)))
    ⊢ invAt c XA XB XO 0 (1#32, 0#32, 2#32, 0#32, 0#32, 0#32, 0#32, 0#32) := by
  rw [invAt_eq]
  unfold holds leftAt rightAt resultAt bagL bagR bagO leftFly
  rw [if_pos (by decide), if_pos (by decide), if_pos rfl, Ring.rangeSet_univ]
  unfold flyA flyB freeA freeB freeO
  rw [sl2_0, sl2_1, bk16_0, sl3_0, sl3_1, sl3_2, sl16_0, sl16_1]
  iintro ⟨HW, ⟨HA, HAs, HAf⟩, ⟨HB, HB1, HBs, HBf⟩, ⟨HO, HO0, HO1⟩⟩
  isplitr; · ipureintro; rfl
  isplitl [HW]; · iexists W; iexact HW
  isplitl [HA HAs HAf]
  · isplitl [HA]; · iexists fa; iexact HA
    isplitl [HAs]; · iexact HAs
    iexact HAf
  isplitl [HB HB1 HBs HBf]
  · isplitl [HB]; · iexists fb0; iexact HB
    isplitl [HB1]; · iexists fb1; iexact HB1
    isplitl [HBs]; · iexact HBs
    iexact HBf
  isplitl [HO]; · iexact HO
  isplitl [HO0]; · iexact HO0
  iexact HO1

theorem e2_1 : Ring.sl 2 (255 / 16) = 1 := rfl
theorem e2_0 : Ring.sl 2 (255 / 16 + 1) = 0 := rfl
theorem e3_1 : Ring.sl 3 256 = 1 := rfl
theorem e3_2 : Ring.sl 3 257 = 2 := rfl
theorem e3_0 : Ring.sl 3 258 = 0 := rfl
theorem o2_1 : Ring.sl 2 255 = 1 := rfl
theorem o2_0 : Ring.sl 2 256 = 0 := rfl
theorem o256 : Ring.bk 256 255 = 255 := rfl

/-- What the loop leaves. -/
theorem leave (acc) :
    invAt c XA XB XO (Scf.trips k0_t1_loop.lb k0_t1_loop.ub k0_t1_loop.st) acc
    ⊢ iprop(⌜acc = car 256⌝ ∗ owesP (F := F) c
      ∗ (bigSep Finset.univ (homeA c XA) ∗ (cellA (F := F) c 0 ∗ ∃ f, slotA (F := F) c 0 f) ∗ (cellA (F := F) c 1 ∗ ∃ f, slotA (F := F) c 1 f))
      ∗ (bigSep Finset.univ (homeB c XB) ∗ (cellB (F := F) c 0 ∗ ∃ f, slotB (F := F) c 0 f) ∗ (cellB (F := F) c 1 ∗ ∃ f, slotB (F := F) c 1 f) ∗ (cellB (F := F) c 2 ∗ ∃ f, slotB (F := F) c 2 f))
      ∗ (bigSep (Ring.rangeSet 256 0 255) (doneO c XA XB XO) ∗ (cellO (F := F) c 0 ∗ ∃ f, slotO (F := F) c 0 f) ∗ (∃ g, flightO c XO 1 255 (outP c XA XB 255) g))) := by
  rw [show Scf.trips k0_t1_loop.lb k0_t1_loop.ub k0_t1_loop.st = 256 from trips_eq, invAt_eq]
  unfold holds leftAt rightAt resultAt
  rw [show bagL (flyA c XA) (heldA c XA) (fun i => cellA (F := F) c (Ring.sl 2 i)) (freeA (F := F) c) (homeA c XA) 256 = _ from
      left_next (flyA c XA) (heldA c XA) (fun i => cellA (F := F) c (Ring.sl 2 i)) (freeA (F := F) c) (homeA c XA) 255 (by decide),
    right_256, ← home_out (homeB c XB) (Ring.sl 16 255), result_end]
  unfold heldA freeA freeB flyO freeO
  rw [e2_1, e2_0, e3_1, e3_2, e3_0, o2_1, o2_0, o256]
  iintro ⟨%e, HW, ⟨HA, HcA, ⟨%f, HsA⟩, HfA⟩, ⟨HB, HB1, HB2, HB0⟩, ⟨HO, HOd, -, HO0⟩⟩
  isplitr; · ipureintro; exact e
  isplitl [HW]; · iexact HW
  isplitl [HA HcA HsA HfA]
  · isplitl [HA]; · iexact HA
    isplitl [HfA]; · iexact HfA
    isplitl [HcA]; · iexact HcA
    iexists _; iexact HsA
  isplitl [HB HB1 HB2 HB0]
  · isplitl [HB]; · iexact HB
    isplitl [HB0]; · iexact HB0
    isplitl [HB1]; · iexact HB1
    iexact HB2
  isplitl [HOd]; · iexact HOd
  isplitl [HO0]; · iexact HO0
  iexact HO

theorem done_last : doneO c XA XB XO 255 = homeO c 255 (landedO c XO 255 (outP c XA XB 255)) := rfl

set_option backward.proofsInPublic true in
theorem bodyRun (W) (Q : PUnit → sProp 𝕄) :
    iprop(PRE c XA XB XO W ∗ (POST c XA XB XO -∗ Q ⟨⟩))
      ⊢ wp frame (wpE (defs₀ (F := F)) 𝒱₀ (c : Thread nD τ) none) Set.univ (bodyG (F := F)) Q := by
  have c1 := cond1_true
  unfold PRE idle
  rw [home_out (homeA c XA) 0, apart (homeB c XB)]
  iintro ⟨⟨⟨HA0, HA⟩, ⟨HB0, HB1, HB⟩, HO, ⟨⟨Hca0, ⟨%fa, Hsa0⟩⟩, Ha1, ⟨Hcb0, ⟨%fb0, Hsb0⟩⟩, ⟨Hcb1, ⟨%fb1, Hsb1⟩⟩, Hb2, Ho0, Ho1⟩, HW⟩, Hk⟩
  sl_exec
  ihave Hinv := (enter c XA XB XO W fa fb0 fb1) $$ [HW Hca0 HA Ha1 Hcb0 Hcb1 HB Hb2 HO Ho0 Ho1]
  · isplitl [HW]; · iexact HW
    isplitl [Hca0 HA Ha1]
    · isplitl [Hca0]; · iexact Hca0
      isplitl [HA]; · iexact HA
      iexact Ha1
    isplitl [Hcb0 Hcb1 HB Hb2]
    · isplitl [Hcb0]; · iexact Hcb0
      isplitl [Hcb1]; · iexact Hcb1
      isplitl [HB]; · iexact HB
      iexact Hb2
    isplitl [HO]; · iexact HO
    isplitl [Ho0]; · iexact Ho0
    iexact Ho1
  sl_exec
  ihave Hl := (leave c XA XB XO _) $$ Hinv
  icases Hl with ⟨%e, ⟨%W', HW⟩, ⟨HA, HA0, HA1⟩, ⟨HB, HB0, HB1, HB2⟩, ⟨HOd, HO0, ⟨%g, HO⟩⟩⟩
  subst e
  have h5 := chk5_holds
  have h6 := chk6_holds
  dsimp only [car]
  sl_exec
  sl_step
  iapply Hk
  isplitl [HA]; · iexact HA
  isplitl [HB]; · iexact HB
  isplitl [HOd HO_dst]
  · rw [← result_all (doneO c XA XB XO), o256]
    isplitl [HO_dst]; · iexact HO_dst
    iexact HOd
  isplitl [HA0 HA1 HB0 HB1 HB2 HO0 HO HO_src]
  · isplitl [HA0]; · iexact HA0
    isplitl [HA1]; · iexact HA1
    isplitl [HB0]; · iexact HB0
    isplitl [HB1]; · iexact HB1
    isplitl [HB2]; · iexact HB2
    isplitl [HO0]; · iexact HO0
    isplitl [HO]; · iexact HO
    iexists _; iexact HO_src
  iexists _; iexact HW

end Cert.Kernel6Ideal.Up

end
-- ==== Proof.MlpUpLaunch.lean ====
/- The pipelined product's call, from the memory it is launched on to the memory it ends with: the two arguments
   unchanged, every block of the result the product of a block of rows and a block of columns, every semaphore back
   at zero. -/
module

public import proofs.«01_k».proof.Proof.MlpUpBody
public import proofs.«01_k».proof.Proof.Gen.Kernel6Ideal.Launch
public import proofs.«01_k».proof.Proof.Gen.Kernel6Ideal.Points

@[expose] public section

set_option maxRecDepth 16384
set_option maxHeartbeats 4000000

noncomputable section

namespace Cert.Kernel6Ideal.Up

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem ent_eq {P Q : sProp 𝕄} (e : P = Q) : P ⊢ Q := e ▸ .rfl

/-! ## The cells, and the parts' elements -/

abbrev osem : Fin 7 → SemLoc sig := fun
  | 0 => .dma (acs 0).sem | 1 => .dma (acs 1).sem
  | 2 => .dma (bcs 0).sem | 3 => .dma (bcs 1).sem | 4 => .dma (bcs 2).sem
  | 5 => .dma (ocs 0).sem | 6 => .dma (ocs 1).sem
theorem ownSemFacts : Pipeline.OwnSemFacts (cfg0.spec) osem := by decide

abbrev A16 (i : Fin 16) : Finset S16384x4096.Idx := (Rect.unit (s := S16384x4096) (aOff i) S1024x4096.size (aOff_inb i)).set
theorem ablk_set (i : Fin 16) : (ablk i).view.set = A16 i := View.set_slice_whole _ _
theorem mem_A16 (i : Fin 16) (y : S16384x4096.Idx) : y ∈ A16 i ↔ (y 0).val / 1024 = i.val := by
  rw [Rect.mem_set_unit]
  have hi := i.isLt
  have h0 : (y 0).val < 16384 := (y 0).isLt
  have h1 : (y 1).val < 4096 := (y 1).isLt
  constructor
  · intro H
    have a0 : 1024 * i.val ≤ (y 0).val ∧ (y 0).val < 1024 * i.val + 1024 := H 0
    have a1 : 0 ≤ (y 1).val ∧ (y 1).val < 0 + 4096 := H 1
    omega
  · intro H a; fin_cases a
    · show 1024 * i.val ≤ (y 0).val ∧ (y 0).val < 1024 * i.val + 1024; omega
    · show 0 ≤ (y 1).val ∧ (y 1).val < 0 + 4096; omega
theorem A16_disjoint : ∀ i i' : Fin 16, i ≠ i' → Disjoint (A16 i) (A16 i') := by
  intro i i' hne; rw [Finset.disjoint_left]; intro y hy hy'; rw [mem_A16] at hy hy'; exact hne (Fin.ext (hy.symm.trans hy'))
theorem A16_cover : (Finset.univ : Finset (Fin 16)).biUnion A16 = Finset.univ := by
  ext y; simp only [Finset.mem_biUnion, Finset.mem_univ, true_and, iff_true]
  exact ⟨⟨(y 0).val / 1024, by have h : (y 0).val < 16384 := (y 0).isLt; omega⟩, by rw [mem_A16]⟩

abbrev B16 (i : Fin 16) : Finset S4096x16384.Idx := (Rect.unit (s := S4096x16384) (bOff i) S4096x1024.size (bOff_inb i)).set
theorem bblk_set (i : Fin 16) : (bblk i).view.set = B16 i := View.set_slice_whole _ _
theorem mem_B16 (i : Fin 16) (y : S4096x16384.Idx) : y ∈ B16 i ↔ (y 1).val / 1024 = i.val := by
  rw [Rect.mem_set_unit]
  have hi := i.isLt
  have h0 : (y 0).val < 4096 := (y 0).isLt
  have h1 : (y 1).val < 16384 := (y 1).isLt
  constructor
  · intro H
    have a0 : 0 ≤ (y 0).val ∧ (y 0).val < 0 + 4096 := H 0
    have a1 : 1024 * i.val ≤ (y 1).val ∧ (y 1).val < 1024 * i.val + 1024 := H 1
    omega
  · intro H a; fin_cases a
    · show 0 ≤ (y 0).val ∧ (y 0).val < 0 + 4096; omega
    · show 1024 * i.val ≤ (y 1).val ∧ (y 1).val < 1024 * i.val + 1024; omega
theorem B16_disjoint : ∀ i i' : Fin 16, i ≠ i' → Disjoint (B16 i) (B16 i') := by
  intro i i' hne; rw [Finset.disjoint_left]; intro y hy hy'; rw [mem_B16] at hy hy'; exact hne (Fin.ext (hy.symm.trans hy'))
theorem B16_cover : (Finset.univ : Finset (Fin 16)).biUnion B16 = Finset.univ := by
  ext y; simp only [Finset.mem_biUnion, Finset.mem_univ, true_and, iff_true]
  exact ⟨⟨(y 1).val / 1024, by have h : (y 1).val < 16384 := (y 1).isLt; omega⟩, by rw [mem_B16]⟩

abbrev O256 (i : Fin 256) : Finset S16384x16384.Idx := (Rect.unit (s := S16384x16384) (oOff i) S1024x1024.size (oOff_inb i)).set
theorem oblk_set (i : Fin 256) : (oblk i).view.set = O256 i := View.set_slice_whole _ _
theorem mem_O256 (i : Fin 256) (y : S16384x16384.Idx) : y ∈ O256 i ↔ 16 * ((y 0).val / 1024) + (y 1).val / 1024 = i.val := by
  rw [Rect.mem_set_unit]
  have hi := i.isLt
  have h0 : (y 0).val < 16384 := (y 0).isLt
  have h1 : (y 1).val < 16384 := (y 1).isLt
  constructor
  · intro H
    have a0 : 1024 * (i.val / 16) ≤ (y 0).val ∧ (y 0).val < 1024 * (i.val / 16) + 1024 := H 0
    have a1 : 1024 * (i.val % 16) ≤ (y 1).val ∧ (y 1).val < 1024 * (i.val % 16) + 1024 := H 1
    omega
  · intro H a; fin_cases a
    · show 1024 * (i.val / 16) ≤ (y 0).val ∧ (y 0).val < 1024 * (i.val / 16) + 1024; omega
    · show 1024 * (i.val % 16) ≤ (y 1).val ∧ (y 1).val < 1024 * (i.val % 16) + 1024; omega
theorem O256_disjoint : ∀ i i' : Fin 256, i ≠ i' → Disjoint (O256 i) (O256 i') := by
  intro i i' hne; rw [Finset.disjoint_left]; intro y hy hy'; rw [mem_O256] at hy hy'; exact hne (Fin.ext (hy.symm.trans hy'))
theorem O256_cover : (Finset.univ : Finset (Fin 256)).biUnion O256 = Finset.univ := by
  ext y; simp only [Finset.mem_biUnion, Finset.mem_univ, true_and, iff_true]
  exact ⟨⟨16 * ((y 0).val / 1024) + (y 1).val / 1024, by have h : (y 0).val < 16384 := (y 0).isLt; have h1 : (y 1).val < 16384 := (y 1).isLt; omega⟩, by rw [mem_O256]⟩

abbrev SA (i : Fin 2) : Finset S2x1024x4096.Idx := (Rect.unit (s := S2x1024x4096) (slot2 i) S1x1024x4096.size (slotA_inb i)).set
theorem aslot_set (i : Fin 2) : (aslot i).view.set = SA i := (View.set_reshape _ _).trans (View.set_slice_whole _ _)
theorem mem_SA (i : Fin 2) (y : S2x1024x4096.Idx) : y ∈ SA i ↔ (y 0).val = i.val := by
  rw [Rect.mem_set_unit]
  have hi := i.isLt
  have h0 : (y 0).val < 2 := (y 0).isLt
  have h1 : (y 1).val < 1024 := (y 1).isLt
  have h2 : (y 2).val < 4096 := (y 2).isLt
  constructor
  · intro H
    have a0 : i.val ≤ (y 0).val ∧ (y 0).val < i.val + 1 := H 0
    have a1 : 0 ≤ (y 1).val ∧ (y 1).val < 0 + 1024 := H 1
    have a2 : 0 ≤ (y 2).val ∧ (y 2).val < 0 + 4096 := H 2
    omega
  · intro H a; fin_cases a
    · show i.val ≤ (y 0).val ∧ (y 0).val < i.val + 1; omega
    · show 0 ≤ (y 1).val ∧ (y 1).val < 0 + 1024; omega
    · show 0 ≤ (y 2).val ∧ (y 2).val < 0 + 4096; omega
theorem SA_disjoint : ∀ i i' : Fin 2, i ≠ i' → Disjoint (SA i) (SA i') := by
  intro i i' hne; rw [Finset.disjoint_left]; intro y hy hy'; rw [mem_SA] at hy hy'; exact hne (Fin.ext (hy.symm.trans hy'))
theorem SA_cover : (Finset.univ : Finset (Fin 2)).biUnion SA = Finset.univ := by
  ext y; simp only [Finset.mem_biUnion, Finset.mem_univ, true_and, iff_true]
  exact ⟨⟨(y 0).val, (y 0).isLt⟩, by rw [mem_SA]⟩

abbrev SB (i : Fin 3) : Finset S3x4096x1024.Idx := (Rect.unit (s := S3x4096x1024) (slot3 i) S1x4096x1024.size (slotB_inb i)).set
theorem bslot_set (i : Fin 3) : (bslot i).view.set = SB i := (View.set_reshape _ _).trans (View.set_slice_whole _ _)
theorem mem_SB (i : Fin 3) (y : S3x4096x1024.Idx) : y ∈ SB i ↔ (y 0).val = i.val := by
  rw [Rect.mem_set_unit]
  have hi := i.isLt
  have h0 : (y 0).val < 3 := (y 0).isLt
  have h1 : (y 1).val < 4096 := (y 1).isLt
  have h2 : (y 2).val < 1024 := (y 2).isLt
  constructor
  · intro H
    have a0 : i.val ≤ (y 0).val ∧ (y 0).val < i.val + 1 := H 0
    have a1 : 0 ≤ (y 1).val ∧ (y 1).val < 0 + 4096 := H 1
    have a2 : 0 ≤ (y 2).val ∧ (y 2).val < 0 + 1024 := H 2
    omega
  · intro H a; fin_cases a
    · show i.val ≤ (y 0).val ∧ (y 0).val < i.val + 1; omega
    · show 0 ≤ (y 1).val ∧ (y 1).val < 0 + 4096; omega
    · show 0 ≤ (y 2).val ∧ (y 2).val < 0 + 1024; omega
theorem SB_disjoint : ∀ i i' : Fin 3, i ≠ i' → Disjoint (SB i) (SB i') := by
  intro i i' hne; rw [Finset.disjoint_left]; intro y hy hy'; rw [mem_SB] at hy hy'; exact hne (Fin.ext (hy.symm.trans hy'))
theorem SB_cover : (Finset.univ : Finset (Fin 3)).biUnion SB = Finset.univ := by
  ext y; simp only [Finset.mem_biUnion, Finset.mem_univ, true_and, iff_true]
  exact ⟨⟨(y 0).val, (y 0).isLt⟩, by rw [mem_SB]⟩

abbrev SO (i : Fin 2) : Finset S2x1024x1024.Idx := (Rect.unit (s := S2x1024x1024) (slot2 i) S1x1024x1024.size (slotO_inb i)).set
theorem oslot_set (i : Fin 2) : (oslot i).view.set = SO i := (View.set_reshape _ _).trans (View.set_slice_whole _ _)
theorem mem_SO (i : Fin 2) (y : S2x1024x1024.Idx) : y ∈ SO i ↔ (y 0).val = i.val := by
  rw [Rect.mem_set_unit]
  have hi := i.isLt
  have h0 : (y 0).val < 2 := (y 0).isLt
  have h1 : (y 1).val < 1024 := (y 1).isLt
  have h2 : (y 2).val < 1024 := (y 2).isLt
  constructor
  · intro H
    have a0 : i.val ≤ (y 0).val ∧ (y 0).val < i.val + 1 := H 0
    have a1 : 0 ≤ (y 1).val ∧ (y 1).val < 0 + 1024 := H 1
    have a2 : 0 ≤ (y 2).val ∧ (y 2).val < 0 + 1024 := H 2
    omega
  · intro H a; fin_cases a
    · show i.val ≤ (y 0).val ∧ (y 0).val < i.val + 1; omega
    · show 0 ≤ (y 1).val ∧ (y 1).val < 0 + 1024; omega
    · show 0 ≤ (y 2).val ∧ (y 2).val < 0 + 1024; omega
theorem SO_disjoint : ∀ i i' : Fin 2, i ≠ i' → Disjoint (SO i) (SO i') := by
  intro i i' hne; rw [Finset.disjoint_left]; intro y hy hy'; rw [mem_SO] at hy hy'; exact hne (Fin.ext (hy.symm.trans hy'))
theorem SO_cover : (Finset.univ : Finset (Fin 2)).biUnion SO = Finset.univ := by
  ext y; simp only [Finset.mem_biUnion, Finset.mem_univ, true_and, iff_true]
  exact ⟨⟨(y 0).val, (y 0).isLt⟩, by rw [mem_SO]⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), (1 : Fin 7), (2 : Fin 7), (3 : Fin 7), (4 : Fin 7), (5 : Fin 7), (6 : Fin 7)] (by decide) (by decide) Φ
theorem bigSep_none (Φ : Fin cfg0.W → sProp 𝕄) : bigSep Finset.univ Φ = (BI.emp : sProp 𝕄) :=
  bigSep_univ_eq_bigSepL [] (by decide) (by decide) Φ

/-! ## The arrays and the buffers, whole and by parts -/

section Split
variable (c : Dev nD)

theorem a_eq (X : Buf (Elt F) (aM.view.loc (c : Thread nD τ))) :
    (((c : Thread nD τ).loc main_arg0) ↦{fullShare} X : sProp 𝕄) = bigSep Finset.univ (homeA c X) := by
  rw [Ring.pointsTo_blocks (ℓ := (c : Thread nD τ).loc main_arg0) A16 A16_disjoint A16_cover]
  exact bigSep_congr fun i _ => by rw [← ablk_set]; rfl

theorem b_eq (X : Buf (Elt F) (bM.view.loc (c : Thread nD τ))) :
    (((c : Thread nD τ).loc main_arg1) ↦{fullShare} X : sProp 𝕄) = bigSep Finset.univ (homeB c X) := by
  rw [Ring.pointsTo_blocks (ℓ := (c : Thread nD τ).loc main_arg1) B16 B16_disjoint B16_cover]
  exact bigSep_congr fun i _ => by rw [← bblk_set]; rfl

theorem o_eq (X : Buf (Elt F) (oM.view.loc (c : Thread nD τ))) :
    (((c : Thread nD τ).loc main_v0) ↦{fullShare} X : sProp 𝕄) = bigSep Finset.univ (todoO c X) := by
  rw [Ring.pointsTo_blocks (ℓ := (c : Thread nD τ).loc main_v0) O256 O256_disjoint O256_cover]
  exact bigSep_congr fun i _ => by rw [← oblk_set]; rfl
/-- The written blocks make the result whole, at contents that read block by block as written. -/
theorem o_join (XA : Buf (Elt F) (aM.view.loc (c : Thread nD τ))) (XB : Buf (Elt F) (bM.view.loc (c : Thread nD τ)))
    (XO : Buf (Elt F) (oM.view.loc (c : Thread nD τ))) :
    bigSep Finset.univ (doneO c XA XB XO)
      ⊢ (iprop(∃ g : Buf (Elt F) (oM.view.loc (c : Thread nD τ)), ⌜∀ p : Fin 256, (oblk p).view.read (Elt F) g = outP c XA XB p.val⌝ ∗ ((c : Thread nD τ).loc main_v0) ↦{fullShare} g) : sProp 𝕄) := by
  rw [show bigSep Finset.univ (doneO c XA XB XO)
      = bigSep Finset.univ (fun p => (((c : Thread nD τ).loc main_v0) ↦[O256 p]{fullShare} landedO c XO p (outP c XA XB p.val) : sProp 𝕄)) from
    bigSep_congr fun p _ => by rw [← oblk_set]; rfl]
  have J := pointsTo_biUnion_join (Ix := Unit) (Name := ℕ) (U := UU nD τ) (Lvl := ℕ) (q := fullShare) (ℓ := (c : Thread nD τ).loc main_v0) Finset.univ O256
    (fun p => landedO c XO p (outP c XA XB p.val)) XO (fun b _ b' _ h => O256_disjoint b b' h)
  rw [O256_cover] at J
  refine J.trans ?_
  iintro ⟨%g, %hg, H⟩
  iexists g
  isplitr
  · ipureintro
    intro p
    refine Eq.trans (funext fun y => ?_) (View.read_writes_whole (oblk p).view XO (outP c XA XB p.val))
    exact hg p (Finset.mem_univ _) ((oblk p).view.emb y) (by rw [← oblk_set]; exact Finset.mem_map_of_mem _ (Finset.mem_univ y))
  iexact H

theorem slotA_eq (s : Fin 2) (f) : slotA c s f = (((c : Thread nD τ).loc cc0_scoped0) ↦[SA s]{fullShare} f : sProp 𝕄) :=
  congrArg (fun S => (_ ↦[S]{fullShare} f : sProp 𝕄)) (aslot_set s)
theorem splitA :
    iprop(∃ f : Buf (Elt F) ((c : Thread nD τ).loc cc0_scoped0), ((c : Thread nD τ).loc cc0_scoped0) ↦{fullShare} f) ⊢ (iprop((∃ f, slotA (F := F) c 0 f) ∗ (∃ f, slotA (F := F) c 1 f)) : sProp 𝕄) := by
  iintro ⟨%f, H⟩
  ihave H2 := (ent_eq ((Ring.pointsTo_blocks (Ix := Unit) (Name := ℕ) (U := UU nD τ) (Lvl := ℕ) (q := fullShare) (ℓ := (c : Thread nD τ).loc cc0_scoped0) SA SA_disjoint SA_cover f).trans (bigSep_fin2 _))) $$ H
  icases H2 with ⟨H0, H1⟩
  isplitl [H0]
  · iexists f; iapply (ent_eq (slotA_eq c 0 f).symm); iexact H0
  · iexists f; iapply (ent_eq (slotA_eq c 1 f).symm); iexact H1
theorem joinA :
    iprop((∃ f, slotA (F := F) c 0 f) ∗ (∃ f, slotA (F := F) c 1 f)) ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) SA SA_disjoint SA_cover f0)
  irw [bigSep_fin2]
  isplitl [H0]
  · iexists f0; iapply (ent_eq (slotA_eq c 0 f0)); iexact H0
  · iexists f1; iapply (ent_eq (slotA_eq c 1 f1)); iexact H1

theorem slotB_eq (s : Fin 3) (f) : slotB c s f = (((c : Thread nD τ).loc cc0_scoped2) ↦[SB s]{fullShare} f : sProp 𝕄) :=
  congrArg (fun S => (_ ↦[S]{fullShare} f : sProp 𝕄)) (bslot_set s)
theorem splitB :
    iprop(∃ f : Buf (Elt F) ((c : Thread nD τ).loc cc0_scoped2), ((c : Thread nD τ).loc cc0_scoped2) ↦{fullShare} f) ⊢ (iprop((∃ f, slotB (F := F) c 0 f) ∗ (∃ f, slotB (F := F) c 1 f) ∗ (∃ f, slotB (F := F) c 2 f)) : sProp 𝕄) := by
  iintro ⟨%f, H⟩
  ihave H2 := (ent_eq ((Ring.pointsTo_blocks (Ix := Unit) (Name := ℕ) (U := UU nD τ) (Lvl := ℕ) (q := fullShare) (ℓ := (c : Thread nD τ).loc cc0_scoped2) SB SB_disjoint SB_cover f).trans (bigSep_fin3 _))) $$ H
  icases H2 with ⟨H0, H1, H2⟩
  isplitl [H0]
  · iexists f; iapply (ent_eq (slotB_eq c 0 f).symm); iexact H0
  isplitl [H1]
  · iexists f; iapply (ent_eq (slotB_eq c 1 f).symm); iexact H1
  · iexists f; iapply (ent_eq (slotB_eq c 2 f).symm); iexact H2
theorem joinB :
    iprop((∃ f, slotB (F := F) c 0 f) ∗ (∃ f, slotB (F := F) c 1 f) ∗ (∃ f, slotB (F := F) c 2 f)) ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped2) SB SB_disjoint SB_cover f0)
  irw [bigSep_fin3]
  isplitl [H0]
  · iexists f0; iapply (ent_eq (slotB_eq c 0 f0)); iexact H0
  isplitl [H1]
  · iexists f1; iapply (ent_eq (slotB_eq c 1 f1)); iexact H1
  · iexists f2; iapply (ent_eq (slotB_eq c 2 f2)); iexact H2

theorem slotO_eq (s : Fin 2) (f) : slotO c s f = (((c : Thread nD τ).loc cc0_scoped4) ↦[SO s]{fullShare} f : sProp 𝕄) :=
  congrArg (fun S => (_ ↦[S]{fullShare} f : sProp 𝕄)) (oslot_set s)
theorem splitO :
    iprop(∃ f : Buf (Elt F) ((c : Thread nD τ).loc cc0_scoped4), ((c : Thread nD τ).loc cc0_scoped4) ↦{fullShare} f) ⊢ (iprop((∃ f, slotO (F := F) c 0 f) ∗ (∃ f, slotO (F := F) c 1 f)) : sProp 𝕄) := by
  iintro ⟨%f, H⟩
  ihave H2 := (ent_eq ((Ring.pointsTo_blocks (Ix := Unit) (Name := ℕ) (U := UU nD τ) (Lvl := ℕ) (q := fullShare) (ℓ := (c : Thread nD τ).loc cc0_scoped4) SO SO_disjoint SO_cover f).trans (bigSep_fin2 _))) $$ H
  icases H2 with ⟨H0, H1⟩
  isplitl [H0]
  · iexists f; iapply (ent_eq (slotO_eq c 0 f).symm); iexact H0
  · iexists f; iapply (ent_eq (slotO_eq c 1 f).symm); iexact H1
theorem joinO :
    iprop((∃ f, slotO (F := F) c 0 f) ∗ (∃ f, slotO (F := F) c 1 f)) ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) SO SO_disjoint SO_cover f0)
  irw [bigSep_fin2]
  isplitl [H0]
  · iexists f0; iapply (ent_eq (slotO_eq c 0 f0)); iexact H0
  · iexists f1; iapply (ent_eq (slotO_eq c 1 f1)); iexact H1

theorem ownSems0_eq : (Pipeline.ownSems0 (Ix := Unit) (Name := ℕ) (U := UU nD τ) (Lvl := ℕ) (Val := Elt F) (τ := τ) osem c : sProp 𝕄)
    = iprop(cellA (F := F) c 0 ∗ cellA (F := F) c 1 ∗ cellB (F := F) c 0 ∗ cellB (F := F) c 1 ∗ cellB (F := F) c 2 ∗ cellO (F := F) c 0 ∗ cellO (F := F) c 1) := by
  unfold Pipeline.ownSems0; rw [bigSep_fin7]

/-- The buffers and the cells, free, are the idle parts. -/
theorem idle_in :
    iprop(Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) (cfg0.spec) c) ⊢ idle (F := F) c := by
  rw [ownSems0_eq, scopedRest0_eq]
  iintro ⟨⟨A0, A1, B0, B1, B2, O0, O1⟩, SA, SB, SO⟩
  ihave HA := (splitA c) $$ SA
  ihave HB := (splitB c) $$ SB
  ihave HO := (splitO c) $$ SO
  icases HA with ⟨HA0, HA1⟩
  icases HB with ⟨HB0, HB1, HB2⟩
  icases HO with ⟨HO0, HO1⟩
  isplitl [A0 HA0]; · isplitl [A0]; · iexact A0
                      iexact HA0
  isplitl [A1 HA1]; · isplitl [A1]; · iexact A1
                      iexact HA1
  isplitl [B0 HB0]; · isplitl [B0]; · iexact B0
                      iexact HB0
  isplitl [B1 HB1]; · isplitl [B1]; · iexact B1
                      iexact HB1
  isplitl [B2 HB2]; · isplitl [B2]; · iexact B2
                      iexact HB2
  isplitl [O0 HO0]; · isplitl [O0]; · iexact O0
                      iexact HO0
  isplitl [O1]; · iexact O1
  iexact HO1
theorem idle_out :
    idle (F := F) c ⊢ iprop(Pipeline.ownSems0 (Ix := Unit) (Name := ℕ) (U := UU nD τ) (Lvl := ℕ) (Val := Elt F) (τ := τ) osem c
      ∗ Pipeline.scopedRest (Ix := Unit) (Name := ℕ) (U := UU nD τ) (Lvl := ℕ) (Val := Elt F) (cfg0.spec) c) := by
  rw [ownSems0_eq, scopedRest0_eq]
  iintro ⟨⟨A0, HA0⟩, ⟨A1, HA1⟩, ⟨B0, HB0⟩, ⟨B1, HB1⟩, ⟨B2, HB2⟩, ⟨O0, HO0⟩, ⟨O1, HO1⟩⟩
  isplitl [A0 A1 B0 B1 B2 O0 O1]
  · isplitl [A0]; · iexact A0
    isplitl [A1]; · iexact A1
    isplitl [B0]; · iexact B0
    isplitl [B1]; · iexact B1
    isplitl [B2]; · iexact B2
    isplitl [O0]; · iexact O0
    iexact O1
  isplitl [HA0 HA1]
  · iapply (joinA c)
    isplitl [HA0]; · iexact HA0
    iexact HA1
  isplitl [HB0 HB1 HB2]
  · iapply (joinB c)
    isplitl [HB0]; · iexact HB0
    isplitl [HB1]; · iexact HB1
    iexact HB2
  iapply (joinO c)
  isplitl [HO0]; · iexact HO0
  iexact HO1

end Split

/-! ## The run -/

section Launch
variable (m : (ℓ : Loc nD τ sig) → Buf (Elt F) ℓ) (ρ : Dev nD → PrngReg)

abbrev XA (c : Dev nD) : Buf (Elt F) (aM.view.loc (c : Thread nD τ)) := m ((c : Thread nD τ).loc main_arg0)
abbrev XB (c : Dev nD) : Buf (Elt F) (bM.view.loc (c : Thread nD τ)) := m ((c : Thread nD τ).loc main_arg1)
abbrev XO (c : Dev nD) : Buf (Elt F) (oM.view.loc (c : Thread nD τ)) := m ((c : Thread nD τ).loc main_v0)

/-- Before the kernel and after it. -/
def todo (c : Dev nD) : sProp 𝕄 :=
  iprop(bigSep Finset.univ (homeA c (XA m c)) ∗ bigSep Finset.univ (homeB c (XB m c)) ∗ bigSep Finset.univ (todoO c (XO m c)) ∗ idle (F := F) c)
def done (c : Dev nD) : sProp 𝕄 :=
  iprop(bigSep Finset.univ (homeA c (XA m c)) ∗ bigSep Finset.univ (homeB c (XB m c)) ∗ bigSep Finset.univ (doneO c (XA m c) (XB m c) (XO m c)) ∗ idle (F := F) c)

def inv (c : Dev nD) (n : ℕ) : sProp 𝕄 := if n = 0 then todo m c else done m c
theorem inv_zero (c : Dev nD) : inv m c 0 = todo m c := if_pos rfl
theorem inv_succ (c : Dev nD) (n : ℕ) : inv m c (n + 1) = done m c := if_neg (Nat.succ_ne_zero _)

def dats (_ : Fin 1) (c : Dev nD) : Dat τ (Elt F) Unit ℕ (UU nD τ) ℕ cfg0 c where
  A w := m ((c : Thread nD τ).loc (Pipeline.arrRef (cfg0.spec) w))
  after w t := w.elim0
  Φ t := inv m c t.val
  q _ := fullShare
  owed _ := 0

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl
theorem t_zero (t : Fin cfg0.N) : t.val = 0 := congrArg Fin.val (fin_N0 t)

set_option backward.isDefEq.respectTransparency.types false in
theorem body_obligation (c : Dev nD) : BodyObligation (dats (F := F) m 0 c) (defs₀ (F := F)) 𝒱₀ () Set.univ := fun t => by
  rw [bigSep_none, bigSep_none]
  dsimp only
  rw [show (dats m 0 c).Φ t.castSucc = inv m c t.val from rfl, show (dats m 0 c).Φ t.succ = inv m c (t.val + 1) from rfl, inv_succ, t_zero t, inv_zero]
  unfold Dat.owesAt Pipeline.owesWithin
  rw [show (dats m 0 c).owed t.castSucc = 0 from rfl, show (dats m 0 c).owed t.succ = 0 from rfl]
  unfold todo done
  iintro ⟨⟨HA, HB, HO, HI⟩, ⟨%W, -, HW⟩, -⟩
  sl_rw [prog_eq t]
  iapply (bodyRun c (XA m c) (XB m c) (XO m c) W)
  isplitl [HA HB HO HI HW]
  · isplitl [HA]; · iexact HA
    isplitl [HB]; · iexact HB
    isplitl [HO]; · iexact HO
    isplitl [HI]; · iexact HI
    iexact HW
  · iintro ⟨HA, HB, HO, HI, ⟨%W', HW⟩⟩
    isplitl [HA HB HO HI]
    · isplitl [HA]; · iexact HA
      isplitl [HB]; · iexact HB
      isplitl [HO]; · iexact HO
      iexact HI
    isplitl [HW]
    · iexists W'; isplitr; · ipureintro; exact fun _ _ => Or.inl trivial
      iexact HW
    iempintro

def intoΦ (c : Dev nD) : sProp 𝕄 :=
  iprop((bigSep Finset.univ (homeA c (XA m c)) ∗ bigSep Finset.univ (homeB c (XB m c)) ∗ bigSep Finset.univ (todoO c (XO m c)))
    ∗ Pipeline.ownSems0 (Ix := Unit) (Name := ℕ) (U := UU nD τ) (Lvl := ℕ) (Val := Elt F) (τ := τ) osem c)
def outOfΦ (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ ∃ g : Buf (Elt F) (oM.view.loc (c : Thread nD τ)), ⌜∀ p : Fin 256, (oblk p).view.read (Elt F) g = outP c (XA m c) (XB m c) p.val⌝ ∗ ((c : Thread nD τ).loc main_v0) ↦{fullShare} g)
def u₀ : UU nD τ := (initOf (Pipeline.cells cfgs cellOf_inj) (Pipeline.launchToks cfgs cellOf_inj), 1)
/-- What the memory ends with on core `c`. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ ∀ p : Fin 256, (oblk p).view.read (Elt F) (s.mem ((c : Thread nD τ).loc main_v0)) = outP c (XA m c) (XB m c) p.val

set_option backward.isDefEq.respectTransparency.types false in
/-- Every execution terminates, with the arguments unchanged, the result's blocks as computed and every counter at zero. -/
theorem run_main : θ_run defs (onTc (τ := τ) (main (F := F))) ⟨m, fun _ => 0, ρ⟩ (fun r => (∀ c, Ends m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq, a_eq c (XA m c), b_eq c (XB m c), o_eq c (XO m c)]
      unfold intoΦ
      iintro ⟨⟨HA, HB, HO⟩, HS, -, -, -⟩; imodintro
      isplitl [HA HB HO HS]
      · isplitl [HA HB HO]
        · isplitl [HA]; · iexact HA
          isplitl [HB]; · iexact HB
          iexact HO
        iexact HS
      iempintro)
    (hin := fun c => by
      rw [show (dats m 0 c).Φ 0 = inv m c 0 from rfl, inv_zero]
      unfold intoΦ todo
      iintro ⟨⟨⟨HA, HB, HO⟩, HS⟩, HR⟩
      isplitl [HA]; · iexact HA
      isplitl [HB]; · iexact HB
      isplitl [HO]; · iexact HO
      iapply (idle_in (F := F) c)
      isplitl [HS]; · iexact HS
      iexact HR)
    (hout := fun c => by
      rw [show (dats m 0 c).Φ (Fin.last (cfgs 0).N) = inv m c (0 + 1) from congrArg (inv m c) N_0, inv_succ]
      unfold done outOfΦ
      rw [a_eq c (XA m c), b_eq c (XB m c)]
      iintro ⟨HA, HB, HO, HI⟩
      ihave HO' := (o_join c (XA m c) (XB m c) (XO m c)) $$ HO
      ihave HI' := (idle_out (F := F) c) $$ HI
      isplitl [HA HB HO']
      · isplitl [HA]; · iexact HA
        isplitl [HB]; · iexact HB
        iexact HO'
      iexact HI')
    (QY := Ends m)
    (hY := fun c s' => by
      unfold outOfΦ
      iintro ⟨⟨HA, HB, ⟨%g, %hg, HO⟩⟩, -, HSI⟩
      icombine HSI HA gives %hA
      icombine HSI HB gives %hB
      icombine HSI HO gives %hO
      imodintro
      isplitr
      · ipureintro
        refine ⟨Buf.eq_of_forall_mem_univ hA, Buf.eq_of_forall_mem_univ hB, ?_⟩
        rw [Buf.eq_of_forall_mem_univ hO]; exact hg
      iexact HSI)
    (hQ := fun _ hh hz => ⟨fun c => (hh c).2, hz⟩)

end Launch

end Cert.Kernel6Ideal.Up

end
-- ==== Proof.MlpUpValue.lean ====
/- The pipelined product's result at the ideal instance: its blocks are the blocks of one array, the square of the positive
   part of the product of the two arguments, and that array is the reference's. -/
module

public import proofs.«01_k».proof.Proof.MlpUpTrip
public import proofs.«01_k».proof.Proof.Gen.Reference6Ideal.Read
public import Idealize.ShloMosaic.Lib.Pointwise
public import Idealize.ShloMosaic.Lib.ValueIdxCore
public import Idealize.ShloMosaic.Init

@[expose] public section

set_option maxRecDepth 16384

noncomputable section

namespace Cert.Kernel6Ideal.Up

open Cert.Kernel6Ideal Cert.Kernel6Ideal.Gen
open Idealize.ShloMosaic Idealize.ShloMosaic.TcCoe Idealize.ShloMosaic.Tactic
open Idealize.SL.Sem

/-- The square of the positive part. -/
def relu2 (x : EReal) : EReal := max x (Ideal.ofBits .f32 0x00000000#32) * max x (Ideal.ofBits .f32 0x00000000#32)

/-- The result's array, of the activations `a` and the weight `b`. -/
def G (a : FVec Ideal S16384x4096 .bf16) (b : FVec Ideal S4096x16384 .bf16) : FVec Ideal S16384x16384 .bf16 := fun i =>
  relu2 (∑ k : Fin 4096, a (ix2 (i 0 : Fin 16384) k) * b (ix2 k (i 1 : Fin 16384)))

theorem tile_apply (x0 : FVec Ideal S1024x4096 .bf16) (x1 : FVec Ideal S4096x1024 .bf16) (r q : Fin 1024) :
    truncf (F := Ideal) .bf16 (mulf (maximumf (matmul dot_S1024x4096_S4096x1024_S1024x1024_1_0_0_1_n_n none x0 x1 (constant S1024x1024 .f32 0x00000000#32)) k0_pay2)
        (maximumf (matmul dot_S1024x4096_S4096x1024_S1024x1024_1_0_0_1_n_n none x0 x1 (constant S1024x1024 .f32 0x00000000#32)) k0_pay2)) bitsLt_bf16_f32 (ix2 r q)
      = relu2 (∑ k : Fin 4096, x0 (ix2 r k) * x1 (ix2 k q)) := by
  unfold relu2
  pointwise [k0_pay2]

theorem idx_eta (x : S1024x1024.Idx) : x = ix2 (x 0 : Fin 1024) (x 1 : Fin 1024) := funext fun a => match a with
  | ⟨0, _⟩ => rfl
  | ⟨1, _⟩ => rfl

variable (c : Dev nD)
variable (XA : Buf (Elt Ideal) (aM.view.loc (c : Thread nD τ))) (XB : Buf (Elt Ideal) (bM.view.loc (c : Thread nD τ)))

theorem embA (i : Fin 16) (r : Fin 1024) (k : Fin 4096) :
    (ablk i).view.emb (ix2 r k : S1024x4096.Idx) = (ix2 (⟨1024 * i.val + r.val, by omega⟩ : Fin 16384) k : S16384x4096.Idx) :=
  funext fun a => Fin.ext (match a with
    | ⟨0, _⟩ => (by show 1024 * i.val + 1 * r.val = 1024 * i.val + r.val; omega)
    | ⟨1, _⟩ => (by show 0 + 1 * k.val = k.val; omega))
theorem embB (j : Fin 16) (k : Fin 4096) (q : Fin 1024) :
    (bblk j).view.emb (ix2 k q : S4096x1024.Idx) = (ix2 k (⟨1024 * j.val + q.val, by omega⟩ : Fin 16384) : S4096x16384.Idx) :=
  funext fun a => Fin.ext (match a with
    | ⟨0, _⟩ => (by show 0 + 1 * k.val = k.val; omega)
    | ⟨1, _⟩ => (by show 1024 * j.val + 1 * q.val = 1024 * j.val + q.val; omega))
theorem embO (p : Fin 256) (r q : Fin 1024) :
    (oblk p).view.emb (ix2 r q : S1024x1024.Idx) = (ix2 (⟨1024 * (p.val / 16) + r.val, by omega⟩ : Fin 16384) (⟨1024 * (p.val % 16) + q.val, by omega⟩ : Fin 16384) : S16384x16384.Idx) :=
  funext fun a => Fin.ext (match a with
    | ⟨0, _⟩ => (by show 1024 * (p.val / 16) + 1 * r.val = 1024 * (p.val / 16) + r.val; omega)
    | ⟨1, _⟩ => (by show 1024 * (p.val % 16) + 1 * q.val = 1024 * (p.val % 16) + q.val; omega))

theorem bk_val (p : Fin 256) : (Ring.bk 16 (p.val / 16)).val = p.val / 16 := by revert p; decide +kernel
theorem sl_val (p : Fin 256) : (Ring.sl 16 p.val).val = p.val % 16 := by revert p; decide +kernel

/-- What trip `p` computes is the array's block. -/
theorem outP_apply (p : Fin 256) (r q : Fin 1024) :
    (outP (F := Ideal) c XA XB p.val (ix2 r q) : EReal) = G XA XB ((oblk p).view.emb (ix2 r q : S1024x1024.Idx)) := by
  refine (tile_apply (wordsA c XA (Ring.bk 16 (p.val / 16))) (wordsB c XB (Ring.sl 16 p.val)) r q).trans ?_
  rw [embO]
  refine congrArg relu2 (Finset.sum_congr rfl fun k _ => ?_)
  refine congrArg₂ (fun x y : EReal => x * y) (congrArg XA ((embA _ r k).trans ?_)) (congrArg XB ((embB _ k q).trans ?_))
  · exact congrArg (fun n : Fin 16384 => (ix2 n k : S16384x4096.Idx)) (Fin.ext (by show 1024 * (Ring.bk 16 (p.val / 16)).val + r.val = 1024 * (p.val / 16) + r.val; rw [bk_val]))
  · exact congrArg (fun n : Fin 16384 => (ix2 k n : S4096x16384.Idx)) (Fin.ext (by show 1024 * (Ring.sl 16 p.val).val + q.val = 1024 * (p.val % 16) + q.val; rw [sl_val]))

/-- An array that reads block by block as computed is that array. -/
theorem whole_eq (g : Buf (Elt Ideal) (oM.view.loc (c : Thread nD τ)))
    (h : ∀ p : Fin 256, (oblk p).view.read (Elt Ideal) g = outP c XA XB p.val) : g = G XA XB := by
  funext i
  have h0 : (i 0).val < 16384 := (i 0).isLt
  have h1 : (i 1).val < 16384 := (i 1).isLt
  let p : Fin 256 := ⟨16 * ((i 0).val / 1024) + (i 1).val / 1024, by omega⟩
  let r : Fin 1024 := ⟨(i 0).val % 1024, by omega⟩
  let q : Fin 1024 := ⟨(i 1).val % 1024, by omega⟩
  have e : (oblk p).view.emb (ix2 r q : S1024x1024.Idx) = i := (embO p r q).trans (funext fun a => Fin.ext (match a with
    | ⟨0, _⟩ => (by show 1024 * ((16 * ((i 0).val / 1024) + (i 1).val / 1024) / 16) + (i 0).val % 1024 = (i 0).val; omega)
    | ⟨1, _⟩ => (by show 1024 * ((16 * ((i 0).val / 1024) + (i 1).val / 1024) % 16) + (i 1).val % 1024 = (i 1).val; omega)))
  have hp : g ((oblk p).view.emb (ix2 r q : S1024x1024.Idx)) = G XA XB ((oblk p).view.emb (ix2 r q : S1024x1024.Idx)) :=
    (congrFun (h p) (ix2 r q)).trans (outP_apply c XA XB p r q)
  exact (congrArg g e.symm).trans (hp.trans (congrArg (G XA XB) e))

/-- It is the reference's result. -/
theorem meet (a : FVec Ideal S16384x4096 .bf16) (b : FVec Ideal S4096x16384 .bf16) :
    G a b = Cert.Reference6Ideal.Read.val_main_v5 (F := Ideal) a b := by
  funext i
  rw [Cert.Reference6Ideal.Read.val_main_v5_apply, Cert.Reference6Ideal.Read.val_main_v4_apply, Cert.Reference6Ideal.Read.val_main_v3_apply,
    Cert.Reference6Ideal.Read.val_main_v2_apply, Cert.Reference6Ideal.Read.val_main_call0_v0_apply, Cert.Reference6Ideal.Read.val_main_call0_cst_apply]
  refine congrArg relu2 (Finset.sum_congr rfl fun k _ => ?_)
  rw [Cert.Reference6Ideal.Read.val_main_v0_apply, Cert.Reference6Ideal.Read.val_main_v1_apply]
  refine congrArg₂ (fun p q : EReal => p * q) (congrArg a (funext fun x => ?_)) (congrArg b (funext fun x => ?_))
  · match x with
    | ⟨0, _⟩ => rfl
    | ⟨1, _⟩ => rfl
  · match x with
    | ⟨0, _⟩ => rfl
    | ⟨1, _⟩ => rfl

end Cert.Kernel6Ideal.Up

end
-- ==== Proof.MlpUpClaim.lean ====
/- The claims of the mlp_up call: both frames (the program as printed has the text of the program the ideal pass left, so
   that one run serves for both), the reference's, and its result met with the reference's. -/
module

public import proofs.«01_k».proof.Defs
public import proofs.«01_k».proof.Proof.MlpUpLaunch
public import proofs.«01_k».proof.Proof.MlpUpValue
public import proofs.«01_k».proof.Proof.Gen.Kernel6
public import proofs.«01_k».proof.Proof.Gen.Reference6Ideal
public import proofs.«01_k».proof.Proof.Gen.Reference6Ideal.Run
public import Idealize.ShloMosaic.Lib.Claim
public import Idealize.ShloMosaic.Lib.Quiescent

@[expose] public section

set_option maxRecDepth 16384
set_option maxHeartbeats 2000000

noncomputable section

namespace Cert.MlpUpClaim

open Idealize.ShloMosaic Idealize.ShloMosaic.TcCoe Idealize.ShloMosaic.Tactic
open Idealize.SL Idealize.SL.Sem
open Cert.Kernel6Ideal.Up

/-- At every instance the run ends with the arguments as launched and every counter at zero. -/
theorem frame_any {F : FTy → Type} [FloatOps F] (m : (ℓ : Loc Cert.Kernel6Ideal.nD Cert.Kernel6Ideal.τ Cert.Kernel6Ideal.sig) → Buf (Elt F) ℓ)
    (ρ : Dev Cert.Kernel6Ideal.nD → PrngReg) :
    θ_run (Cert.Kernel6Ideal.defs (F := F)) (onTc (τ := Cert.Kernel6Ideal.τ) (Cert.Kernel6Ideal.main (F := F))) ⟨m, fun _ => 0, ρ⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0) :=
  (θ_run Cert.Kernel6Ideal.defs _ _).mono (fun _ h => ⟨fun c => ⟨(h.1 c).1, (h.1 c).2.1⟩, h.2⟩) (run_main (F := F) m ρ)

theorem frame_kernelIdeal : Cert.quiescent_Kernel6Ideal := fun m ρ _ => frame_any (F := Ideal) m ρ

theorem bodies_eq : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) => rfl

theorem defs_eq : Cert.Kernel6.defs (F := Bits) = Cert.Kernel6Ideal.defs (F := Bits) := by
  unfold Cert.Kernel6.defs Cert.Kernel6Ideal.defs
  exact congrArg (Pipeline.defs (Cert.Kernel6Ideal.pcfgs (F := Bits))) bodies_eq

theorem main_eq : Cert.Kernel6.main (F := Bits) = Cert.Kernel6Ideal.main (F := Bits) := rfl

/-- The kernel as printed ends, at the bit-exact instance, with its arguments as launched and every counter at zero. -/
theorem frame_kernel : Cert.quiescent_Kernel6 := fun m ρ _ => by
  rw [defs_eq, main_eq]
  exact frame_any (F := Bits) m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem results : Cert.algebraic_Kernel6Ideal_Reference6Ideal := by
  intro m ρ m' ρ' _ hagree
  refine ⟨fun c => Cert.Reference6Ideal.Read.val_main_v5 (F := Ideal) (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run Cert.Kernel6Ideal.defs _ _).mono (fun r h c => ?_) (run_main (F := Ideal) m ρ),
    (θ_run Cert.Reference6Ideal.defs _ _).mono (fun r h c => ?_) (Cert.Reference6Ideal.Value.run (F := Ideal) m' ρ')⟩
  · obtain ⟨h0, h1, h2⟩ := h.1 c
    exact ⟨(whole_eq c _ _ _ h2).trans (meet _ _), h0, h1⟩
  · obtain ⟨a0, a1⟩ := hagree c
    refine ⟨?_, (h c).2⟩
    rw [(h c).1]
    refine (Cert.Reference6Ideal.Read.val_main_v5_eq _ _).trans ?_
    rw [a0, a1]

end Cert.MlpUpClaim

end
-- ==== Proof.lean ====
/- It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame`, `conforms` or `preserves` claim has no disproof.
   idealize/tests/proofs/README.md, "A value claim that is FALSE", says how; 02_vector_ops
   `Proof/Disproof.lean` and 10_ideal_fields `Proof/Widths.lean` are worked examples. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.InProjFrameBits
public import proofs.«01_k».proof.Proof.MlpDownClaim
public import proofs.«01_k».proof.Proof.LnOutAClaim
public import proofs.«01_k».proof.Proof.LnOutBClaim
public import proofs.«01_k».proof.Proof.MatmulLnClaim
public import proofs.«01_k».proof.Proof.MlpUpClaim
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.InProjClaim.frame_kernel, Cert.InProjClaim.frame_kernelIdeal, Cert.InProjClaim.frame_reference,
    Cert.MlpDownClaim.frame_kernel, Cert.MlpDownClaim.frame_kernelIdeal, Cert.MlpDownClaim.frame_reference,
    Cert.LnOutAClaim.frame_kernel, Cert.LnOutAClaim.frame_kernelIdeal, Cert.LnOutAClaim.frame_reference,
    Cert.LnOutBClaim.frame_kernel, Cert.LnOutBClaim.frame_kernelIdeal, Cert.LnOutBClaim.frame_reference,
    Cert.MatmulLnClaim.frame_kernel, Cert.MatmulLnClaim.frame_kernelIdeal, Cert.MatmulLnClaim.frame_reference,
    Cert.MlpUpClaim.frame_kernel, Cert.MlpUpClaim.frame_kernelIdeal, Cert.MlpUpClaim.frame_reference,
    trivial, Cert.InProjClaim.results,
    trivial, Cert.MlpDownClaim.results,
    trivial, Cert.LnOutAClaim.results,
    trivial, Cert.LnOutBClaim.results,
    trivial, Cert.MatmulLnClaim.results,
    trivial, Cert.MlpUpClaim.results⟩

end Cert.Proof

end
